-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Half (m : (ℓ : Loc Cert.Half.nD Cert.Half.τ Cert.Half.sig) → Buf (Elt Bits) ℓ) : Prop :=
  True

def Pre_HalfIdeal (m : (ℓ : Loc Cert.HalfIdeal.nD Cert.HalfIdeal.τ Cert.HalfIdeal.sig) → Buf (Elt Ideal) ℓ) : Prop :=
  True

def Pre_HalfReferenceIdeal (m : (ℓ : Loc Cert.HalfReferenceIdeal.nD Cert.HalfReferenceIdeal.τ Cert.HalfReferenceIdeal.sig) → Buf (Elt Ideal) ℓ) : Prop :=
  True

def Pre_Full (m : (ℓ : Loc Cert.Full.nD Cert.Full.τ Cert.Full.sig) → Buf (Elt Bits) ℓ) : Prop :=
  True

def Pre_FullIdeal (m : (ℓ : Loc Cert.FullIdeal.nD Cert.FullIdeal.τ Cert.FullIdeal.sig) → Buf (Elt Ideal) ℓ) : Prop :=
  True

def Pre_FullReferenceIdeal (m : (ℓ : Loc Cert.FullReferenceIdeal.nD Cert.FullReferenceIdeal.τ Cert.FullReferenceIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_finite [hPre_finite : Cert.Pre_finite.Facts] (m : (ℓ : Loc Cert.PostIdeal.nD Cert.PostIdeal.τ Cert.PostIdeal.sig) → Buf (Elt Ideal) ℓ) : Prop :=
  ∀ c : Dev Cert.PostIdeal.nD,
    (Cert.Pre_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5))) = (fun _ => 1#1)

def Pre_PostReferenceIdeal (m : (ℓ : Loc Cert.PostReferenceIdeal.nD Cert.PostReferenceIdeal.τ Cert.PostReferenceIdeal.sig) → Buf (Elt Ideal) ℓ) : Prop :=
  True

def Pre_PostReferenceIdeal_finite [hPre_finite : Cert.Pre_finite.Facts] (m : (ℓ : Loc Cert.PostReferenceIdeal.nD Cert.PostReferenceIdeal.τ Cert.PostReferenceIdeal.sig) → Buf (Elt Ideal) ℓ) : Prop :=
  ∀ c : Dev Cert.PostReferenceIdeal.nD,
    (Cert.Pre_finite.fn (F := Ideal) (m ((c.tc : Thread Cert.PostReferenceIdeal.nD Cert.PostReferenceIdeal.τ).loc Cert.PostReferenceIdeal.main_arg0)) (m ((c.tc : Thread Cert.PostReferenceIdeal.nD Cert.PostReferenceIdeal.τ).loc Cert.PostReferenceIdeal.main_arg1)) (m ((c.tc : Thread Cert.PostReferenceIdeal.nD Cert.PostReferenceIdeal.τ).loc Cert.PostReferenceIdeal.main_arg2)) (m ((c.tc : Thread Cert.PostReferenceIdeal.nD Cert.PostReferenceIdeal.τ).loc Cert.PostReferenceIdeal.main_arg3)) (m ((c.tc : Thread Cert.PostReferenceIdeal.nD Cert.PostReferenceIdeal.τ).loc Cert.PostReferenceIdeal.main_arg4)) (m ((c.tc : Thread Cert.PostReferenceIdeal.nD Cert.PostReferenceIdeal.τ).loc Cert.PostReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_Half [hHalf : Cert.Half.Facts] : Prop :=
  ∀ (m : (ℓ : Loc Cert.Half.nD Cert.Half.τ Cert.Half.sig) → Buf (Elt Bits) ℓ) (g : Dev Cert.Half.nD → PrngReg), Pre_Half m →
    θ_run (Cert.Half.defs (F := Bits)) (onTc (τ := Cert.Half.τ) (Cert.Half.main (F := Bits))) ⟨m, fun _ => 0, g⟩ (fun r => (∀ c : Dev Cert.Half.nD,
      r.2.mem ((c.tc : Thread Cert.Half.nD Cert.Half.τ).loc Cert.Half.main_arg0) = m ((c.tc : Thread Cert.Half.nD Cert.Half.τ).loc Cert.Half.main_arg0)
      ∧ r.2.mem ((c.tc : Thread Cert.Half.nD Cert.Half.τ).loc Cert.Half.main_arg1) = m ((c.tc : Thread Cert.Half.nD Cert.Half.τ).loc Cert.Half.main_arg1)
      ∧ r.2.mem ((c.tc : Thread Cert.Half.nD Cert.Half.τ).loc Cert.Half.main_arg2) = m ((c.tc : Thread Cert.Half.nD Cert.Half.τ).loc Cert.Half.main_arg2)
      ∧ r.2.mem ((c.tc : Thread Cert.Half.nD Cert.Half.τ).loc Cert.Half.main_arg3) = m ((c.tc : Thread Cert.Half.nD Cert.Half.τ).loc Cert.Half.main_arg3))
      ∧ r.2.sem = fun _ => 0)

def quiescent_HalfIdeal [hHalfIdeal : Cert.HalfIdeal.Facts] : Prop :=
  ∀ (m : (ℓ : Loc Cert.HalfIdeal.nD Cert.HalfIdeal.τ Cert.HalfIdeal.sig) → Buf (Elt Ideal) ℓ) (g : Dev Cert.HalfIdeal.nD → PrngReg), Pre_HalfIdeal m →
    θ_run (Cert.HalfIdeal.defs (F := Ideal)) (onTc (τ := Cert.HalfIdeal.τ) (Cert.HalfIdeal.main (F := Ideal))) ⟨m, fun _ => 0, g⟩ (fun r => (∀ c : Dev Cert.HalfIdeal.nD,
      r.2.mem ((c.tc : Thread Cert.HalfIdeal.nD Cert.HalfIdeal.τ).loc Cert.HalfIdeal.main_arg0) = m ((c.tc : Thread Cert.HalfIdeal.nD Cert.HalfIdeal.τ).loc Cert.HalfIdeal.main_arg0)
      ∧ r.2.mem ((c.tc : Thread Cert.HalfIdeal.nD Cert.HalfIdeal.τ).loc Cert.HalfIdeal.main_arg1) = m ((c.tc : Thread Cert.HalfIdeal.nD Cert.HalfIdeal.τ).loc Cert.HalfIdeal.main_arg1)
      ∧ r.2.mem ((c.tc : Thread Cert.HalfIdeal.nD Cert.HalfIdeal.τ).loc Cert.HalfIdeal.main_arg2) = m ((c.tc : Thread Cert.HalfIdeal.nD Cert.HalfIdeal.τ).loc Cert.HalfIdeal.main_arg2)
      ∧ r.2.mem ((c.tc : Thread Cert.HalfIdeal.nD Cert.HalfIdeal.τ).loc Cert.HalfIdeal.main_arg3) = m ((c.tc : Thread Cert.HalfIdeal.nD Cert.HalfIdeal.τ).loc Cert.HalfIdeal.main_arg3))
      ∧ r.2.sem = fun _ => 0)

def quiescent_HalfReferenceIdeal [hHalfReferenceIdeal : Cert.HalfReferenceIdeal.Facts] : Prop :=
  ∀ (m : (ℓ : Loc Cert.HalfReferenceIdeal.nD Cert.HalfReferenceIdeal.τ Cert.HalfReferenceIdeal.sig) → Buf (Elt Ideal) ℓ) (g : Dev Cert.HalfReferenceIdeal.nD → PrngReg), Pre_HalfReferenceIdeal m →
    θ_run (Cert.HalfReferenceIdeal.defs (F := Ideal)) (onTc (τ := Cert.HalfReferenceIdeal.τ) (Cert.HalfReferenceIdeal.main (F := Ideal))) ⟨m, fun _ => 0, g⟩ (fun r => (∀ c : Dev Cert.HalfReferenceIdeal.nD,
      r.2.mem ((c.tc : Thread Cert.HalfReferenceIdeal.nD Cert.HalfReferenceIdeal.τ).loc Cert.HalfReferenceIdeal.main_arg0) = m ((c.tc : Thread Cert.HalfReferenceIdeal.nD Cert.HalfReferenceIdeal.τ).loc Cert.HalfReferenceIdeal.main_arg0)
      ∧ r.2.mem ((c.tc : Thread Cert.HalfReferenceIdeal.nD Cert.HalfReferenceIdeal.τ).loc Cert.HalfReferenceIdeal.main_arg1) = m ((c.tc : Thread Cert.HalfReferenceIdeal.nD Cert.HalfReferenceIdeal.τ).loc Cert.HalfReferenceIdeal.main_arg1)
      ∧ r.2.mem ((c.tc : Thread Cert.HalfReferenceIdeal.nD Cert.HalfReferenceIdeal.τ).loc Cert.HalfReferenceIdeal.main_arg2) = m ((c.tc : Thread Cert.HalfReferenceIdeal.nD Cert.HalfReferenceIdeal.τ).loc Cert.HalfReferenceIdeal.main_arg2)
      ∧ r.2.mem ((c.tc : Thread Cert.HalfReferenceIdeal.nD Cert.HalfReferenceIdeal.τ).loc Cert.HalfReferenceIdeal.main_arg3) = m ((c.tc : Thread Cert.HalfReferenceIdeal.nD Cert.HalfReferenceIdeal.τ).loc Cert.HalfReferenceIdeal.main_arg3))
      ∧ r.2.sem = fun _ => 0)

def quiescent_Full [hFull : Cert.Full.Facts] : Prop :=
  ∀ (m : (ℓ : Loc Cert.Full.nD Cert.Full.τ Cert.Full.sig) → Buf (Elt Bits) ℓ) (g : Dev Cert.Full.nD → PrngReg), Pre_Full m →
    θ_run (Cert.Full.defs (F := Bits)) (onTc (τ := Cert.Full.τ) (Cert.Full.main (F := Bits))) ⟨m, fun _ => 0, g⟩ (fun r => (∀ c : Dev Cert.Full.nD,
      r.2.mem ((c.tc : Thread Cert.Full.nD Cert.Full.τ).loc Cert.Full.main_arg0) = m ((c.tc : Thread Cert.Full.nD Cert.Full.τ).loc Cert.Full.main_arg0)
      ∧ r.2.mem ((c.tc : Thread Cert.Full.nD Cert.Full.τ).loc Cert.Full.main_arg1) = m ((c.tc : Thread Cert.Full.nD Cert.Full.τ).loc Cert.Full.main_arg1)
      ∧ r.2.mem ((c.tc : Thread Cert.Full.nD Cert.Full.τ).loc Cert.Full.main_arg2) = m ((c.tc : Thread Cert.Full.nD Cert.Full.τ).loc Cert.Full.main_arg2)
      ∧ r.2.mem ((c.tc : Thread Cert.Full.nD Cert.Full.τ).loc Cert.Full.main_arg3) = m ((c.tc : Thread Cert.Full.nD Cert.Full.τ).loc Cert.Full.main_arg3))
      ∧ r.2.sem = fun _ => 0)

def quiescent_FullIdeal [hFullIdeal : Cert.FullIdeal.Facts] : Prop :=
  ∀ (m : (ℓ : Loc Cert.FullIdeal.nD Cert.FullIdeal.τ Cert.FullIdeal.sig) → Buf (Elt Ideal) ℓ) (g : Dev Cert.FullIdeal.nD → PrngReg), Pre_FullIdeal m →
    θ_run (Cert.FullIdeal.defs (F := Ideal)) (onTc (τ := Cert.FullIdeal.τ) (Cert.FullIdeal.main (F := Ideal))) ⟨m, fun _ => 0, g⟩ (fun r => (∀ c : Dev Cert.FullIdeal.nD,
      r.2.mem ((c.tc : Thread Cert.FullIdeal.nD Cert.FullIdeal.τ).loc Cert.FullIdeal.main_arg0) = m ((c.tc : Thread Cert.FullIdeal.nD Cert.FullIdeal.τ).loc Cert.FullIdeal.main_arg0)
      ∧ r.2.mem ((c.tc : Thread Cert.FullIdeal.nD Cert.FullIdeal.τ).loc Cert.FullIdeal.main_arg1) = m ((c.tc : Thread Cert.FullIdeal.nD Cert.FullIdeal.τ).loc Cert.FullIdeal.main_arg1)
      ∧ r.2.mem ((c.tc : Thread Cert.FullIdeal.nD Cert.FullIdeal.τ).loc Cert.FullIdeal.main_arg2) = m ((c.tc : Thread Cert.FullIdeal.nD Cert.FullIdeal.τ).loc Cert.FullIdeal.main_arg2)
      ∧ r.2.mem ((c.tc : Thread Cert.FullIdeal.nD Cert.FullIdeal.τ).loc Cert.FullIdeal.main_arg3) = m ((c.tc : Thread Cert.FullIdeal.nD Cert.FullIdeal.τ).loc Cert.FullIdeal.main_arg3))
      ∧ r.2.sem = fun _ => 0)

def quiescent_FullReferenceIdeal [hFullReferenceIdeal : Cert.FullReferenceIdeal.Facts] : Prop :=
  ∀ (m : (ℓ : Loc Cert.FullReferenceIdeal.nD Cert.FullReferenceIdeal.τ Cert.FullReferenceIdeal.sig) → Buf (Elt Ideal) ℓ) (g : Dev Cert.FullReferenceIdeal.nD → PrngReg), Pre_FullReferenceIdeal m →
    θ_run (Cert.FullReferenceIdeal.defs (F := Ideal)) (onTc (τ := Cert.FullReferenceIdeal.τ) (Cert.FullReferenceIdeal.main (F := Ideal))) ⟨m, fun _ => 0, g⟩ (fun r => (∀ c : Dev Cert.FullReferenceIdeal.nD,
      r.2.mem ((c.tc : Thread Cert.FullReferenceIdeal.nD Cert.FullReferenceIdeal.τ).loc Cert.FullReferenceIdeal.main_arg0) = m ((c.tc : Thread Cert.FullReferenceIdeal.nD Cert.FullReferenceIdeal.τ).loc Cert.FullReferenceIdeal.main_arg0)
      ∧ r.2.mem ((c.tc : Thread Cert.FullReferenceIdeal.nD Cert.FullReferenceIdeal.τ).loc Cert.FullReferenceIdeal.main_arg1) = m ((c.tc : Thread Cert.FullReferenceIdeal.nD Cert.FullReferenceIdeal.τ).loc Cert.FullReferenceIdeal.main_arg1)
      ∧ r.2.mem ((c.tc : Thread Cert.FullReferenceIdeal.nD Cert.FullReferenceIdeal.τ).loc Cert.FullReferenceIdeal.main_arg2) = m ((c.tc : Thread Cert.FullReferenceIdeal.nD Cert.FullReferenceIdeal.τ).loc Cert.FullReferenceIdeal.main_arg2)
      ∧ r.2.mem ((c.tc : Thread Cert.FullReferenceIdeal.nD Cert.FullReferenceIdeal.τ).loc Cert.FullReferenceIdeal.main_arg3) = m ((c.tc : Thread Cert.FullReferenceIdeal.nD Cert.FullReferenceIdeal.τ).loc Cert.FullReferenceIdeal.main_arg3))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5))
      ∧ r.2.sem = fun _ => 0)

def quiescent_PostIdeal_pre_finite [hPostIdeal : Cert.PostIdeal.Facts] [hPre_finite : Cert.Pre_finite.Facts] : Prop :=
  ∀ (m : (ℓ : Loc Cert.PostIdeal.nD Cert.PostIdeal.τ Cert.PostIdeal.sig) → Buf (Elt Ideal) ℓ) (g : Dev Cert.PostIdeal.nD → PrngReg), Pre_PostIdeal_finite m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5))
      ∧ r.2.sem = fun _ => 0)

def quiescent_PostReferenceIdeal_pre_finite [hPostReferenceIdeal : Cert.PostReferenceIdeal.Facts] [hPre_finite : Cert.Pre_finite.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal_finite m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5))
      ∧ r.2.sem = fun _ => 0)

def preserves_Kernel_KernelIdeal : Prop :=
  IdealRules.named_const.Statement Cert.KernelIdeal.κ "underflow" .f32 0x43200000#32 ⊤

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v4) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v0) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_Last_LastIdeal : Prop :=
  True

def algebraic_LastIdeal_LastReferenceIdeal [hLastIdeal : Cert.LastIdeal.Facts] [hLastReferenceIdeal : Cert.LastReferenceIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)
      ∧ m' ((c.tc : Thread Cert.LastReferenceIdeal.nD Cert.LastReferenceIdeal.τ).loc Cert.LastReferenceIdeal.main_arg3) = m ((c.tc : Thread Cert.LastIdeal.nD Cert.LastIdeal.τ).loc Cert.LastIdeal.main_arg3)) →
    ∃ (v0 : (c : Dev Cert.LastIdeal.nD) → Buf (Elt Ideal) ((c.tc : Thread Cert.LastIdeal.nD Cert.LastIdeal.τ).loc Cert.LastIdeal.main_v2)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v2) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v28) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v10)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v10) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v6) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v8)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v8) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v9) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)) →
    ∃ (v0 : (c : Dev Cert.MixIdeal.nD) → Buf (Elt Ideal) ((c.tc : Thread Cert.MixIdeal.nD Cert.MixIdeal.τ).loc Cert.MixIdeal.main_v6)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v6) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v1) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v13) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_Half_HalfIdeal : Prop :=
  True

def algebraic_HalfIdeal_HalfReferenceIdeal [hHalfIdeal : Cert.HalfIdeal.Facts] [hHalfReferenceIdeal : Cert.HalfReferenceIdeal.Facts] : Prop :=
  ∀ (m : (ℓ : Loc Cert.HalfIdeal.nD Cert.HalfIdeal.τ Cert.HalfIdeal.sig) → Buf (Elt Ideal) ℓ) (g : Dev Cert.HalfIdeal.nD → PrngReg)
    (m' : (ℓ : Loc Cert.HalfReferenceIdeal.nD Cert.HalfReferenceIdeal.τ Cert.HalfReferenceIdeal.sig) → Buf (Elt Ideal) ℓ) (g' : Dev Cert.HalfReferenceIdeal.nD → PrngReg), Pre_HalfIdeal m →
    (∀ c : Dev Cert.HalfIdeal.nD,
      m' ((c.tc : Thread Cert.HalfReferenceIdeal.nD Cert.HalfReferenceIdeal.τ).loc Cert.HalfReferenceIdeal.main_arg0) = m ((c.tc : Thread Cert.HalfIdeal.nD Cert.HalfIdeal.τ).loc Cert.HalfIdeal.main_arg0)
      ∧ m' ((c.tc : Thread Cert.HalfReferenceIdeal.nD Cert.HalfReferenceIdeal.τ).loc Cert.HalfReferenceIdeal.main_arg1) = m ((c.tc : Thread Cert.HalfIdeal.nD Cert.HalfIdeal.τ).loc Cert.HalfIdeal.main_arg1)
      ∧ m' ((c.tc : Thread Cert.HalfReferenceIdeal.nD Cert.HalfReferenceIdeal.τ).loc Cert.HalfReferenceIdeal.main_arg2) = m ((c.tc : Thread Cert.HalfIdeal.nD Cert.HalfIdeal.τ).loc Cert.HalfIdeal.main_arg2)
      ∧ m' ((c.tc : Thread Cert.HalfReferenceIdeal.nD Cert.HalfReferenceIdeal.τ).loc Cert.HalfReferenceIdeal.main_arg3) = m ((c.tc : Thread Cert.HalfIdeal.nD Cert.HalfIdeal.τ).loc Cert.HalfIdeal.main_arg3)) →
    ∃ (v0 : (c : Dev Cert.HalfIdeal.nD) → Buf (Elt Ideal) ((c.tc : Thread Cert.HalfIdeal.nD Cert.HalfIdeal.τ).loc Cert.HalfIdeal.main_v2_0)) (v1 : (c : Dev Cert.HalfIdeal.nD) → Buf (Elt Ideal) ((c.tc : Thread Cert.HalfIdeal.nD Cert.HalfIdeal.τ).loc Cert.HalfIdeal.main_v2_1)),
      θ_run (Cert.HalfIdeal.defs (F := Ideal)) (onTc (τ := Cert.HalfIdeal.τ) (Cert.HalfIdeal.main (F := Ideal))) ⟨m, fun _ => 0, g⟩ (fun r => ∀ c : Dev Cert.HalfIdeal.nD,
          r.2.mem ((c.tc : Thread Cert.HalfIdeal.nD Cert.HalfIdeal.τ).loc Cert.HalfIdeal.main_v2_0) = v0 c
          ∧ r.2.mem ((c.tc : Thread Cert.HalfIdeal.nD Cert.HalfIdeal.τ).loc Cert.HalfIdeal.main_v2_1) = v1 c
          ∧ r.2.mem ((c.tc : Thread Cert.HalfIdeal.nD Cert.HalfIdeal.τ).loc Cert.HalfIdeal.main_arg0) = m ((c.tc : Thread Cert.HalfIdeal.nD Cert.HalfIdeal.τ).loc Cert.HalfIdeal.main_arg0)
          ∧ r.2.mem ((c.tc : Thread Cert.HalfIdeal.nD Cert.HalfIdeal.τ).loc Cert.HalfIdeal.main_arg1) = m ((c.tc : Thread Cert.HalfIdeal.nD Cert.HalfIdeal.τ).loc Cert.HalfIdeal.main_arg1)
          ∧ r.2.mem ((c.tc : Thread Cert.HalfIdeal.nD Cert.HalfIdeal.τ).loc Cert.HalfIdeal.main_arg2) = m ((c.tc : Thread Cert.HalfIdeal.nD Cert.HalfIdeal.τ).loc Cert.HalfIdeal.main_arg2)
          ∧ r.2.mem ((c.tc : Thread Cert.HalfIdeal.nD Cert.HalfIdeal.τ).loc Cert.HalfIdeal.main_arg3) = m ((c.tc : Thread Cert.HalfIdeal.nD Cert.HalfIdeal.τ).loc Cert.HalfIdeal.main_arg3))
      ∧ θ_run (Cert.HalfReferenceIdeal.defs (F := Ideal)) (onTc (τ := Cert.HalfReferenceIdeal.τ) (Cert.HalfReferenceIdeal.main (F := Ideal))) ⟨m', fun _ => 0, g'⟩ (fun r => ∀ c : Dev Cert.HalfReferenceIdeal.nD,
          r.2.mem ((c.tc : Thread Cert.HalfReferenceIdeal.nD Cert.HalfReferenceIdeal.τ).loc Cert.HalfReferenceIdeal.main_v15) = v0 c
          ∧ r.2.mem ((c.tc : Thread Cert.HalfReferenceIdeal.nD Cert.HalfReferenceIdeal.τ).loc Cert.HalfReferenceIdeal.main_v29) = v1 c
          ∧ r.2.mem ((c.tc : Thread Cert.HalfReferenceIdeal.nD Cert.HalfReferenceIdeal.τ).loc Cert.HalfReferenceIdeal.main_arg0) = m' ((c.tc : Thread Cert.HalfReferenceIdeal.nD Cert.HalfReferenceIdeal.τ).loc Cert.HalfReferenceIdeal.main_arg0)
          ∧ r.2.mem ((c.tc : Thread Cert.HalfReferenceIdeal.nD Cert.HalfReferenceIdeal.τ).loc Cert.HalfReferenceIdeal.main_arg1) = m' ((c.tc : Thread Cert.HalfReferenceIdeal.nD Cert.HalfReferenceIdeal.τ).loc Cert.HalfReferenceIdeal.main_arg1)
          ∧ r.2.mem ((c.tc : Thread Cert.HalfReferenceIdeal.nD Cert.HalfReferenceIdeal.τ).loc Cert.HalfReferenceIdeal.main_arg2) = m' ((c.tc : Thread Cert.HalfReferenceIdeal.nD Cert.HalfReferenceIdeal.τ).loc Cert.HalfReferenceIdeal.main_arg2)
          ∧ r.2.mem ((c.tc : Thread Cert.HalfReferenceIdeal.nD Cert.HalfReferenceIdeal.τ).loc Cert.HalfReferenceIdeal.main_arg3) = m' ((c.tc : Thread Cert.HalfReferenceIdeal.nD Cert.HalfReferenceIdeal.τ).loc Cert.HalfReferenceIdeal.main_arg3))

def preserves_Full_FullIdeal : Prop :=
  True

def algebraic_FullIdeal_FullReferenceIdeal [hFullIdeal : Cert.FullIdeal.Facts] [hFullReferenceIdeal : Cert.FullReferenceIdeal.Facts] : Prop :=
  ∀ (m : (ℓ : Loc Cert.FullIdeal.nD Cert.FullIdeal.τ Cert.FullIdeal.sig) → Buf (Elt Ideal) ℓ) (g : Dev Cert.FullIdeal.nD → PrngReg)
    (m' : (ℓ : Loc Cert.FullReferenceIdeal.nD Cert.FullReferenceIdeal.τ Cert.FullReferenceIdeal.sig) → Buf (Elt Ideal) ℓ) (g' : Dev Cert.FullReferenceIdeal.nD → PrngReg), Pre_FullIdeal m →
    (∀ c : Dev Cert.FullIdeal.nD,
      m' ((c.tc : Thread Cert.FullReferenceIdeal.nD Cert.FullReferenceIdeal.τ).loc Cert.FullReferenceIdeal.main_arg0) = m ((c.tc : Thread Cert.FullIdeal.nD Cert.FullIdeal.τ).loc Cert.FullIdeal.main_arg0)
      ∧ m' ((c.tc : Thread Cert.FullReferenceIdeal.nD Cert.FullReferenceIdeal.τ).loc Cert.FullReferenceIdeal.main_arg1) = m ((c.tc : Thread Cert.FullIdeal.nD Cert.FullIdeal.τ).loc Cert.FullIdeal.main_arg1)
      ∧ m' ((c.tc : Thread Cert.FullReferenceIdeal.nD Cert.FullReferenceIdeal.τ).loc Cert.FullReferenceIdeal.main_arg2) = m ((c.tc : Thread Cert.FullIdeal.nD Cert.FullIdeal.τ).loc Cert.FullIdeal.main_arg2)
      ∧ m' ((c.tc : Thread Cert.FullReferenceIdeal.nD Cert.FullReferenceIdeal.τ).loc Cert.FullReferenceIdeal.main_arg3) = m ((c.tc : Thread Cert.FullIdeal.nD Cert.FullIdeal.τ).loc Cert.FullIdeal.main_arg3)) →
    ∃ (v0 : (c : Dev Cert.FullIdeal.nD) → Buf (Elt Ideal) ((c.tc : Thread Cert.FullIdeal.nD Cert.FullIdeal.τ).loc Cert.FullIdeal.main_v2_0)) (v1 : (c : Dev Cert.FullIdeal.nD) → Buf (Elt Ideal) ((c.tc : Thread Cert.FullIdeal.nD Cert.FullIdeal.τ).loc Cert.FullIdeal.main_v2_1)),
      θ_run (Cert.FullIdeal.defs (F := Ideal)) (onTc (τ := Cert.FullIdeal.τ) (Cert.FullIdeal.main (F := Ideal))) ⟨m, fun _ => 0, g⟩ (fun r => ∀ c : Dev Cert.FullIdeal.nD,
          r.2.mem ((c.tc : Thread Cert.FullIdeal.nD Cert.FullIdeal.τ).loc Cert.FullIdeal.main_v2_0) = v0 c
          ∧ r.2.mem ((c.tc : Thread Cert.FullIdeal.nD Cert.FullIdeal.τ).loc Cert.FullIdeal.main_v2_1) = v1 c
          ∧ r.2.mem ((c.tc : Thread Cert.FullIdeal.nD Cert.FullIdeal.τ).loc Cert.FullIdeal.main_arg0) = m ((c.tc : Thread Cert.FullIdeal.nD Cert.FullIdeal.τ).loc Cert.FullIdeal.main_arg0)
          ∧ r.2.mem ((c.tc : Thread Cert.FullIdeal.nD Cert.FullIdeal.τ).loc Cert.FullIdeal.main_arg1) = m ((c.tc : Thread Cert.FullIdeal.nD Cert.FullIdeal.τ).loc Cert.FullIdeal.main_arg1)
          ∧ r.2.mem ((c.tc : Thread Cert.FullIdeal.nD Cert.FullIdeal.τ).loc Cert.FullIdeal.main_arg2) = m ((c.tc : Thread Cert.FullIdeal.nD Cert.FullIdeal.τ).loc Cert.FullIdeal.main_arg2)
          ∧ r.2.mem ((c.tc : Thread Cert.FullIdeal.nD Cert.FullIdeal.τ).loc Cert.FullIdeal.main_arg3) = m ((c.tc : Thread Cert.FullIdeal.nD Cert.FullIdeal.τ).loc Cert.FullIdeal.main_arg3))
      ∧ θ_run (Cert.FullReferenceIdeal.defs (F := Ideal)) (onTc (τ := Cert.FullReferenceIdeal.τ) (Cert.FullReferenceIdeal.main (F := Ideal))) ⟨m', fun _ => 0, g'⟩ (fun r => ∀ c : Dev Cert.FullReferenceIdeal.nD,
          r.2.mem ((c.tc : Thread Cert.FullReferenceIdeal.nD Cert.FullReferenceIdeal.τ).loc Cert.FullReferenceIdeal.main_v13) = v0 c
          ∧ r.2.mem ((c.tc : Thread Cert.FullReferenceIdeal.nD Cert.FullReferenceIdeal.τ).loc Cert.FullReferenceIdeal.main_v27) = v1 c
          ∧ r.2.mem ((c.tc : Thread Cert.FullReferenceIdeal.nD Cert.FullReferenceIdeal.τ).loc Cert.FullReferenceIdeal.main_arg0) = m' ((c.tc : Thread Cert.FullReferenceIdeal.nD Cert.FullReferenceIdeal.τ).loc Cert.FullReferenceIdeal.main_arg0)
          ∧ r.2.mem ((c.tc : Thread Cert.FullReferenceIdeal.nD Cert.FullReferenceIdeal.τ).loc Cert.FullReferenceIdeal.main_arg1) = m' ((c.tc : Thread Cert.FullReferenceIdeal.nD Cert.FullReferenceIdeal.τ).loc Cert.FullReferenceIdeal.main_arg1)
          ∧ r.2.mem ((c.tc : Thread Cert.FullReferenceIdeal.nD Cert.FullReferenceIdeal.τ).loc Cert.FullReferenceIdeal.main_arg2) = m' ((c.tc : Thread Cert.FullReferenceIdeal.nD Cert.FullReferenceIdeal.τ).loc Cert.FullReferenceIdeal.main_arg2)
          ∧ r.2.mem ((c.tc : Thread Cert.FullReferenceIdeal.nD Cert.FullReferenceIdeal.τ).loc Cert.FullReferenceIdeal.main_arg3) = m' ((c.tc : Thread Cert.FullReferenceIdeal.nD Cert.FullReferenceIdeal.τ).loc Cert.FullReferenceIdeal.main_arg3))

def preserves_Post_PostIdeal : Prop :=
  True

def algebraic_PostIdeal_PostReferenceIdeal_pre_finite [hPostIdeal : Cert.PostIdeal.Facts] [hPostReferenceIdeal : Cert.PostReferenceIdeal.Facts] [hPre_finite : Cert.Pre_finite.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal_finite m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)
      ∧ m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5)) →
    ∃ (v0 : (c : Dev Cert.PostIdeal.nD) → Buf (Elt Ideal) ((c.tc : Thread Cert.PostIdeal.nD Cert.PostIdeal.τ).loc Cert.PostIdeal.main_v6)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v6) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v29) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hLast : Cert.Last.Facts) (hLastIdeal : Cert.LastIdeal.Facts) (hLastReferenceIdeal : Cert.LastReferenceIdeal.Facts) (hProj : Cert.Proj.Facts) (hProjIdeal : Cert.ProjIdeal.Facts) (hProjReferenceIdeal : Cert.ProjReferenceIdeal.Facts) (hQkv : Cert.Qkv.Facts) (hQkvIdeal : Cert.QkvIdeal.Facts) (hQkvReferenceIdeal : Cert.QkvReferenceIdeal.Facts) (hMix : Cert.Mix.Facts) (hMixIdeal : Cert.MixIdeal.Facts) (hMixReferenceIdeal : Cert.MixReferenceIdeal.Facts) (hNorm : Cert.Norm.Facts) (hNormIdeal : Cert.NormIdeal.Facts) (hNormReferenceIdeal : Cert.NormReferenceIdeal.Facts) (hHalf : Cert.Half.Facts) (hHalfIdeal : Cert.HalfIdeal.Facts) (hHalfReferenceIdeal : Cert.HalfReferenceIdeal.Facts) (hFull : Cert.Full.Facts) (hFullIdeal : Cert.FullIdeal.Facts) (hFullReferenceIdeal : Cert.FullReferenceIdeal.Facts) (hPost : Cert.Post.Facts) (hPostIdeal : Cert.PostIdeal.Facts) (hPostReferenceIdeal : Cert.PostReferenceIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_Last (hLast := hLast)
    ∧ quiescent_LastIdeal (hLastIdeal := hLastIdeal)
    ∧ quiescent_LastReferenceIdeal (hLastReferenceIdeal := hLastReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ quiescent_Mix (hMix := hMix)
    ∧ quiescent_MixIdeal (hMixIdeal := hMixIdeal)
    ∧ quiescent_MixReferenceIdeal (hMixReferenceIdeal := hMixReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Half (hHalf := hHalf)
    ∧ quiescent_HalfIdeal (hHalfIdeal := hHalfIdeal)
    ∧ quiescent_HalfReferenceIdeal (hHalfReferenceIdeal := hHalfReferenceIdeal)
    ∧ quiescent_Full (hFull := hFull)
    ∧ quiescent_FullIdeal (hFullIdeal := hFullIdeal)
    ∧ quiescent_FullReferenceIdeal (hFullReferenceIdeal := hFullReferenceIdeal)
    ∧ quiescent_Post (hPost := hPost)
    ∧ quiescent_PostIdeal (hPostIdeal := hPostIdeal)
    ∧ quiescent_PostIdeal_pre_finite (hPostIdeal := hPostIdeal) (hPre_finite := hPre_finite)
    ∧ quiescent_PostReferenceIdeal (hPostReferenceIdeal := hPostReferenceIdeal)
    ∧ quiescent_PostReferenceIdeal_pre_finite (hPostReferenceIdeal := hPostReferenceIdeal) (hPre_finite := hPre_finite)
    ∧ preserves_Kernel_KernelIdeal
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_Last_LastIdeal
    ∧ algebraic_LastIdeal_LastReferenceIdeal (hLastIdeal := hLastIdeal) (hLastReferenceIdeal := hLastReferenceIdeal)
    ∧ preserves_Proj_ProjIdeal
    ∧ algebraic_ProjIdeal_ProjReferenceIdeal (hProjIdeal := hProjIdeal) (hProjReferenceIdeal := hProjReferenceIdeal)
    ∧ preserves_Qkv_QkvIdeal
    ∧ algebraic_QkvIdeal_QkvReferenceIdeal (hQkvIdeal := hQkvIdeal) (hQkvReferenceIdeal := hQkvReferenceIdeal)
    ∧ preserves_Mix_MixIdeal
    ∧ algebraic_MixIdeal_MixReferenceIdeal (hMixIdeal := hMixIdeal) (hMixReferenceIdeal := hMixReferenceIdeal)
    ∧ preserves_Norm_NormIdeal
    ∧ algebraic_NormIdeal_NormReferenceIdeal (hNormIdeal := hNormIdeal) (hNormReferenceIdeal := hNormReferenceIdeal)
    ∧ preserves_Half_HalfIdeal
    ∧ algebraic_HalfIdeal_HalfReferenceIdeal (hHalfIdeal := hHalfIdeal) (hHalfReferenceIdeal := hHalfReferenceIdeal)
    ∧ preserves_Full_FullIdeal
    ∧ algebraic_FullIdeal_FullReferenceIdeal (hFullIdeal := hFullIdeal) (hFullReferenceIdeal := hFullReferenceIdeal)
    ∧ preserves_Post_PostIdeal
    ∧ algebraic_PostIdeal_PostReferenceIdeal_pre_finite (hPostIdeal := hPostIdeal) (hPostReferenceIdeal := hPostReferenceIdeal) (hPre_finite := hPre_finite)
-- ==== Pre_finite.lean ====
abbrev S8192x2048 : Shape := ⟨2, ![8192, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)

variable [Facts]

def fn {F : FTy → Type} [FloatOps F] (main_arg0 : FVec F S8192x2048 .f32) (main_arg1 : FVec F S8192x2048 .f32) (main_arg2 : FVec F S8192x2048 .f32) (main_arg3 : FVec F S8192x2048 .f32) (main_arg4 : FVec F S2048 .f32) (main_arg5 : FVec F S2048 .f32) : IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : IVec S8192x2048 1 := andi main_v2 main_v5
  main_v6
-- ==== Kernel.lean ====
abbrev S8192x6144 : Shape := ⟨2, ![8192, 6144]⟩
abbrev S64 : Shape := ⟨1, ![64]⟩
abbrev S128 : Shape := ⟨1, ![128]⟩
abbrev S_ : Shape := ⟨0, ![]⟩
abbrev S1x2048 : Shape := ⟨2, ![1, 2048]⟩
abbrev S1x4096 : Shape := ⟨2, ![1, 4096]⟩
abbrev S1x6144 : Shape := ⟨2, ![1, 6144]⟩
abbrev S1 : Shape := ⟨1, ![1]⟩
abbrev S8192x2048 : Shape := ⟨2, ![8192, 2048]⟩
abbrev S2048x8192 : Shape := ⟨2, ![2048, 8192]⟩
abbrev S16x128x8192 : Shape := ⟨3, ![16, 128, 8192]⟩
abbrev S16x16x8192 : Shape := ⟨3, ![16, 16, 8192]⟩
abbrev S16x144x8192 : Shape := ⟨3, ![16, 144, 8192]⟩
abbrev S2304x8192 : Shape := ⟨2, ![2304, 8192]⟩
abbrev S16 : Shape := ⟨1, ![16]⟩
abbrev S16x1 : Shape := ⟨2, ![16, 1]⟩
abbrev S16x5 : Shape := ⟨2, ![16, 5]⟩
abbrev S80 : Shape := ⟨1, ![80]⟩
abbrev S81 : Shape := ⟨1, ![81]⟩
abbrev S1x128 : Shape := ⟨2, ![1, 128]⟩
abbrev S128x1024 : Shape := ⟨2, ![128, 1024]⟩
abbrev S8192x128 : Shape := ⟨2, ![8192, 128]⟩
abbrev S144x8192 : Shape := ⟨2, ![144, 8192]⟩
abbrev S1024x128 : Shape := ⟨2, ![1024, 128]⟩
abbrev S2x2x512x1024 : Shape := ⟨4, ![2, 2, 512, 1024]⟩
abbrev S128x128 : Shape := ⟨2, ![128, 128]⟩
abbrev S512x128 : Shape := ⟨2, ![512, 128]⟩
abbrev S1x1x128 : Shape := ⟨3, ![1, 1, 128]⟩
abbrev S1x1x1 : Shape := ⟨3, ![1, 1, 1]⟩
abbrev S64x1024 : Shape := ⟨2, ![64, 1024]⟩
abbrev S1024 : Shape := ⟨1, ![1024]⟩
abbrev S1x1024 : Shape := ⟨2, ![1, 1024]⟩
abbrev S1x1x1024 : Shape := ⟨3, ![1, 1, 1024]⟩
abbrev S144x1024 : Shape := ⟨2, ![144, 1024]⟩
abbrev S512x1024 : Shape := ⟨2, ![512, 1024]⟩
abbrev S1x1x512x1024 : Shape := ⟨4, ![1, 1, 512, 1024]⟩
abbrev S144x512 : Shape := ⟨2, ![144, 512]⟩
abbrev S1024x1 : Shape := ⟨2, ![1024, 1]⟩

abbrev nBuf : Space → Nat
  | .hbm => 84
  | .vmem => 10
  | .smem => 2
  | _ => 0

abbrev bufTy : (tb : Table) → Fin (tcTables nBuf tb) → BufTy
  | .hbm, ⟨0, _⟩ => ⟨S8192x6144, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1x2048, .f32⟩
  | .hbm, ⟨11, _⟩ => ⟨S_, .f32⟩
  | .hbm, ⟨12, _⟩ => ⟨S1x4096, .f32⟩
  | .hbm, ⟨13, _⟩ => ⟨S1x6144, .f32⟩
  | .hbm, ⟨14, _⟩ => ⟨S8192x6144, .f32⟩
  | .hbm, ⟨15, _⟩ => ⟨S8192x6144, .f32⟩
  | .hbm, ⟨16, _⟩ => ⟨S8192x6144, .bf16⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1, .f32⟩
  | .hbm, ⟨29, _⟩ => ⟨S8192x2048, .bf16⟩
  | .hbm, ⟨30, _⟩ => ⟨S2048x8192, .bf16⟩
  | .hbm, ⟨31, _⟩ => ⟨S16x128x8192, .bf16⟩
  | .hbm, ⟨32, _⟩ => ⟨S_, .bf16⟩
  | .hbm, ⟨33, _⟩ => ⟨S16x16x8192, .bf16⟩
  | .hbm, ⟨34, _⟩ => ⟨S16x144x8192, .bf16⟩
  | .hbm, ⟨35, _⟩ => ⟨S2304x8192, .bf16⟩
  | .hbm, ⟨36, _⟩ => ⟨S8192x2048, .bf16⟩
  | .hbm, ⟨37, _⟩ => ⟨S2048x8192, .bf16⟩
  | .hbm, ⟨38, _⟩ => ⟨S8192x2048, .bf16⟩
  | .hbm, ⟨39, _⟩ => ⟨S16, .f32⟩
  | .hbm, ⟨40, _⟩ => ⟨S_, .f32⟩
  | .hbm, ⟨41, _⟩ => ⟨S16, .f32⟩
  | .hbm, ⟨42, _⟩ => ⟨S16, .f32⟩
  | .hbm, ⟨43, _⟩ => ⟨S_, .f32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S16, .bf16⟩
  | .hbm, ⟨57, _⟩ => ⟨S16, .f32⟩
  | .hbm, ⟨58, _⟩ => ⟨S16, .f32⟩
  | .hbm, ⟨59, _⟩ => ⟨S16, .bf16⟩
  | .hbm, ⟨60, _⟩ => ⟨S16, .f32⟩
  | .hbm, ⟨61, _⟩ => ⟨S16, .f32⟩
  | .hbm, ⟨62, _⟩ => ⟨S16, .bf16⟩
  | .hbm, ⟨63, _⟩ => ⟨S16, .f32⟩
  | .hbm, ⟨64, _⟩ => ⟨S16, .f32⟩
  | .hbm, ⟨65, _⟩ => ⟨S16, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S16, .f32⟩
  | .hbm, ⟨70, _⟩ => ⟨S16, .f32⟩
  | .hbm, ⟨71, _⟩ => ⟨S_, .f32⟩
  | .hbm, ⟨72, _⟩ => ⟨S16, .f32⟩
  | .hbm, ⟨73, _⟩ => ⟨S16, .f32⟩
  | .hbm, ⟨74, _⟩ => ⟨S16x1, .f32⟩
  | .hbm, ⟨75, _⟩ => ⟨S16x1, .f32⟩
  | .hbm, ⟨76, _⟩ => ⟨S16x1, .f32⟩
  | .hbm, ⟨77, _⟩ => ⟨S16x1, .f32⟩
  | .hbm, ⟨78, _⟩ => ⟨S16x1, .f32⟩
  | .hbm, ⟨79, _⟩ => ⟨S16x5, .f32⟩
  | .hbm, ⟨80, _⟩ => ⟨S80, .f32⟩
  | .hbm, ⟨81, _⟩ => ⟨S81, .f32⟩
  | .hbm, ⟨82, _⟩ => ⟨S1x128, .f32⟩
  | .hbm, ⟨83, _⟩ => ⟨S8192x2048, .bf16⟩
  | .local _ .vmem, ⟨0, _⟩ => ⟨S128x1024, .bf16⟩
  | .local _ .vmem, ⟨1, _⟩ => ⟨S128x1024, .bf16⟩
  | .local _ .vmem, ⟨2, _⟩ => ⟨S8192x128, .bf16⟩
  | .local _ .vmem, ⟨3, _⟩ => ⟨S8192x128, .bf16⟩
  | .local _ .vmem, ⟨4, _⟩ => ⟨S144x8192, .bf16⟩
  | .local _ .vmem, ⟨5, _⟩ => ⟨S144x8192, .bf16⟩
  | .local _ .vmem, ⟨6, _⟩ => ⟨S1x128, .f32⟩
  | .local _ .vmem, ⟨7, _⟩ => ⟨S1024x128, .bf16⟩
  | .local _ .vmem, ⟨8, _⟩ => ⟨S1024x128, .bf16⟩
  | .local _ .vmem, ⟨9, _⟩ => ⟨S2x2x512x1024, .f32⟩
  | .local _ .smem, ⟨0, _⟩ => ⟨S81, .f32⟩
  | .local _ .smem, ⟨1, _⟩ => ⟨S1, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_stg0_0 : Ref sig .tc := ⟨.smem, 0, rfl⟩
abbrev cc0_scratch1 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def k0_off1 (i : grid0.Coords) : Fin 1 → Nat :=
  let c1_i32 : BitVec 32 := 1#32
  let arg0 : BitVec 32 := BitVec.ofNat 32 (i 0).val
  let c5_i32 : BitVec 32 := 5#32
  let v1 : BitVec 32 := Scalar.muli arg0 c5_i32
  let v2 : BitVec 32 := Scalar.addi c1_i32 v1
  let v3 : Index := Scalar.indexCast v2
  ![v3.toNat]
def k0_off2 (i : grid0.Coords) (c0_i32 : BitVec 32) : Fin 1 → Nat :=
  let c1_i32 : BitVec 32 := 1#32
  let arg0 : BitVec 32 := BitVec.ofNat 32 (i 0).val
  let c5_i32 : BitVec 32 := 5#32
  let v1 : BitVec 32 := Scalar.muli arg0 c5_i32
  let v2 : BitVec 32 := Scalar.addi c1_i32 v1
  let c1_i32_0 : BitVec 32 := 1#32
  let v5 : BitVec 32 := Scalar.addi v2 c1_i32_0
  let v6 : BitVec 32 := Scalar.addi v5 c0_i32
  let v7 : Index := Scalar.indexCast v6
  ![v7.toNat]
def k0_cond1 (i : grid0.Coords) : BitVec 1 :=
  let arg1 : BitVec 32 := BitVec.ofNat 32 (i 1).val
  let c0_i32_5 : BitVec 32 := 0#32
  let v21 : BitVec 1 := Scalar.cmpi .eq arg1 c0_i32_5
  let v22 : BitVec 32 := Scalar.extui v21
  let c0_i32_6 : BitVec 32 := 0#32
  let v23 : BitVec 1 := Scalar.cmpi .ne v22 c0_i32_6
  v23

@[reducible] def k0_t1_loop : Scf.Loop 32 :=
  let c0_i32_270 : BitVec 32 := 0#32
  let c16_i32 : BitVec 32 := 16#32
  let v623 : BitVec 32 := Scalar.addi c0_i32_270 c16_i32
  let c1_i32_271 : BitVec 32 := 1#32
  ⟨c0_i32_270, v623, c1_i32_271⟩
def k0_mult1 (k0_t1 : Fin k0_t1_loop.trips) : BitVec 32 :=
  let c0_i32_270 : BitVec 32 := 0#32
  let c1_i32_271 : BitVec 32 := 1#32
  let arg10 : BitVec 32 := Scf.iv c0_i32_270 c1_i32_271 k0_t1
  let c512_i32_275 : BitVec 32 := 512#32
  let v630 : BitVec 32 := Scalar.muli arg10 c512_i32_275
  v630
def k0_off3 (k0_t1 : Fin k0_t1_loop.trips) : Fin 2 → Nat :=
  let c0_i32_270 : BitVec 32 := 0#32
  let c1_i32_271 : BitVec 32 := 1#32
  let arg10 : BitVec 32 := Scf.iv c0_i32_270 c1_i32_271 k0_t1
  let c512_i32_275 : BitVec 32 := 512#32
  let v630 : BitVec 32 := Scalar.muli arg10 c512_i32_275
  let v631 : BitVec 32 := v630
  let v632 : Index := Scalar.indexCast v631
  let c0_276 : Index := 0#32
  ![v632.toNat, 0]
def k0_mult2 (i : grid0.Coords) : BitVec 32 :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c0_i32_140 : BitVec 32 := 0#32
  let v314 : BitVec 32 := Scalar.addi v302 c0_i32_140
  let c512_i32_141 : BitVec 32 := 512#32
  let v315 : BitVec 32 := Scalar.muli v314 c512_i32_141
  v315
def k0_off4 (i : grid0.Coords) (c0_i32_140 : BitVec 32) : Fin 2 → Nat :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let v314 : BitVec 32 := Scalar.addi v302 c0_i32_140
  let c512_i32_141 : BitVec 32 := 512#32
  let v315 : BitVec 32 := Scalar.muli v314 c512_i32_141
  let v316 : BitVec 32 := v315
  let v317 : Index := Scalar.indexCast v316
  let c0_142 : Index := 0#32
  ![v317.toNat, 0]
def k0_mult3 (i : grid0.Coords) : BitVec 32 :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_154 : BitVec 32 := 1#32
  let v343 : BitVec 32 := Scalar.addi v302 c1_i32_154
  let c512_i32_155 : BitVec 32 := 512#32
  let v344 : BitVec 32 := Scalar.muli v343 c512_i32_155
  v344
def k0_mult4 (i : grid0.Coords) : BitVec 32 :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c0_i32_169 : BitVec 32 := 0#32
  let v372 : BitVec 32 := Scalar.addi v302 c0_i32_169
  let c512_i32_170 : BitVec 32 := 512#32
  let v373 : BitVec 32 := Scalar.muli v372 c512_i32_170
  v373
def k0_off5 (i : grid0.Coords) : Fin 2 → Nat :=
  let c0_171 : Index := 0#32
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c0_i32_169 : BitVec 32 := 0#32
  let v372 : BitVec 32 := Scalar.addi v302 c0_i32_169
  let c512_i32_170 : BitVec 32 := 512#32
  let v373 : BitVec 32 := Scalar.muli v372 c512_i32_170
  let v374 : BitVec 32 := v373
  let v375 : Index := Scalar.indexCast v374
  ![0, v375.toNat]
def k0_mult5 (i : grid0.Coords) : BitVec 32 :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c0_i32_180 : BitVec 32 := 0#32
  let v397 : BitVec 32 := Scalar.addi v302 c0_i32_180
  let c512_i32_181 : BitVec 32 := 512#32
  let v398 : BitVec 32 := Scalar.muli v397 c512_i32_181
  v398
def k0_mult6 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) : BitVec 32 :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c0_i32_191 : BitVec 32 := 0#32
  let v422 : BitVec 32 := Scalar.addi v304 c0_i32_191
  let c2_i32_192 : BitVec 32 := 2#32
  let v423 : BitVec 1 := Scalar.cmpi .sge v422 v302
  let v424 : BitVec 32 := Scalar.extui v423
  let v425 : BitVec 32 := Scalar.muli c2_i32_192 v424
  let v426 : BitVec 32 := Scalar.addi v422 v425
  let c512_i32_193 : BitVec 32 := 512#32
  let v427 : BitVec 32 := Scalar.muli v426 c512_i32_193
  v427

def k0_off6 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) : Fin 2 → Nat :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c0_i32_191 : BitVec 32 := 0#32
  let v422 : BitVec 32 := Scalar.addi v304 c0_i32_191
  let c2_i32_192 : BitVec 32 := 2#32
  let v423 : BitVec 1 := Scalar.cmpi .sge v422 v302
  let v424 : BitVec 32 := Scalar.extui v423
  let v425 : BitVec 32 := Scalar.muli c2_i32_192 v424
  let v426 : BitVec 32 := Scalar.addi v422 v425
  let c512_i32_193 : BitVec 32 := 512#32
  let v427 : BitVec 32 := Scalar.muli v426 c512_i32_193
  let v428 : BitVec 32 := v427
  let v429 : Index := Scalar.indexCast v428
  let c0_194 : Index := 0#32
  ![v429.toNat, 0]
def k0_mult7 (i : grid0.Coords) : BitVec 32 :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_200 : BitVec 32 := 1#32
  let v439 : BitVec 32 := Scalar.addi v302 c1_i32_200
  let c512_i32_201 : BitVec 32 := 512#32
  let v440 : BitVec 32 := Scalar.muli v439 c512_i32_201
  v440
def k0_off7 (i : grid0.Coords) : Fin 2 → Nat :=
  let c0_202 : Index := 0#32
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_200 : BitVec 32 := 1#32
  let v439 : BitVec 32 := Scalar.addi v302 c1_i32_200
  let c512_i32_201 : BitVec 32 := 512#32
  let v440 : BitVec 32 := Scalar.muli v439 c512_i32_201
  let v441 : BitVec 32 := v440
  let v442 : Index := Scalar.indexCast v441
  ![0, v442.toNat]
def k0_mult8 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) : BitVec 32 :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c0_i32_211 : BitVec 32 := 0#32
  let v464 : BitVec 32 := Scalar.addi v304 c0_i32_211
  let c2_i32_212 : BitVec 32 := 2#32
  let v465 : BitVec 1 := Scalar.cmpi .sge v464 v302
  let v466 : BitVec 32 := Scalar.extui v465
  let v467 : BitVec 32 := Scalar.muli c2_i32_212 v466
  let v468 : BitVec 32 := Scalar.addi v464 v467
  let c512_i32_213 : BitVec 32 := 512#32
  let v469 : BitVec 32 := Scalar.muli v468 c512_i32_213
  v469
def k0_mult9 (i : grid0.Coords) : BitVec 32 :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_220 : BitVec 32 := 1#32
  let v481 : BitVec 32 := Scalar.addi v302 c1_i32_220
  let c512_i32_221 : BitVec 32 := 512#32
  let v482 : BitVec 32 := Scalar.muli v481 c512_i32_221
  v482
@[reducible] def k0_t2_loop (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) : Scf.Loop 32 :=
  let c0_i32_239 : BitVec 32 := 0#32
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c2_i32_134 : BitVec 32 := 2#32
  let v305 : BitVec 32 := Scalar.addi v302 c2_i32_134
  let c1_i32_135 : BitVec 32 := 1#32
  let v306 : BitVec 32 := Scalar.subi v305 c1_i32_135
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v307 : BitVec 32 := Scalar.addi v306 v90
  let c15_i32 : BitVec 32 := 15#32
  let v308 : BitVec 32 := Scalar.minsi v307 c15_i32
  let v303 : BitVec 32 := Scalar.subi v302 v90
  let c0_i32_133 : BitVec 32 := 0#32
  let v304 : BitVec 32 := Scalar.maxsi v303 c0_i32_133
  let v309 : BitVec 32 := Scalar.subi v308 v304
  let c1_i32_136 : BitVec 32 := 1#32
  let v310 : BitVec 32 := Scalar.addi v309 c1_i32_136
  let c2_i32_137 : BitVec 32 := 2#32
  let v311 : BitVec 32 := Scalar.subi v310 c2_i32_137
  let c1_i32_231 : BitVec 32 := 1#32
  let v506 : BitVec 32 := Scalar.subi v311 c1_i32_231
  let c0_i32_233 : BitVec 32 := 0#32
  let v508 : BitVec 1 := Scalar.cmpi .sgt v506 c0_i32_233
  let v509 : BitVec 32 := Scalar.extui v508
  let c0_i32_234 : BitVec 32 := 0#32
  let v510 : BitVec 1 := Scalar.cmpi .slt v506 c0_i32_234
  let v511 : BitVec 32 := Scalar.extui v510
  let v512 : BitVec 32 := Scalar.subi v509 v511
  let c2_i32_232 : BitVec 32 := 2#32
  let c0_i32_235 : BitVec 32 := 0#32
  let v513 : BitVec 1 := Scalar.cmpi .sgt c2_i32_232 c0_i32_235
  let v514 : BitVec 32 := Scalar.extui v513
  let c0_i32_236 : BitVec 32 := 0#32
  let v515 : BitVec 1 := Scalar.cmpi .slt c2_i32_232 c0_i32_236
  let v516 : BitVec 32 := Scalar.extui v515
  let v517 : BitVec 32 := Scalar.subi v514 v516
  let v518 : BitVec 1 := Scalar.cmpi .ne v512 v517
  let v519 : BitVec 32 := Scalar.remsi v506 c2_i32_232
  let c0_i32_237 : BitVec 32 := 0#32
  let v520 : BitVec 1 := Scalar.cmpi .ne v519 c0_i32_237
  let v521 : BitVec 1 := Scalar.andi v518 v520
  let v507 : BitVec 32 := Scalar.divsi v506 c2_i32_232
  let c1_i32_238 : BitVec 32 := 1#32
  let v522 : BitVec 32 := Scalar.subi v507 c1_i32_238
  let v523 : BitVec 32 := Scalar.select v521 v522 v507
  let v524 : BitVec 32 := Scalar.subi v523 c0_i32_239
  let c1_i32_240 : BitVec 32 := 1#32
  let v526 : BitVec 32 := Scalar.divsi v524 c1_i32_240
  let v527 : BitVec 32 := Scalar.muli v526 c1_i32_240
  let v528 : BitVec 32 := Scalar.addi c0_i32_239 v527
  let c1_i32_241 : BitVec 32 := 1#32
  ⟨c0_i32_239, v528, c1_i32_241⟩
def k0_mult10 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_t2 : Fin (k0_t2_loop i v46 v49 v52 v55 v58 v61 v64 v67 v70 v73 v76 v79 v82 v85 v88).trips) : BitVec 32 :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_255 : BitVec 32 := 2#32
  let c0_i32_239 : BitVec 32 := 0#32
  let c1_i32_241 : BitVec 32 := 1#32
  let arg10 : BitVec 32 := Scf.iv c0_i32_239 c1_i32_241 k0_t2
  let v568 : BitVec 32 := Scalar.muli c2_i32_255 arg10
  let c1_i32_256 : BitVec 32 := 1#32
  let v569 : BitVec 32 := Scalar.addi v568 c1_i32_256
  let v570 : BitVec 32 := Scalar.addi v304 v569
  let c2_i32_257 : BitVec 32 := 2#32
  let v571 : BitVec 1 := Scalar.cmpi .sge v570 v302
  let v572 : BitVec 32 := Scalar.extui v571
  let v573 : BitVec 32 := Scalar.muli c2_i32_257 v572
  let v574 : BitVec 32 := Scalar.addi v570 v573
  let c512_i32_258 : BitVec 32 := 512#32
  let v575 : BitVec 32 := Scalar.muli v574 c512_i32_258
  v575
def k0_off8 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_t2 : Fin (k0_t2_loop i v46 v49 v52 v55 v58 v61 v64 v67 v70 v73 v76 v79 v82 v85 v88).trips) (c1_i32_256 : BitVec 32) : Fin 2 → Nat :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_255 : BitVec 32 := 2#32
  let c0_i32_239 : BitVec 32 := 0#32
  let c1_i32_241 : BitVec 32 := 1#32
  let arg10 : BitVec 32 := Scf.iv c0_i32_239 c1_i32_241 k0_t2
  let v568 : BitVec 32 := Scalar.muli c2_i32_255 arg10
  let v569 : BitVec 32 := Scalar.addi v568 c1_i32_256
  let v570 : BitVec 32 := Scalar.addi v304 v569
  let c2_i32_257 : BitVec 32 := 2#32
  let v571 : BitVec 1 := Scalar.cmpi .sge v570 v302
  let v572 : BitVec 32 := Scalar.extui v571
  let v573 : BitVec 32 := Scalar.muli c2_i32_257 v572
  let v574 : BitVec 32 := Scalar.addi v570 v573
  let c512_i32_258 : BitVec 32 := 512#32
  let v575 : BitVec 32 := Scalar.muli v574 c512_i32_258
  let v576 : BitVec 32 := v575
  let v577 : Index := Scalar.indexCast v576
  let c0_259 : Index := 0#32
  ![v577.toNat, 0]
def k0_mult11 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_t2 : Fin (k0_t2_loop i v46 v49 v52 v55 v58 v61 v64 v67 v70 v73 v76 v79 v82 v85 v88).trips) : BitVec 32 :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_255 : BitVec 32 := 2#32
  let c0_i32_239 : BitVec 32 := 0#32
  let c1_i32_241 : BitVec 32 := 1#32
  let arg10 : BitVec 32 := Scf.iv c0_i32_239 c1_i32_241 k0_t2
  let v568 : BitVec 32 := Scalar.muli c2_i32_255 arg10
  let v587 : BitVec 32 := Scalar.addi v304 v568
  let c2_i32_265 : BitVec 32 := 2#32
  let v588 : BitVec 1 := Scalar.cmpi .sge v587 v302
  let v589 : BitVec 32 := Scalar.extui v588
  let v590 : BitVec 32 := Scalar.muli c2_i32_265 v589
  let v591 : BitVec 32 := Scalar.addi v587 v590
  let c512_i32_266 : BitVec 32 := 512#32
  let v592 : BitVec 32 := Scalar.muli v591 c512_i32_266
  v592
def k0_off9 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_t2 : Fin (k0_t2_loop i v46 v49 v52 v55 v58 v61 v64 v67 v70 v73 v76 v79 v82 v85 v88).trips) : Fin 2 → Nat :=
  let c0_267 : Index := 0#32
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_255 : BitVec 32 := 2#32
  let c0_i32_239 : BitVec 32 := 0#32
  let c1_i32_241 : BitVec 32 := 1#32
  let arg10 : BitVec 32 := Scf.iv c0_i32_239 c1_i32_241 k0_t2
  let v568 : BitVec 32 := Scalar.muli c2_i32_255 arg10
  let v587 : BitVec 32 := Scalar.addi v304 v568
  let c2_i32_265 : BitVec 32 := 2#32
  let v588 : BitVec 1 := Scalar.cmpi .sge v587 v302
  let v589 : BitVec 32 := Scalar.extui v588
  let v590 : BitVec 32 := Scalar.muli c2_i32_265 v589
  let v591 : BitVec 32 := Scalar.addi v587 v590
  let c512_i32_266 : BitVec 32 := 512#32
  let v592 : BitVec 32 := Scalar.muli v591 c512_i32_266
  let v593 : BitVec 32 := v592
  let v594 : Index := Scalar.indexCast v593
  ![0, v594.toNat]
def k0_mult12 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_t2 : Fin (k0_t2_loop i v46 v49 v52 v55 v58 v61 v64 v67 v70 v73 v76 v79 v82 v85 v88).trips) : BitVec 32 :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_255 : BitVec 32 := 2#32
  let c0_i32_239 : BitVec 32 := 0#32
  let c1_i32_241 : BitVec 32 := 1#32
  let arg10 : BitVec 32 := Scf.iv c0_i32_239 c1_i32_241 k0_t2
  let v568 : BitVec 32 := Scalar.muli c2_i32_255 arg10
  let c1_i32_256 : BitVec 32 := 1#32
  let v569 : BitVec 32 := Scalar.addi v568 c1_i32_256
  let v623 : BitVec 32 := Scalar.addi v304 v569
  let c2_i32_277 : BitVec 32 := 2#32
  let v624 : BitVec 1 := Scalar.cmpi .sge v623 v302
  let v625 : BitVec 32 := Scalar.extui v624
  let v626 : BitVec 32 := Scalar.muli c2_i32_277 v625
  let v627 : BitVec 32 := Scalar.addi v623 v626
  let c512_i32_278 : BitVec 32 := 512#32
  let v628 : BitVec 32 := Scalar.muli v627 c512_i32_278
  v628
def k0_mult13 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_t2 : Fin (k0_t2_loop i v46 v49 v52 v55 v58 v61 v64 v67 v70 v73 v76 v79 v82 v85 v88).trips) : BitVec 32 :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_255 : BitVec 32 := 2#32
  let c0_i32_239 : BitVec 32 := 0#32
  let c1_i32_241 : BitVec 32 := 1#32
  let arg10 : BitVec 32 := Scf.iv c0_i32_239 c1_i32_241 k0_t2
  let v568 : BitVec 32 := Scalar.muli c2_i32_255 arg10
  let v640 : BitVec 32 := Scalar.addi v304 v568
  let c2_i32_285 : BitVec 32 := 2#32
  let v641 : BitVec 1 := Scalar.cmpi .sge v640 v302
  let v642 : BitVec 32 := Scalar.extui v641
  let v643 : BitVec 32 := Scalar.muli c2_i32_285 v642
  let v644 : BitVec 32 := Scalar.addi v640 v643
  let c512_i32_286 : BitVec 32 := 512#32
  let v645 : BitVec 32 := Scalar.muli v644 c512_i32_286
  v645
def k0_mult14 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_t2 : Fin (k0_t2_loop i v46 v49 v52 v55 v58 v61 v64 v67 v70 v73 v76 v79 v82 v85 v88).trips) : BitVec 32 :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_255 : BitVec 32 := 2#32
  let c0_i32_239 : BitVec 32 := 0#32
  let c1_i32_241 : BitVec 32 := 1#32
  let arg10 : BitVec 32 := Scf.iv c0_i32_239 c1_i32_241 k0_t2
  let v568 : BitVec 32 := Scalar.muli c2_i32_255 arg10
  let c2_i32_297 : BitVec 32 := 2#32
  let v676 : BitVec 32 := Scalar.addi v568 c2_i32_297
  let v678 : BitVec 32 := Scalar.addi v304 v676
  let c2_i32_299 : BitVec 32 := 2#32
  let v679 : BitVec 1 := Scalar.cmpi .sge v678 v302
  let v680 : BitVec 32 := Scalar.extui v679
  let v681 : BitVec 32 := Scalar.muli c2_i32_299 v680
  let v682 : BitVec 32 := Scalar.addi v678 v681
  let c512_i32_300 : BitVec 32 := 512#32
  let v683 : BitVec 32 := Scalar.muli v682 c512_i32_300
  v683
def k0_mult15 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_t2 : Fin (k0_t2_loop i v46 v49 v52 v55 v58 v61 v64 v67 v70 v73 v76 v79 v82 v85 v88).trips) : BitVec 32 :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_255 : BitVec 32 := 2#32
  let c0_i32_239 : BitVec 32 := 0#32
  let c1_i32_241 : BitVec 32 := 1#32
  let arg10 : BitVec 32 := Scf.iv c0_i32_239 c1_i32_241 k0_t2
  let v568 : BitVec 32 := Scalar.muli c2_i32_255 arg10
  let c1_i32_298 : BitVec 32 := 1#32
  let v677 : BitVec 32 := Scalar.addi v568 c1_i32_298
  let v695 : BitVec 32 := Scalar.addi v304 v677
  let c2_i32_307 : BitVec 32 := 2#32
  let v696 : BitVec 1 := Scalar.cmpi .sge v695 v302
  let v697 : BitVec 32 := Scalar.extui v696
  let v698 : BitVec 32 := Scalar.muli c2_i32_307 v697
  let v699 : BitVec 32 := Scalar.addi v695 v698
  let c512_i32_308 : BitVec 32 := 512#32
  let v700 : BitVec 32 := Scalar.muli v699 c512_i32_308
  v700
def k0_off10 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_t2 : Fin (k0_t2_loop i v46 v49 v52 v55 v58 v61 v64 v67 v70 v73 v76 v79 v82 v85 v88).trips) : Fin 2 → Nat :=
  let c0_309 : Index := 0#32
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_255 : BitVec 32 := 2#32
  let c0_i32_239 : BitVec 32 := 0#32
  let c1_i32_241 : BitVec 32 := 1#32
  let arg10 : BitVec 32 := Scf.iv c0_i32_239 c1_i32_241 k0_t2
  let v568 : BitVec 32 := Scalar.muli c2_i32_255 arg10
  let c1_i32_298 : BitVec 32 := 1#32
  let v677 : BitVec 32 := Scalar.addi v568 c1_i32_298
  let v695 : BitVec 32 := Scalar.addi v304 v677
  let c2_i32_307 : BitVec 32 := 2#32
  let v696 : BitVec 1 := Scalar.cmpi .sge v695 v302
  let v697 : BitVec 32 := Scalar.extui v696
  let v698 : BitVec 32 := Scalar.muli c2_i32_307 v697
  let v699 : BitVec 32 := Scalar.addi v695 v698
  let c512_i32_308 : BitVec 32 := 512#32
  let v700 : BitVec 32 := Scalar.muli v699 c512_i32_308
  let v701 : BitVec 32 := v700
  let v702 : Index := Scalar.indexCast v701
  ![0, v702.toNat]
def k0_mult16 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_t2 : Fin (k0_t2_loop i v46 v49 v52 v55 v58 v61 v64 v67 v70 v73 v76 v79 v82 v85 v88).trips) : BitVec 32 :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_255 : BitVec 32 := 2#32
  let c0_i32_239 : BitVec 32 := 0#32
  let c1_i32_241 : BitVec 32 := 1#32
  let arg10 : BitVec 32 := Scf.iv c0_i32_239 c1_i32_241 k0_t2
  let v568 : BitVec 32 := Scalar.muli c2_i32_255 arg10
  let c2_i32_297 : BitVec 32 := 2#32
  let v676 : BitVec 32 := Scalar.addi v568 c2_i32_297
  let v731 : BitVec 32 := Scalar.addi v304 v676
  let c2_i32_319 : BitVec 32 := 2#32
  let v732 : BitVec 1 := Scalar.cmpi .sge v731 v302
  let v733 : BitVec 32 := Scalar.extui v732
  let v734 : BitVec 32 := Scalar.muli c2_i32_319 v733
  let v735 : BitVec 32 := Scalar.addi v731 v734
  let c512_i32_320 : BitVec 32 := 512#32
  let v736 : BitVec 32 := Scalar.muli v735 c512_i32_320
  v736
def k0_mult17 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_t2 : Fin (k0_t2_loop i v46 v49 v52 v55 v58 v61 v64 v67 v70 v73 v76 v79 v82 v85 v88).trips) : BitVec 32 :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_255 : BitVec 32 := 2#32
  let c0_i32_239 : BitVec 32 := 0#32
  let c1_i32_241 : BitVec 32 := 1#32
  let arg10 : BitVec 32 := Scf.iv c0_i32_239 c1_i32_241 k0_t2
  let v568 : BitVec 32 := Scalar.muli c2_i32_255 arg10
  let c1_i32_298 : BitVec 32 := 1#32
  let v677 : BitVec 32 := Scalar.addi v568 c1_i32_298
  let v748 : BitVec 32 := Scalar.addi v304 v677
  let c2_i32_327 : BitVec 32 := 2#32
  let v749 : BitVec 1 := Scalar.cmpi .sge v748 v302
  let v750 : BitVec 32 := Scalar.extui v749
  let v751 : BitVec 32 := Scalar.muli c2_i32_327 v750
  let v752 : BitVec 32 := Scalar.addi v748 v751
  let c512_i32_328 : BitVec 32 := 512#32
  let v753 : BitVec 32 := Scalar.muli v752 c512_i32_328
  v753
@[reducible] def k0_t3_loop (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) : Scf.Loop 32 :=
  let c0_i32_239 : BitVec 32 := 0#32
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c2_i32_134 : BitVec 32 := 2#32
  let v305 : BitVec 32 := Scalar.addi v302 c2_i32_134
  let c1_i32_135 : BitVec 32 := 1#32
  let v306 : BitVec 32 := Scalar.subi v305 c1_i32_135
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v307 : BitVec 32 := Scalar.addi v306 v90
  let c15_i32 : BitVec 32 := 15#32
  let v308 : BitVec 32 := Scalar.minsi v307 c15_i32
  let v303 : BitVec 32 := Scalar.subi v302 v90
  let c0_i32_133 : BitVec 32 := 0#32
  let v304 : BitVec 32 := Scalar.maxsi v303 c0_i32_133
  let v309 : BitVec 32 := Scalar.subi v308 v304
  let c1_i32_136 : BitVec 32 := 1#32
  let v310 : BitVec 32 := Scalar.addi v309 c1_i32_136
  let c2_i32_137 : BitVec 32 := 2#32
  let v311 : BitVec 32 := Scalar.subi v310 c2_i32_137
  let c1_i32_231 : BitVec 32 := 1#32
  let v506 : BitVec 32 := Scalar.subi v311 c1_i32_231
  let c0_i32_233 : BitVec 32 := 0#32
  let v508 : BitVec 1 := Scalar.cmpi .sgt v506 c0_i32_233
  let v509 : BitVec 32 := Scalar.extui v508
  let c0_i32_234 : BitVec 32 := 0#32
  let v510 : BitVec 1 := Scalar.cmpi .slt v506 c0_i32_234
  let v511 : BitVec 32 := Scalar.extui v510
  let v512 : BitVec 32 := Scalar.subi v509 v511
  let c2_i32_232 : BitVec 32 := 2#32
  let c0_i32_235 : BitVec 32 := 0#32
  let v513 : BitVec 1 := Scalar.cmpi .sgt c2_i32_232 c0_i32_235
  let v514 : BitVec 32 := Scalar.extui v513
  let c0_i32_236 : BitVec 32 := 0#32
  let v515 : BitVec 1 := Scalar.cmpi .slt c2_i32_232 c0_i32_236
  let v516 : BitVec 32 := Scalar.extui v515
  let v517 : BitVec 32 := Scalar.subi v514 v516
  let v518 : BitVec 1 := Scalar.cmpi .ne v512 v517
  let v519 : BitVec 32 := Scalar.remsi v506 c2_i32_232
  let c0_i32_237 : BitVec 32 := 0#32
  let v520 : BitVec 1 := Scalar.cmpi .ne v519 c0_i32_237
  let v521 : BitVec 1 := Scalar.andi v518 v520
  let v507 : BitVec 32 := Scalar.divsi v506 c2_i32_232
  let c1_i32_238 : BitVec 32 := 1#32
  let v522 : BitVec 32 := Scalar.subi v507 c1_i32_238
  let v523 : BitVec 32 := Scalar.select v521 v522 v507
  let v524 : BitVec 32 := Scalar.subi v523 c0_i32_239
  let c1_i32_240 : BitVec 32 := 1#32
  let v526 : BitVec 32 := Scalar.divsi v524 c1_i32_240
  let v527 : BitVec 32 := Scalar.muli v526 c1_i32_240
  let v528 : BitVec 32 := Scalar.addi c0_i32_239 v527
  let v525 : BitVec 32 := Scalar.addi c0_i32_239 v524
  let c1_i32_242 : BitVec 32 := 1#32
  ⟨v528, v525, c1_i32_242⟩
def k0_mult18 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_t3 : Fin (k0_t3_loop i v46 v49 v52 v55 v58 v61 v64 v67 v70 v73 v76 v79 v82 v85 v88).trips) : BitVec 32 :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_255 : BitVec 32 := 2#32
  let c0_i32_239 : BitVec 32 := 0#32
  let c2_i32_134 : BitVec 32 := 2#32
  let v305 : BitVec 32 := Scalar.addi v302 c2_i32_134
  let c1_i32_135 : BitVec 32 := 1#32
  let v306 : BitVec 32 := Scalar.subi v305 c1_i32_135
  let v307 : BitVec 32 := Scalar.addi v306 v90
  let c15_i32 : BitVec 32 := 15#32
  let v308 : BitVec 32 := Scalar.minsi v307 c15_i32
  let v309 : BitVec 32 := Scalar.subi v308 v304
  let c1_i32_136 : BitVec 32 := 1#32
  let v310 : BitVec 32 := Scalar.addi v309 c1_i32_136
  let c2_i32_137 : BitVec 32 := 2#32
  let v311 : BitVec 32 := Scalar.subi v310 c2_i32_137
  let c1_i32_231 : BitVec 32 := 1#32
  let v506 : BitVec 32 := Scalar.subi v311 c1_i32_231
  let c0_i32_233 : BitVec 32 := 0#32
  let v508 : BitVec 1 := Scalar.cmpi .sgt v506 c0_i32_233
  let v509 : BitVec 32 := Scalar.extui v508
  let c0_i32_234 : BitVec 32 := 0#32
  let v510 : BitVec 1 := Scalar.cmpi .slt v506 c0_i32_234
  let v511 : BitVec 32 := Scalar.extui v510
  let v512 : BitVec 32 := Scalar.subi v509 v511
  let c2_i32_232 : BitVec 32 := 2#32
  let c0_i32_235 : BitVec 32 := 0#32
  let v513 : BitVec 1 := Scalar.cmpi .sgt c2_i32_232 c0_i32_235
  let v514 : BitVec 32 := Scalar.extui v513
  let c0_i32_236 : BitVec 32 := 0#32
  let v515 : BitVec 1 := Scalar.cmpi .slt c2_i32_232 c0_i32_236
  let v516 : BitVec 32 := Scalar.extui v515
  let v517 : BitVec 32 := Scalar.subi v514 v516
  let v518 : BitVec 1 := Scalar.cmpi .ne v512 v517
  let v519 : BitVec 32 := Scalar.remsi v506 c2_i32_232
  let c0_i32_237 : BitVec 32 := 0#32
  let v520 : BitVec 1 := Scalar.cmpi .ne v519 c0_i32_237
  let v521 : BitVec 1 := Scalar.andi v518 v520
  let v507 : BitVec 32 := Scalar.divsi v506 c2_i32_232
  let c1_i32_238 : BitVec 32 := 1#32
  let v522 : BitVec 32 := Scalar.subi v507 c1_i32_238
  let v523 : BitVec 32 := Scalar.select v521 v522 v507
  let v524 : BitVec 32 := Scalar.subi v523 c0_i32_239
  let c1_i32_240 : BitVec 32 := 1#32
  let v526 : BitVec 32 := Scalar.divsi v524 c1_i32_240
  let v527 : BitVec 32 := Scalar.muli v526 c1_i32_240
  let v528 : BitVec 32 := Scalar.addi c0_i32_239 v527
  let c1_i32_242 : BitVec 32 := 1#32
  let arg10 : BitVec 32 := Scf.iv v528 c1_i32_242 k0_t3
  let v568 : BitVec 32 := Scalar.muli c2_i32_255 arg10
  let c1_i32_256 : BitVec 32 := 1#32
  let v569 : BitVec 32 := Scalar.addi v568 c1_i32_256
  let v570 : BitVec 32 := Scalar.addi v304 v569
  let c2_i32_257 : BitVec 32 := 2#32
  let v571 : BitVec 1 := Scalar.cmpi .sge v570 v302
  let v572 : BitVec 32 := Scalar.extui v571
  let v573 : BitVec 32 := Scalar.muli c2_i32_257 v572
  let v574 : BitVec 32 := Scalar.addi v570 v573
  let c512_i32_258 : BitVec 32 := 512#32
  let v575 : BitVec 32 := Scalar.muli v574 c512_i32_258
  v575
def k0_off11 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_t3 : Fin (k0_t3_loop i v46 v49 v52 v55 v58 v61 v64 v67 v70 v73 v76 v79 v82 v85 v88).trips) (c1_i32_256 : BitVec 32) : Fin 2 → Nat :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_255 : BitVec 32 := 2#32
  let c0_i32_239 : BitVec 32 := 0#32
  let c2_i32_134 : BitVec 32 := 2#32
  let v305 : BitVec 32 := Scalar.addi v302 c2_i32_134
  let c1_i32_135 : BitVec 32 := 1#32
  let v306 : BitVec 32 := Scalar.subi v305 c1_i32_135
  let v307 : BitVec 32 := Scalar.addi v306 v90
  let c15_i32 : BitVec 32 := 15#32
  let v308 : BitVec 32 := Scalar.minsi v307 c15_i32
  let v309 : BitVec 32 := Scalar.subi v308 v304
  let c1_i32_136 : BitVec 32 := 1#32
  let v310 : BitVec 32 := Scalar.addi v309 c1_i32_136
  let c2_i32_137 : BitVec 32 := 2#32
  let v311 : BitVec 32 := Scalar.subi v310 c2_i32_137
  let c1_i32_231 : BitVec 32 := 1#32
  let v506 : BitVec 32 := Scalar.subi v311 c1_i32_231
  let c0_i32_233 : BitVec 32 := 0#32
  let v508 : BitVec 1 := Scalar.cmpi .sgt v506 c0_i32_233
  let v509 : BitVec 32 := Scalar.extui v508
  let c0_i32_234 : BitVec 32 := 0#32
  let v510 : BitVec 1 := Scalar.cmpi .slt v506 c0_i32_234
  let v511 : BitVec 32 := Scalar.extui v510
  let v512 : BitVec 32 := Scalar.subi v509 v511
  let c2_i32_232 : BitVec 32 := 2#32
  let c0_i32_235 : BitVec 32 := 0#32
  let v513 : BitVec 1 := Scalar.cmpi .sgt c2_i32_232 c0_i32_235
  let v514 : BitVec 32 := Scalar.extui v513
  let c0_i32_236 : BitVec 32 := 0#32
  let v515 : BitVec 1 := Scalar.cmpi .slt c2_i32_232 c0_i32_236
  let v516 : BitVec 32 := Scalar.extui v515
  let v517 : BitVec 32 := Scalar.subi v514 v516
  let v518 : BitVec 1 := Scalar.cmpi .ne v512 v517
  let v519 : BitVec 32 := Scalar.remsi v506 c2_i32_232
  let c0_i32_237 : BitVec 32 := 0#32
  let v520 : BitVec 1 := Scalar.cmpi .ne v519 c0_i32_237
  let v521 : BitVec 1 := Scalar.andi v518 v520
  let v507 : BitVec 32 := Scalar.divsi v506 c2_i32_232
  let c1_i32_238 : BitVec 32 := 1#32
  let v522 : BitVec 32 := Scalar.subi v507 c1_i32_238
  let v523 : BitVec 32 := Scalar.select v521 v522 v507
  let v524 : BitVec 32 := Scalar.subi v523 c0_i32_239
  let c1_i32_240 : BitVec 32 := 1#32
  let v526 : BitVec 32 := Scalar.divsi v524 c1_i32_240
  let v527 : BitVec 32 := Scalar.muli v526 c1_i32_240
  let v528 : BitVec 32 := Scalar.addi c0_i32_239 v527
  let c1_i32_242 : BitVec 32 := 1#32
  let arg10 : BitVec 32 := Scf.iv v528 c1_i32_242 k0_t3
  let v568 : BitVec 32 := Scalar.muli c2_i32_255 arg10
  let v569 : BitVec 32 := Scalar.addi v568 c1_i32_256
  let v570 : BitVec 32 := Scalar.addi v304 v569
  let c2_i32_257 : BitVec 32 := 2#32
  let v571 : BitVec 1 := Scalar.cmpi .sge v570 v302
  let v572 : BitVec 32 := Scalar.extui v571
  let v573 : BitVec 32 := Scalar.muli c2_i32_257 v572
  let v574 : BitVec 32 := Scalar.addi v570 v573
  let c512_i32_258 : BitVec 32 := 512#32
  let v575 : BitVec 32 := Scalar.muli v574 c512_i32_258
  let v576 : BitVec 32 := v575
  let v577 : Index := Scalar.indexCast v576
  let c0_259 : Index := 0#32
  ![v577.toNat, 0]
def k0_mult19 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_t3 : Fin (k0_t3_loop i v46 v49 v52 v55 v58 v61 v64 v67 v70 v73 v76 v79 v82 v85 v88).trips) : BitVec 32 :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_255 : BitVec 32 := 2#32
  let c0_i32_239 : BitVec 32 := 0#32
  let c2_i32_134 : BitVec 32 := 2#32
  let v305 : BitVec 32 := Scalar.addi v302 c2_i32_134
  let c1_i32_135 : BitVec 32 := 1#32
  let v306 : BitVec 32 := Scalar.subi v305 c1_i32_135
  let v307 : BitVec 32 := Scalar.addi v306 v90
  let c15_i32 : BitVec 32 := 15#32
  let v308 : BitVec 32 := Scalar.minsi v307 c15_i32
  let v309 : BitVec 32 := Scalar.subi v308 v304
  let c1_i32_136 : BitVec 32 := 1#32
  let v310 : BitVec 32 := Scalar.addi v309 c1_i32_136
  let c2_i32_137 : BitVec 32 := 2#32
  let v311 : BitVec 32 := Scalar.subi v310 c2_i32_137
  let c1_i32_231 : BitVec 32 := 1#32
  let v506 : BitVec 32 := Scalar.subi v311 c1_i32_231
  let c0_i32_233 : BitVec 32 := 0#32
  let v508 : BitVec 1 := Scalar.cmpi .sgt v506 c0_i32_233
  let v509 : BitVec 32 := Scalar.extui v508
  let c0_i32_234 : BitVec 32 := 0#32
  let v510 : BitVec 1 := Scalar.cmpi .slt v506 c0_i32_234
  let v511 : BitVec 32 := Scalar.extui v510
  let v512 : BitVec 32 := Scalar.subi v509 v511
  let c2_i32_232 : BitVec 32 := 2#32
  let c0_i32_235 : BitVec 32 := 0#32
  let v513 : BitVec 1 := Scalar.cmpi .sgt c2_i32_232 c0_i32_235
  let v514 : BitVec 32 := Scalar.extui v513
  let c0_i32_236 : BitVec 32 := 0#32
  let v515 : BitVec 1 := Scalar.cmpi .slt c2_i32_232 c0_i32_236
  let v516 : BitVec 32 := Scalar.extui v515
  let v517 : BitVec 32 := Scalar.subi v514 v516
  let v518 : BitVec 1 := Scalar.cmpi .ne v512 v517
  let v519 : BitVec 32 := Scalar.remsi v506 c2_i32_232
  let c0_i32_237 : BitVec 32 := 0#32
  let v520 : BitVec 1 := Scalar.cmpi .ne v519 c0_i32_237
  let v521 : BitVec 1 := Scalar.andi v518 v520
  let v507 : BitVec 32 := Scalar.divsi v506 c2_i32_232
  let c1_i32_238 : BitVec 32 := 1#32
  let v522 : BitVec 32 := Scalar.subi v507 c1_i32_238
  let v523 : BitVec 32 := Scalar.select v521 v522 v507
  let v524 : BitVec 32 := Scalar.subi v523 c0_i32_239
  let c1_i32_240 : BitVec 32 := 1#32
  let v526 : BitVec 32 := Scalar.divsi v524 c1_i32_240
  let v527 : BitVec 32 := Scalar.muli v526 c1_i32_240
  let v528 : BitVec 32 := Scalar.addi c0_i32_239 v527
  let c1_i32_242 : BitVec 32 := 1#32
  let arg10 : BitVec 32 := Scf.iv v528 c1_i32_242 k0_t3
  let v568 : BitVec 32 := Scalar.muli c2_i32_255 arg10
  let v587 : BitVec 32 := Scalar.addi v304 v568
  let c2_i32_265 : BitVec 32 := 2#32
  let v588 : BitVec 1 := Scalar.cmpi .sge v587 v302
  let v589 : BitVec 32 := Scalar.extui v588
  let v590 : BitVec 32 := Scalar.muli c2_i32_265 v589
  let v591 : BitVec 32 := Scalar.addi v587 v590
  let c512_i32_266 : BitVec 32 := 512#32
  let v592 : BitVec 32 := Scalar.muli v591 c512_i32_266
  v592
def k0_off12 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_t3 : Fin (k0_t3_loop i v46 v49 v52 v55 v58 v61 v64 v67 v70 v73 v76 v79 v82 v85 v88).trips) : Fin 2 → Nat :=
  let c0_267 : Index := 0#32
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_255 : BitVec 32 := 2#32
  let c0_i32_239 : BitVec 32 := 0#32
  let c2_i32_134 : BitVec 32 := 2#32
  let v305 : BitVec 32 := Scalar.addi v302 c2_i32_134
  let c1_i32_135 : BitVec 32 := 1#32
  let v306 : BitVec 32 := Scalar.subi v305 c1_i32_135
  let v307 : BitVec 32 := Scalar.addi v306 v90
  let c15_i32 : BitVec 32 := 15#32
  let v308 : BitVec 32 := Scalar.minsi v307 c15_i32
  let v309 : BitVec 32 := Scalar.subi v308 v304
  let c1_i32_136 : BitVec 32 := 1#32
  let v310 : BitVec 32 := Scalar.addi v309 c1_i32_136
  let c2_i32_137 : BitVec 32 := 2#32
  let v311 : BitVec 32 := Scalar.subi v310 c2_i32_137
  let c1_i32_231 : BitVec 32 := 1#32
  let v506 : BitVec 32 := Scalar.subi v311 c1_i32_231
  let c0_i32_233 : BitVec 32 := 0#32
  let v508 : BitVec 1 := Scalar.cmpi .sgt v506 c0_i32_233
  let v509 : BitVec 32 := Scalar.extui v508
  let c0_i32_234 : BitVec 32 := 0#32
  let v510 : BitVec 1 := Scalar.cmpi .slt v506 c0_i32_234
  let v511 : BitVec 32 := Scalar.extui v510
  let v512 : BitVec 32 := Scalar.subi v509 v511
  let c2_i32_232 : BitVec 32 := 2#32
  let c0_i32_235 : BitVec 32 := 0#32
  let v513 : BitVec 1 := Scalar.cmpi .sgt c2_i32_232 c0_i32_235
  let v514 : BitVec 32 := Scalar.extui v513
  let c0_i32_236 : BitVec 32 := 0#32
  let v515 : BitVec 1 := Scalar.cmpi .slt c2_i32_232 c0_i32_236
  let v516 : BitVec 32 := Scalar.extui v515
  let v517 : BitVec 32 := Scalar.subi v514 v516
  let v518 : BitVec 1 := Scalar.cmpi .ne v512 v517
  let v519 : BitVec 32 := Scalar.remsi v506 c2_i32_232
  let c0_i32_237 : BitVec 32 := 0#32
  let v520 : BitVec 1 := Scalar.cmpi .ne v519 c0_i32_237
  let v521 : BitVec 1 := Scalar.andi v518 v520
  let v507 : BitVec 32 := Scalar.divsi v506 c2_i32_232
  let c1_i32_238 : BitVec 32 := 1#32
  let v522 : BitVec 32 := Scalar.subi v507 c1_i32_238
  let v523 : BitVec 32 := Scalar.select v521 v522 v507
  let v524 : BitVec 32 := Scalar.subi v523 c0_i32_239
  let c1_i32_240 : BitVec 32 := 1#32
  let v526 : BitVec 32 := Scalar.divsi v524 c1_i32_240
  let v527 : BitVec 32 := Scalar.muli v526 c1_i32_240
  let v528 : BitVec 32 := Scalar.addi c0_i32_239 v527
  let c1_i32_242 : BitVec 32 := 1#32
  let arg10 : BitVec 32 := Scf.iv v528 c1_i32_242 k0_t3
  let v568 : BitVec 32 := Scalar.muli c2_i32_255 arg10
  let v587 : BitVec 32 := Scalar.addi v304 v568
  let c2_i32_265 : BitVec 32 := 2#32
  let v588 : BitVec 1 := Scalar.cmpi .sge v587 v302
  let v589 : BitVec 32 := Scalar.extui v588
  let v590 : BitVec 32 := Scalar.muli c2_i32_265 v589
  let v591 : BitVec 32 := Scalar.addi v587 v590
  let c512_i32_266 : BitVec 32 := 512#32
  let v592 : BitVec 32 := Scalar.muli v591 c512_i32_266
  let v593 : BitVec 32 := v592
  let v594 : Index := Scalar.indexCast v593
  ![0, v594.toNat]
def k0_mult20 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_t3 : Fin (k0_t3_loop i v46 v49 v52 v55 v58 v61 v64 v67 v70 v73 v76 v79 v82 v85 v88).trips) : BitVec 32 :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_255 : BitVec 32 := 2#32
  let c0_i32_239 : BitVec 32 := 0#32
  let c2_i32_134 : BitVec 32 := 2#32
  let v305 : BitVec 32 := Scalar.addi v302 c2_i32_134
  let c1_i32_135 : BitVec 32 := 1#32
  let v306 : BitVec 32 := Scalar.subi v305 c1_i32_135
  let v307 : BitVec 32 := Scalar.addi v306 v90
  let c15_i32 : BitVec 32 := 15#32
  let v308 : BitVec 32 := Scalar.minsi v307 c15_i32
  let v309 : BitVec 32 := Scalar.subi v308 v304
  let c1_i32_136 : BitVec 32 := 1#32
  let v310 : BitVec 32 := Scalar.addi v309 c1_i32_136
  let c2_i32_137 : BitVec 32 := 2#32
  let v311 : BitVec 32 := Scalar.subi v310 c2_i32_137
  let c1_i32_231 : BitVec 32 := 1#32
  let v506 : BitVec 32 := Scalar.subi v311 c1_i32_231
  let c0_i32_233 : BitVec 32 := 0#32
  let v508 : BitVec 1 := Scalar.cmpi .sgt v506 c0_i32_233
  let v509 : BitVec 32 := Scalar.extui v508
  let c0_i32_234 : BitVec 32 := 0#32
  let v510 : BitVec 1 := Scalar.cmpi .slt v506 c0_i32_234
  let v511 : BitVec 32 := Scalar.extui v510
  let v512 : BitVec 32 := Scalar.subi v509 v511
  let c2_i32_232 : BitVec 32 := 2#32
  let c0_i32_235 : BitVec 32 := 0#32
  let v513 : BitVec 1 := Scalar.cmpi .sgt c2_i32_232 c0_i32_235
  let v514 : BitVec 32 := Scalar.extui v513
  let c0_i32_236 : BitVec 32 := 0#32
  let v515 : BitVec 1 := Scalar.cmpi .slt c2_i32_232 c0_i32_236
  let v516 : BitVec 32 := Scalar.extui v515
  let v517 : BitVec 32 := Scalar.subi v514 v516
  let v518 : BitVec 1 := Scalar.cmpi .ne v512 v517
  let v519 : BitVec 32 := Scalar.remsi v506 c2_i32_232
  let c0_i32_237 : BitVec 32 := 0#32
  let v520 : BitVec 1 := Scalar.cmpi .ne v519 c0_i32_237
  let v521 : BitVec 1 := Scalar.andi v518 v520
  let v507 : BitVec 32 := Scalar.divsi v506 c2_i32_232
  let c1_i32_238 : BitVec 32 := 1#32
  let v522 : BitVec 32 := Scalar.subi v507 c1_i32_238
  let v523 : BitVec 32 := Scalar.select v521 v522 v507
  let v524 : BitVec 32 := Scalar.subi v523 c0_i32_239
  let c1_i32_240 : BitVec 32 := 1#32
  let v526 : BitVec 32 := Scalar.divsi v524 c1_i32_240
  let v527 : BitVec 32 := Scalar.muli v526 c1_i32_240
  let v528 : BitVec 32 := Scalar.addi c0_i32_239 v527
  let c1_i32_242 : BitVec 32 := 1#32
  let arg10 : BitVec 32 := Scf.iv v528 c1_i32_242 k0_t3
  let v568 : BitVec 32 := Scalar.muli c2_i32_255 arg10
  let c1_i32_256 : BitVec 32 := 1#32
  let v569 : BitVec 32 := Scalar.addi v568 c1_i32_256
  let v623 : BitVec 32 := Scalar.addi v304 v569
  let c2_i32_277 : BitVec 32 := 2#32
  let v624 : BitVec 1 := Scalar.cmpi .sge v623 v302
  let v625 : BitVec 32 := Scalar.extui v624
  let v626 : BitVec 32 := Scalar.muli c2_i32_277 v625
  let v627 : BitVec 32 := Scalar.addi v623 v626
  let c512_i32_278 : BitVec 32 := 512#32
  let v628 : BitVec 32 := Scalar.muli v627 c512_i32_278
  v628
def k0_mult21 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_t3 : Fin (k0_t3_loop i v46 v49 v52 v55 v58 v61 v64 v67 v70 v73 v76 v79 v82 v85 v88).trips) : BitVec 32 :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_255 : BitVec 32 := 2#32
  let c0_i32_239 : BitVec 32 := 0#32
  let c2_i32_134 : BitVec 32 := 2#32
  let v305 : BitVec 32 := Scalar.addi v302 c2_i32_134
  let c1_i32_135 : BitVec 32 := 1#32
  let v306 : BitVec 32 := Scalar.subi v305 c1_i32_135
  let v307 : BitVec 32 := Scalar.addi v306 v90
  let c15_i32 : BitVec 32 := 15#32
  let v308 : BitVec 32 := Scalar.minsi v307 c15_i32
  let v309 : BitVec 32 := Scalar.subi v308 v304
  let c1_i32_136 : BitVec 32 := 1#32
  let v310 : BitVec 32 := Scalar.addi v309 c1_i32_136
  let c2_i32_137 : BitVec 32 := 2#32
  let v311 : BitVec 32 := Scalar.subi v310 c2_i32_137
  let c1_i32_231 : BitVec 32 := 1#32
  let v506 : BitVec 32 := Scalar.subi v311 c1_i32_231
  let c0_i32_233 : BitVec 32 := 0#32
  let v508 : BitVec 1 := Scalar.cmpi .sgt v506 c0_i32_233
  let v509 : BitVec 32 := Scalar.extui v508
  let c0_i32_234 : BitVec 32 := 0#32
  let v510 : BitVec 1 := Scalar.cmpi .slt v506 c0_i32_234
  let v511 : BitVec 32 := Scalar.extui v510
  let v512 : BitVec 32 := Scalar.subi v509 v511
  let c2_i32_232 : BitVec 32 := 2#32
  let c0_i32_235 : BitVec 32 := 0#32
  let v513 : BitVec 1 := Scalar.cmpi .sgt c2_i32_232 c0_i32_235
  let v514 : BitVec 32 := Scalar.extui v513
  let c0_i32_236 : BitVec 32 := 0#32
  let v515 : BitVec 1 := Scalar.cmpi .slt c2_i32_232 c0_i32_236
  let v516 : BitVec 32 := Scalar.extui v515
  let v517 : BitVec 32 := Scalar.subi v514 v516
  let v518 : BitVec 1 := Scalar.cmpi .ne v512 v517
  let v519 : BitVec 32 := Scalar.remsi v506 c2_i32_232
  let c0_i32_237 : BitVec 32 := 0#32
  let v520 : BitVec 1 := Scalar.cmpi .ne v519 c0_i32_237
  let v521 : BitVec 1 := Scalar.andi v518 v520
  let v507 : BitVec 32 := Scalar.divsi v506 c2_i32_232
  let c1_i32_238 : BitVec 32 := 1#32
  let v522 : BitVec 32 := Scalar.subi v507 c1_i32_238
  let v523 : BitVec 32 := Scalar.select v521 v522 v507
  let v524 : BitVec 32 := Scalar.subi v523 c0_i32_239
  let c1_i32_240 : BitVec 32 := 1#32
  let v526 : BitVec 32 := Scalar.divsi v524 c1_i32_240
  let v527 : BitVec 32 := Scalar.muli v526 c1_i32_240
  let v528 : BitVec 32 := Scalar.addi c0_i32_239 v527
  let c1_i32_242 : BitVec 32 := 1#32
  let arg10 : BitVec 32 := Scf.iv v528 c1_i32_242 k0_t3
  let v568 : BitVec 32 := Scalar.muli c2_i32_255 arg10
  let v640 : BitVec 32 := Scalar.addi v304 v568
  let c2_i32_285 : BitVec 32 := 2#32
  let v641 : BitVec 1 := Scalar.cmpi .sge v640 v302
  let v642 : BitVec 32 := Scalar.extui v641
  let v643 : BitVec 32 := Scalar.muli c2_i32_285 v642
  let v644 : BitVec 32 := Scalar.addi v640 v643
  let c512_i32_286 : BitVec 32 := 512#32
  let v645 : BitVec 32 := Scalar.muli v644 c512_i32_286
  v645
def k0_mult22 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_t3 : Fin (k0_t3_loop i v46 v49 v52 v55 v58 v61 v64 v67 v70 v73 v76 v79 v82 v85 v88).trips) : BitVec 32 :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_255 : BitVec 32 := 2#32
  let c0_i32_239 : BitVec 32 := 0#32
  let c2_i32_134 : BitVec 32 := 2#32
  let v305 : BitVec 32 := Scalar.addi v302 c2_i32_134
  let c1_i32_135 : BitVec 32 := 1#32
  let v306 : BitVec 32 := Scalar.subi v305 c1_i32_135
  let v307 : BitVec 32 := Scalar.addi v306 v90
  let c15_i32 : BitVec 32 := 15#32
  let v308 : BitVec 32 := Scalar.minsi v307 c15_i32
  let v309 : BitVec 32 := Scalar.subi v308 v304
  let c1_i32_136 : BitVec 32 := 1#32
  let v310 : BitVec 32 := Scalar.addi v309 c1_i32_136
  let c2_i32_137 : BitVec 32 := 2#32
  let v311 : BitVec 32 := Scalar.subi v310 c2_i32_137
  let c1_i32_231 : BitVec 32 := 1#32
  let v506 : BitVec 32 := Scalar.subi v311 c1_i32_231
  let c0_i32_233 : BitVec 32 := 0#32
  let v508 : BitVec 1 := Scalar.cmpi .sgt v506 c0_i32_233
  let v509 : BitVec 32 := Scalar.extui v508
  let c0_i32_234 : BitVec 32 := 0#32
  let v510 : BitVec 1 := Scalar.cmpi .slt v506 c0_i32_234
  let v511 : BitVec 32 := Scalar.extui v510
  let v512 : BitVec 32 := Scalar.subi v509 v511
  let c2_i32_232 : BitVec 32 := 2#32
  let c0_i32_235 : BitVec 32 := 0#32
  let v513 : BitVec 1 := Scalar.cmpi .sgt c2_i32_232 c0_i32_235
  let v514 : BitVec 32 := Scalar.extui v513
  let c0_i32_236 : BitVec 32 := 0#32
  let v515 : BitVec 1 := Scalar.cmpi .slt c2_i32_232 c0_i32_236
  let v516 : BitVec 32 := Scalar.extui v515
  let v517 : BitVec 32 := Scalar.subi v514 v516
  let v518 : BitVec 1 := Scalar.cmpi .ne v512 v517
  let v519 : BitVec 32 := Scalar.remsi v506 c2_i32_232
  let c0_i32_237 : BitVec 32 := 0#32
  let v520 : BitVec 1 := Scalar.cmpi .ne v519 c0_i32_237
  let v521 : BitVec 1 := Scalar.andi v518 v520
  let v507 : BitVec 32 := Scalar.divsi v506 c2_i32_232
  let c1_i32_238 : BitVec 32 := 1#32
  let v522 : BitVec 32 := Scalar.subi v507 c1_i32_238
  let v523 : BitVec 32 := Scalar.select v521 v522 v507
  let v524 : BitVec 32 := Scalar.subi v523 c0_i32_239
  let c1_i32_240 : BitVec 32 := 1#32
  let v526 : BitVec 32 := Scalar.divsi v524 c1_i32_240
  let v527 : BitVec 32 := Scalar.muli v526 c1_i32_240
  let v528 : BitVec 32 := Scalar.addi c0_i32_239 v527
  let c1_i32_242 : BitVec 32 := 1#32
  let arg10 : BitVec 32 := Scf.iv v528 c1_i32_242 k0_t3
  let v568 : BitVec 32 := Scalar.muli c2_i32_255 arg10
  let c2_i32_297 : BitVec 32 := 2#32
  let v676 : BitVec 32 := Scalar.addi v568 c2_i32_297
  let v678 : BitVec 32 := Scalar.addi v304 v676
  let c2_i32_299 : BitVec 32 := 2#32
  let v679 : BitVec 1 := Scalar.cmpi .sge v678 v302
  let v680 : BitVec 32 := Scalar.extui v679
  let v681 : BitVec 32 := Scalar.muli c2_i32_299 v680
  let v682 : BitVec 32 := Scalar.addi v678 v681
  let c512_i32_300 : BitVec 32 := 512#32
  let v683 : BitVec 32 := Scalar.muli v682 c512_i32_300
  v683
def k0_mult23 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_t3 : Fin (k0_t3_loop i v46 v49 v52 v55 v58 v61 v64 v67 v70 v73 v76 v79 v82 v85 v88).trips) : BitVec 32 :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_255 : BitVec 32 := 2#32
  let c0_i32_239 : BitVec 32 := 0#32
  let c2_i32_134 : BitVec 32 := 2#32
  let v305 : BitVec 32 := Scalar.addi v302 c2_i32_134
  let c1_i32_135 : BitVec 32 := 1#32
  let v306 : BitVec 32 := Scalar.subi v305 c1_i32_135
  let v307 : BitVec 32 := Scalar.addi v306 v90
  let c15_i32 : BitVec 32 := 15#32
  let v308 : BitVec 32 := Scalar.minsi v307 c15_i32
  let v309 : BitVec 32 := Scalar.subi v308 v304
  let c1_i32_136 : BitVec 32 := 1#32
  let v310 : BitVec 32 := Scalar.addi v309 c1_i32_136
  let c2_i32_137 : BitVec 32 := 2#32
  let v311 : BitVec 32 := Scalar.subi v310 c2_i32_137
  let c1_i32_231 : BitVec 32 := 1#32
  let v506 : BitVec 32 := Scalar.subi v311 c1_i32_231
  let c0_i32_233 : BitVec 32 := 0#32
  let v508 : BitVec 1 := Scalar.cmpi .sgt v506 c0_i32_233
  let v509 : BitVec 32 := Scalar.extui v508
  let c0_i32_234 : BitVec 32 := 0#32
  let v510 : BitVec 1 := Scalar.cmpi .slt v506 c0_i32_234
  let v511 : BitVec 32 := Scalar.extui v510
  let v512 : BitVec 32 := Scalar.subi v509 v511
  let c2_i32_232 : BitVec 32 := 2#32
  let c0_i32_235 : BitVec 32 := 0#32
  let v513 : BitVec 1 := Scalar.cmpi .sgt c2_i32_232 c0_i32_235
  let v514 : BitVec 32 := Scalar.extui v513
  let c0_i32_236 : BitVec 32 := 0#32
  let v515 : BitVec 1 := Scalar.cmpi .slt c2_i32_232 c0_i32_236
  let v516 : BitVec 32 := Scalar.extui v515
  let v517 : BitVec 32 := Scalar.subi v514 v516
  let v518 : BitVec 1 := Scalar.cmpi .ne v512 v517
  let v519 : BitVec 32 := Scalar.remsi v506 c2_i32_232
  let c0_i32_237 : BitVec 32 := 0#32
  let v520 : BitVec 1 := Scalar.cmpi .ne v519 c0_i32_237
  let v521 : BitVec 1 := Scalar.andi v518 v520
  let v507 : BitVec 32 := Scalar.divsi v506 c2_i32_232
  let c1_i32_238 : BitVec 32 := 1#32
  let v522 : BitVec 32 := Scalar.subi v507 c1_i32_238
  let v523 : BitVec 32 := Scalar.select v521 v522 v507
  let v524 : BitVec 32 := Scalar.subi v523 c0_i32_239
  let c1_i32_240 : BitVec 32 := 1#32
  let v526 : BitVec 32 := Scalar.divsi v524 c1_i32_240
  let v527 : BitVec 32 := Scalar.muli v526 c1_i32_240
  let v528 : BitVec 32 := Scalar.addi c0_i32_239 v527
  let c1_i32_242 : BitVec 32 := 1#32
  let arg10 : BitVec 32 := Scf.iv v528 c1_i32_242 k0_t3
  let v568 : BitVec 32 := Scalar.muli c2_i32_255 arg10
  let c1_i32_298 : BitVec 32 := 1#32
  let v677 : BitVec 32 := Scalar.addi v568 c1_i32_298
  let v695 : BitVec 32 := Scalar.addi v304 v677
  let c2_i32_307 : BitVec 32 := 2#32
  let v696 : BitVec 1 := Scalar.cmpi .sge v695 v302
  let v697 : BitVec 32 := Scalar.extui v696
  let v698 : BitVec 32 := Scalar.muli c2_i32_307 v697
  let v699 : BitVec 32 := Scalar.addi v695 v698
  let c512_i32_308 : BitVec 32 := 512#32
  let v700 : BitVec 32 := Scalar.muli v699 c512_i32_308
  v700
def k0_off13 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_t3 : Fin (k0_t3_loop i v46 v49 v52 v55 v58 v61 v64 v67 v70 v73 v76 v79 v82 v85 v88).trips) : Fin 2 → Nat :=
  let c0_309 : Index := 0#32
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_255 : BitVec 32 := 2#32
  let c0_i32_239 : BitVec 32 := 0#32
  let c2_i32_134 : BitVec 32 := 2#32
  let v305 : BitVec 32 := Scalar.addi v302 c2_i32_134
  let c1_i32_135 : BitVec 32 := 1#32
  let v306 : BitVec 32 := Scalar.subi v305 c1_i32_135
  let v307 : BitVec 32 := Scalar.addi v306 v90
  let c15_i32 : BitVec 32 := 15#32
  let v308 : BitVec 32 := Scalar.minsi v307 c15_i32
  let v309 : BitVec 32 := Scalar.subi v308 v304
  let c1_i32_136 : BitVec 32 := 1#32
  let v310 : BitVec 32 := Scalar.addi v309 c1_i32_136
  let c2_i32_137 : BitVec 32 := 2#32
  let v311 : BitVec 32 := Scalar.subi v310 c2_i32_137
  let c1_i32_231 : BitVec 32 := 1#32
  let v506 : BitVec 32 := Scalar.subi v311 c1_i32_231
  let c0_i32_233 : BitVec 32 := 0#32
  let v508 : BitVec 1 := Scalar.cmpi .sgt v506 c0_i32_233
  let v509 : BitVec 32 := Scalar.extui v508
  let c0_i32_234 : BitVec 32 := 0#32
  let v510 : BitVec 1 := Scalar.cmpi .slt v506 c0_i32_234
  let v511 : BitVec 32 := Scalar.extui v510
  let v512 : BitVec 32 := Scalar.subi v509 v511
  let c2_i32_232 : BitVec 32 := 2#32
  let c0_i32_235 : BitVec 32 := 0#32
  let v513 : BitVec 1 := Scalar.cmpi .sgt c2_i32_232 c0_i32_235
  let v514 : BitVec 32 := Scalar.extui v513
  let c0_i32_236 : BitVec 32 := 0#32
  let v515 : BitVec 1 := Scalar.cmpi .slt c2_i32_232 c0_i32_236
  let v516 : BitVec 32 := Scalar.extui v515
  let v517 : BitVec 32 := Scalar.subi v514 v516
  let v518 : BitVec 1 := Scalar.cmpi .ne v512 v517
  let v519 : BitVec 32 := Scalar.remsi v506 c2_i32_232
  let c0_i32_237 : BitVec 32 := 0#32
  let v520 : BitVec 1 := Scalar.cmpi .ne v519 c0_i32_237
  let v521 : BitVec 1 := Scalar.andi v518 v520
  let v507 : BitVec 32 := Scalar.divsi v506 c2_i32_232
  let c1_i32_238 : BitVec 32 := 1#32
  let v522 : BitVec 32 := Scalar.subi v507 c1_i32_238
  let v523 : BitVec 32 := Scalar.select v521 v522 v507
  let v524 : BitVec 32 := Scalar.subi v523 c0_i32_239
  let c1_i32_240 : BitVec 32 := 1#32
  let v526 : BitVec 32 := Scalar.divsi v524 c1_i32_240
  let v527 : BitVec 32 := Scalar.muli v526 c1_i32_240
  let v528 : BitVec 32 := Scalar.addi c0_i32_239 v527
  let c1_i32_242 : BitVec 32 := 1#32
  let arg10 : BitVec 32 := Scf.iv v528 c1_i32_242 k0_t3
  let v568 : BitVec 32 := Scalar.muli c2_i32_255 arg10
  let c1_i32_298 : BitVec 32 := 1#32
  let v677 : BitVec 32 := Scalar.addi v568 c1_i32_298
  let v695 : BitVec 32 := Scalar.addi v304 v677
  let c2_i32_307 : BitVec 32 := 2#32
  let v696 : BitVec 1 := Scalar.cmpi .sge v695 v302
  let v697 : BitVec 32 := Scalar.extui v696
  let v698 : BitVec 32 := Scalar.muli c2_i32_307 v697
  let v699 : BitVec 32 := Scalar.addi v695 v698
  let c512_i32_308 : BitVec 32 := 512#32
  let v700 : BitVec 32 := Scalar.muli v699 c512_i32_308
  let v701 : BitVec 32 := v700
  let v702 : Index := Scalar.indexCast v701
  ![0, v702.toNat]
def k0_mult24 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_t3 : Fin (k0_t3_loop i v46 v49 v52 v55 v58 v61 v64 v67 v70 v73 v76 v79 v82 v85 v88).trips) : BitVec 32 :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_255 : BitVec 32 := 2#32
  let c0_i32_239 : BitVec 32 := 0#32
  let c2_i32_134 : BitVec 32 := 2#32
  let v305 : BitVec 32 := Scalar.addi v302 c2_i32_134
  let c1_i32_135 : BitVec 32 := 1#32
  let v306 : BitVec 32 := Scalar.subi v305 c1_i32_135
  let v307 : BitVec 32 := Scalar.addi v306 v90
  let c15_i32 : BitVec 32 := 15#32
  let v308 : BitVec 32 := Scalar.minsi v307 c15_i32
  let v309 : BitVec 32 := Scalar.subi v308 v304
  let c1_i32_136 : BitVec 32 := 1#32
  let v310 : BitVec 32 := Scalar.addi v309 c1_i32_136
  let c2_i32_137 : BitVec 32 := 2#32
  let v311 : BitVec 32 := Scalar.subi v310 c2_i32_137
  let c1_i32_231 : BitVec 32 := 1#32
  let v506 : BitVec 32 := Scalar.subi v311 c1_i32_231
  let c0_i32_233 : BitVec 32 := 0#32
  let v508 : BitVec 1 := Scalar.cmpi .sgt v506 c0_i32_233
  let v509 : BitVec 32 := Scalar.extui v508
  let c0_i32_234 : BitVec 32 := 0#32
  let v510 : BitVec 1 := Scalar.cmpi .slt v506 c0_i32_234
  let v511 : BitVec 32 := Scalar.extui v510
  let v512 : BitVec 32 := Scalar.subi v509 v511
  let c2_i32_232 : BitVec 32 := 2#32
  let c0_i32_235 : BitVec 32 := 0#32
  let v513 : BitVec 1 := Scalar.cmpi .sgt c2_i32_232 c0_i32_235
  let v514 : BitVec 32 := Scalar.extui v513
  let c0_i32_236 : BitVec 32 := 0#32
  let v515 : BitVec 1 := Scalar.cmpi .slt c2_i32_232 c0_i32_236
  let v516 : BitVec 32 := Scalar.extui v515
  let v517 : BitVec 32 := Scalar.subi v514 v516
  let v518 : BitVec 1 := Scalar.cmpi .ne v512 v517
  let v519 : BitVec 32 := Scalar.remsi v506 c2_i32_232
  let c0_i32_237 : BitVec 32 := 0#32
  let v520 : BitVec 1 := Scalar.cmpi .ne v519 c0_i32_237
  let v521 : BitVec 1 := Scalar.andi v518 v520
  let v507 : BitVec 32 := Scalar.divsi v506 c2_i32_232
  let c1_i32_238 : BitVec 32 := 1#32
  let v522 : BitVec 32 := Scalar.subi v507 c1_i32_238
  let v523 : BitVec 32 := Scalar.select v521 v522 v507
  let v524 : BitVec 32 := Scalar.subi v523 c0_i32_239
  let c1_i32_240 : BitVec 32 := 1#32
  let v526 : BitVec 32 := Scalar.divsi v524 c1_i32_240
  let v527 : BitVec 32 := Scalar.muli v526 c1_i32_240
  let v528 : BitVec 32 := Scalar.addi c0_i32_239 v527
  let c1_i32_242 : BitVec 32 := 1#32
  let arg10 : BitVec 32 := Scf.iv v528 c1_i32_242 k0_t3
  let v568 : BitVec 32 := Scalar.muli c2_i32_255 arg10
  let c2_i32_297 : BitVec 32 := 2#32
  let v676 : BitVec 32 := Scalar.addi v568 c2_i32_297
  let v731 : BitVec 32 := Scalar.addi v304 v676
  let c2_i32_319 : BitVec 32 := 2#32
  let v732 : BitVec 1 := Scalar.cmpi .sge v731 v302
  let v733 : BitVec 32 := Scalar.extui v732
  let v734 : BitVec 32 := Scalar.muli c2_i32_319 v733
  let v735 : BitVec 32 := Scalar.addi v731 v734
  let c512_i32_320 : BitVec 32 := 512#32
  let v736 : BitVec 32 := Scalar.muli v735 c512_i32_320
  v736
def k0_mult25 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_t3 : Fin (k0_t3_loop i v46 v49 v52 v55 v58 v61 v64 v67 v70 v73 v76 v79 v82 v85 v88).trips) : BitVec 32 :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_255 : BitVec 32 := 2#32
  let c0_i32_239 : BitVec 32 := 0#32
  let c2_i32_134 : BitVec 32 := 2#32
  let v305 : BitVec 32 := Scalar.addi v302 c2_i32_134
  let c1_i32_135 : BitVec 32 := 1#32
  let v306 : BitVec 32 := Scalar.subi v305 c1_i32_135
  let v307 : BitVec 32 := Scalar.addi v306 v90
  let c15_i32 : BitVec 32 := 15#32
  let v308 : BitVec 32 := Scalar.minsi v307 c15_i32
  let v309 : BitVec 32 := Scalar.subi v308 v304
  let c1_i32_136 : BitVec 32 := 1#32
  let v310 : BitVec 32 := Scalar.addi v309 c1_i32_136
  let c2_i32_137 : BitVec 32 := 2#32
  let v311 : BitVec 32 := Scalar.subi v310 c2_i32_137
  let c1_i32_231 : BitVec 32 := 1#32
  let v506 : BitVec 32 := Scalar.subi v311 c1_i32_231
  let c0_i32_233 : BitVec 32 := 0#32
  let v508 : BitVec 1 := Scalar.cmpi .sgt v506 c0_i32_233
  let v509 : BitVec 32 := Scalar.extui v508
  let c0_i32_234 : BitVec 32 := 0#32
  let v510 : BitVec 1 := Scalar.cmpi .slt v506 c0_i32_234
  let v511 : BitVec 32 := Scalar.extui v510
  let v512 : BitVec 32 := Scalar.subi v509 v511
  let c2_i32_232 : BitVec 32 := 2#32
  let c0_i32_235 : BitVec 32 := 0#32
  let v513 : BitVec 1 := Scalar.cmpi .sgt c2_i32_232 c0_i32_235
  let v514 : BitVec 32 := Scalar.extui v513
  let c0_i32_236 : BitVec 32 := 0#32
  let v515 : BitVec 1 := Scalar.cmpi .slt c2_i32_232 c0_i32_236
  let v516 : BitVec 32 := Scalar.extui v515
  let v517 : BitVec 32 := Scalar.subi v514 v516
  let v518 : BitVec 1 := Scalar.cmpi .ne v512 v517
  let v519 : BitVec 32 := Scalar.remsi v506 c2_i32_232
  let c0_i32_237 : BitVec 32 := 0#32
  let v520 : BitVec 1 := Scalar.cmpi .ne v519 c0_i32_237
  let v521 : BitVec 1 := Scalar.andi v518 v520
  let v507 : BitVec 32 := Scalar.divsi v506 c2_i32_232
  let c1_i32_238 : BitVec 32 := 1#32
  let v522 : BitVec 32 := Scalar.subi v507 c1_i32_238
  let v523 : BitVec 32 := Scalar.select v521 v522 v507
  let v524 : BitVec 32 := Scalar.subi v523 c0_i32_239
  let c1_i32_240 : BitVec 32 := 1#32
  let v526 : BitVec 32 := Scalar.divsi v524 c1_i32_240
  let v527 : BitVec 32 := Scalar.muli v526 c1_i32_240
  let v528 : BitVec 32 := Scalar.addi c0_i32_239 v527
  let c1_i32_242 : BitVec 32 := 1#32
  let arg10 : BitVec 32 := Scf.iv v528 c1_i32_242 k0_t3
  let v568 : BitVec 32 := Scalar.muli c2_i32_255 arg10
  let c1_i32_298 : BitVec 32 := 1#32
  let v677 : BitVec 32 := Scalar.addi v568 c1_i32_298
  let v748 : BitVec 32 := Scalar.addi v304 v677
  let c2_i32_327 : BitVec 32 := 2#32
  let v749 : BitVec 1 := Scalar.cmpi .sge v748 v302
  let v750 : BitVec 32 := Scalar.extui v749
  let v751 : BitVec 32 := Scalar.muli c2_i32_327 v750
  let v752 : BitVec 32 := Scalar.addi v748 v751
  let c512_i32_328 : BitVec 32 := 512#32
  let v753 : BitVec 32 := Scalar.muli v752 c512_i32_328
  v753
def k0_mult26 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) : BitVec 32 :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_134 : BitVec 32 := 2#32
  let v305 : BitVec 32 := Scalar.addi v302 c2_i32_134
  let c1_i32_135 : BitVec 32 := 1#32
  let v306 : BitVec 32 := Scalar.subi v305 c1_i32_135
  let v307 : BitVec 32 := Scalar.addi v306 v90
  let c15_i32 : BitVec 32 := 15#32
  let v308 : BitVec 32 := Scalar.minsi v307 c15_i32
  let v309 : BitVec 32 := Scalar.subi v308 v304
  let c1_i32_136 : BitVec 32 := 1#32
  let v310 : BitVec 32 := Scalar.addi v309 c1_i32_136
  let c2_i32_137 : BitVec 32 := 2#32
  let v311 : BitVec 32 := Scalar.subi v310 c2_i32_137
  let c1_i32_243 : BitVec 32 := 1#32
  let v531 : BitVec 32 := Scalar.subi v311 c1_i32_243
  let v569 : BitVec 32 := Scalar.addi v304 v531
  let c2_i32_256 : BitVec 32 := 2#32
  let v570 : BitVec 1 := Scalar.cmpi .sge v569 v302
  let v571 : BitVec 32 := Scalar.extui v570
  let v572 : BitVec 32 := Scalar.muli c2_i32_256 v571
  let v573 : BitVec 32 := Scalar.addi v569 v572
  let c512_i32_257 : BitVec 32 := 512#32
  let v574 : BitVec 32 := Scalar.muli v573 c512_i32_257
  v574
def k0_cond2 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) : BitVec 1 :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c2_i32_134 : BitVec 32 := 2#32
  let v305 : BitVec 32 := Scalar.addi v302 c2_i32_134
  let c1_i32_135 : BitVec 32 := 1#32
  let v306 : BitVec 32 := Scalar.subi v305 c1_i32_135
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v307 : BitVec 32 := Scalar.addi v306 v90
  let c15_i32 : BitVec 32 := 15#32
  let v308 : BitVec 32 := Scalar.minsi v307 c15_i32
  let v303 : BitVec 32 := Scalar.subi v302 v90
  let c0_i32_133 : BitVec 32 := 0#32
  let v304 : BitVec 32 := Scalar.maxsi v303 c0_i32_133
  let v309 : BitVec 32 := Scalar.subi v308 v304
  let c1_i32_136 : BitVec 32 := 1#32
  let v310 : BitVec 32 := Scalar.addi v309 c1_i32_136
  let c2_i32_137 : BitVec 32 := 2#32
  let v311 : BitVec 32 := Scalar.subi v310 c2_i32_137
  let c1_i32_243 : BitVec 32 := 1#32
  let v531 : BitVec 32 := Scalar.subi v311 c1_i32_243
  let c2_i32_244 : BitVec 32 := 2#32
  let c1_i32_231 : BitVec 32 := 1#32
  let v506 : BitVec 32 := Scalar.subi v311 c1_i32_231
  let c0_i32_233 : BitVec 32 := 0#32
  let v508 : BitVec 1 := Scalar.cmpi .sgt v506 c0_i32_233
  let v509 : BitVec 32 := Scalar.extui v508
  let c0_i32_234 : BitVec 32 := 0#32
  let v510 : BitVec 1 := Scalar.cmpi .slt v506 c0_i32_234
  let v511 : BitVec 32 := Scalar.extui v510
  let v512 : BitVec 32 := Scalar.subi v509 v511
  let c2_i32_232 : BitVec 32 := 2#32
  let c0_i32_235 : BitVec 32 := 0#32
  let v513 : BitVec 1 := Scalar.cmpi .sgt c2_i32_232 c0_i32_235
  let v514 : BitVec 32 := Scalar.extui v513
  let c0_i32_236 : BitVec 32 := 0#32
  let v515 : BitVec 1 := Scalar.cmpi .slt c2_i32_232 c0_i32_236
  let v516 : BitVec 32 := Scalar.extui v515
  let v517 : BitVec 32 := Scalar.subi v514 v516
  let v518 : BitVec 1 := Scalar.cmpi .ne v512 v517
  let v519 : BitVec 32 := Scalar.remsi v506 c2_i32_232
  let c0_i32_237 : BitVec 32 := 0#32
  let v520 : BitVec 1 := Scalar.cmpi .ne v519 c0_i32_237
  let v521 : BitVec 1 := Scalar.andi v518 v520
  let v507 : BitVec 32 := Scalar.divsi v506 c2_i32_232
  let c1_i32_238 : BitVec 32 := 1#32
  let v522 : BitVec 32 := Scalar.subi v507 c1_i32_238
  let v523 : BitVec 32 := Scalar.select v521 v522 v507
  let v532 : BitVec 32 := Scalar.muli c2_i32_244 v523
  let c1_i32_245 : BitVec 32 := 1#32
  let v533 : BitVec 32 := Scalar.addi v532 c1_i32_245
  let v534 : BitVec 1 := Scalar.cmpi .eq v531 v533
  let v535 : BitVec 32 := Scalar.extui v534
  let c0_i32_246 : BitVec 32 := 0#32
  let v536 : BitVec 1 := Scalar.cmpi .ne v535 c0_i32_246
  v536

def k0_off14 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) : Fin 2 → Nat :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_134 : BitVec 32 := 2#32
  let v305 : BitVec 32 := Scalar.addi v302 c2_i32_134
  let c1_i32_135 : BitVec 32 := 1#32
  let v306 : BitVec 32 := Scalar.subi v305 c1_i32_135
  let v307 : BitVec 32 := Scalar.addi v306 v90
  let c15_i32 : BitVec 32 := 15#32
  let v308 : BitVec 32 := Scalar.minsi v307 c15_i32
  let v309 : BitVec 32 := Scalar.subi v308 v304
  let c1_i32_136 : BitVec 32 := 1#32
  let v310 : BitVec 32 := Scalar.addi v309 c1_i32_136
  let c2_i32_137 : BitVec 32 := 2#32
  let v311 : BitVec 32 := Scalar.subi v310 c2_i32_137
  let c1_i32_243 : BitVec 32 := 1#32
  let v531 : BitVec 32 := Scalar.subi v311 c1_i32_243
  let v569 : BitVec 32 := Scalar.addi v304 v531
  let c2_i32_256 : BitVec 32 := 2#32
  let v570 : BitVec 1 := Scalar.cmpi .sge v569 v302
  let v571 : BitVec 32 := Scalar.extui v570
  let v572 : BitVec 32 := Scalar.muli c2_i32_256 v571
  let v573 : BitVec 32 := Scalar.addi v569 v572
  let c512_i32_257 : BitVec 32 := 512#32
  let v574 : BitVec 32 := Scalar.muli v573 c512_i32_257
  let v575 : BitVec 32 := v574
  let v576 : Index := Scalar.indexCast v575
  let c0_258 : Index := 0#32
  ![v576.toNat, 0]
def k0_mult27 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) : BitVec 32 :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_134 : BitVec 32 := 2#32
  let v305 : BitVec 32 := Scalar.addi v302 c2_i32_134
  let c1_i32_135 : BitVec 32 := 1#32
  let v306 : BitVec 32 := Scalar.subi v305 c1_i32_135
  let v307 : BitVec 32 := Scalar.addi v306 v90
  let c15_i32 : BitVec 32 := 15#32
  let v308 : BitVec 32 := Scalar.minsi v307 c15_i32
  let v309 : BitVec 32 := Scalar.subi v308 v304
  let c1_i32_136 : BitVec 32 := 1#32
  let v310 : BitVec 32 := Scalar.addi v309 c1_i32_136
  let c2_i32_137 : BitVec 32 := 2#32
  let v311 : BitVec 32 := Scalar.subi v310 c2_i32_137
  let c1_i32_243 : BitVec 32 := 1#32
  let v531 : BitVec 32 := Scalar.subi v311 c1_i32_243
  let c1_i32_255 : BitVec 32 := 1#32
  let v568 : BitVec 32 := Scalar.subi v531 c1_i32_255
  let v586 : BitVec 32 := Scalar.addi v304 v568
  let c2_i32_264 : BitVec 32 := 2#32
  let v587 : BitVec 1 := Scalar.cmpi .sge v586 v302
  let v588 : BitVec 32 := Scalar.extui v587
  let v589 : BitVec 32 := Scalar.muli c2_i32_264 v588
  let v590 : BitVec 32 := Scalar.addi v586 v589
  let c512_i32_265 : BitVec 32 := 512#32
  let v591 : BitVec 32 := Scalar.muli v590 c512_i32_265
  v591
def k0_off15 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) : Fin 2 → Nat :=
  let c0_266 : Index := 0#32
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_134 : BitVec 32 := 2#32
  let v305 : BitVec 32 := Scalar.addi v302 c2_i32_134
  let c1_i32_135 : BitVec 32 := 1#32
  let v306 : BitVec 32 := Scalar.subi v305 c1_i32_135
  let v307 : BitVec 32 := Scalar.addi v306 v90
  let c15_i32 : BitVec 32 := 15#32
  let v308 : BitVec 32 := Scalar.minsi v307 c15_i32
  let v309 : BitVec 32 := Scalar.subi v308 v304
  let c1_i32_136 : BitVec 32 := 1#32
  let v310 : BitVec 32 := Scalar.addi v309 c1_i32_136
  let c2_i32_137 : BitVec 32 := 2#32
  let v311 : BitVec 32 := Scalar.subi v310 c2_i32_137
  let c1_i32_243 : BitVec 32 := 1#32
  let v531 : BitVec 32 := Scalar.subi v311 c1_i32_243
  let c1_i32_255 : BitVec 32 := 1#32
  let v568 : BitVec 32 := Scalar.subi v531 c1_i32_255
  let v586 : BitVec 32 := Scalar.addi v304 v568
  let c2_i32_264 : BitVec 32 := 2#32
  let v587 : BitVec 1 := Scalar.cmpi .sge v586 v302
  let v588 : BitVec 32 := Scalar.extui v587
  let v589 : BitVec 32 := Scalar.muli c2_i32_264 v588
  let v590 : BitVec 32 := Scalar.addi v586 v589
  let c512_i32_265 : BitVec 32 := 512#32
  let v591 : BitVec 32 := Scalar.muli v590 c512_i32_265
  let v592 : BitVec 32 := v591
  let v593 : Index := Scalar.indexCast v592
  ![0, v593.toNat]
def k0_mult28 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) : BitVec 32 :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_134 : BitVec 32 := 2#32
  let v305 : BitVec 32 := Scalar.addi v302 c2_i32_134
  let c1_i32_135 : BitVec 32 := 1#32
  let v306 : BitVec 32 := Scalar.subi v305 c1_i32_135
  let v307 : BitVec 32 := Scalar.addi v306 v90
  let c15_i32 : BitVec 32 := 15#32
  let v308 : BitVec 32 := Scalar.minsi v307 c15_i32
  let v309 : BitVec 32 := Scalar.subi v308 v304
  let c1_i32_136 : BitVec 32 := 1#32
  let v310 : BitVec 32 := Scalar.addi v309 c1_i32_136
  let c2_i32_137 : BitVec 32 := 2#32
  let v311 : BitVec 32 := Scalar.subi v310 c2_i32_137
  let c1_i32_243 : BitVec 32 := 1#32
  let v531 : BitVec 32 := Scalar.subi v311 c1_i32_243
  let v622 : BitVec 32 := Scalar.addi v304 v531
  let c2_i32_276 : BitVec 32 := 2#32
  let v623 : BitVec 1 := Scalar.cmpi .sge v622 v302
  let v624 : BitVec 32 := Scalar.extui v623
  let v625 : BitVec 32 := Scalar.muli c2_i32_276 v624
  let v626 : BitVec 32 := Scalar.addi v622 v625
  let c512_i32_277 : BitVec 32 := 512#32
  let v627 : BitVec 32 := Scalar.muli v626 c512_i32_277
  v627
def k0_mult29 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) : BitVec 32 :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_134 : BitVec 32 := 2#32
  let v305 : BitVec 32 := Scalar.addi v302 c2_i32_134
  let c1_i32_135 : BitVec 32 := 1#32
  let v306 : BitVec 32 := Scalar.subi v305 c1_i32_135
  let v307 : BitVec 32 := Scalar.addi v306 v90
  let c15_i32 : BitVec 32 := 15#32
  let v308 : BitVec 32 := Scalar.minsi v307 c15_i32
  let v309 : BitVec 32 := Scalar.subi v308 v304
  let c1_i32_136 : BitVec 32 := 1#32
  let v310 : BitVec 32 := Scalar.addi v309 c1_i32_136
  let c2_i32_137 : BitVec 32 := 2#32
  let v311 : BitVec 32 := Scalar.subi v310 c2_i32_137
  let c1_i32_243 : BitVec 32 := 1#32
  let v531 : BitVec 32 := Scalar.subi v311 c1_i32_243
  let c1_i32_255 : BitVec 32 := 1#32
  let v568 : BitVec 32 := Scalar.subi v531 c1_i32_255
  let v639 : BitVec 32 := Scalar.addi v304 v568
  let c2_i32_284 : BitVec 32 := 2#32
  let v640 : BitVec 1 := Scalar.cmpi .sge v639 v302
  let v641 : BitVec 32 := Scalar.extui v640
  let v642 : BitVec 32 := Scalar.muli c2_i32_284 v641
  let v643 : BitVec 32 := Scalar.addi v639 v642
  let c512_i32_285 : BitVec 32 := 512#32
  let v644 : BitVec 32 := Scalar.muli v643 c512_i32_285
  v644
def k0_mult30 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) : BitVec 32 :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_134 : BitVec 32 := 2#32
  let v305 : BitVec 32 := Scalar.addi v302 c2_i32_134
  let c1_i32_135 : BitVec 32 := 1#32
  let v306 : BitVec 32 := Scalar.subi v305 c1_i32_135
  let v307 : BitVec 32 := Scalar.addi v306 v90
  let c15_i32 : BitVec 32 := 15#32
  let v308 : BitVec 32 := Scalar.minsi v307 c15_i32
  let v309 : BitVec 32 := Scalar.subi v308 v304
  let c1_i32_136 : BitVec 32 := 1#32
  let v310 : BitVec 32 := Scalar.addi v309 c1_i32_136
  let c2_i32_137 : BitVec 32 := 2#32
  let v311 : BitVec 32 := Scalar.subi v310 c2_i32_137
  let c1_i32_243 : BitVec 32 := 1#32
  let v531 : BitVec 32 := Scalar.subi v311 c1_i32_243
  let v675 : BitVec 32 := Scalar.addi v304 v531
  let c2_i32_296 : BitVec 32 := 2#32
  let v676 : BitVec 1 := Scalar.cmpi .sge v675 v302
  let v677 : BitVec 32 := Scalar.extui v676
  let v678 : BitVec 32 := Scalar.muli c2_i32_296 v677
  let v679 : BitVec 32 := Scalar.addi v675 v678
  let c512_i32_297 : BitVec 32 := 512#32
  let v680 : BitVec 32 := Scalar.muli v679 c512_i32_297
  v680
def k0_off16 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) : Fin 2 → Nat :=
  let c0_298 : Index := 0#32
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_134 : BitVec 32 := 2#32
  let v305 : BitVec 32 := Scalar.addi v302 c2_i32_134
  let c1_i32_135 : BitVec 32 := 1#32
  let v306 : BitVec 32 := Scalar.subi v305 c1_i32_135
  let v307 : BitVec 32 := Scalar.addi v306 v90
  let c15_i32 : BitVec 32 := 15#32
  let v308 : BitVec 32 := Scalar.minsi v307 c15_i32
  let v309 : BitVec 32 := Scalar.subi v308 v304
  let c1_i32_136 : BitVec 32 := 1#32
  let v310 : BitVec 32 := Scalar.addi v309 c1_i32_136
  let c2_i32_137 : BitVec 32 := 2#32
  let v311 : BitVec 32 := Scalar.subi v310 c2_i32_137
  let c1_i32_243 : BitVec 32 := 1#32
  let v531 : BitVec 32 := Scalar.subi v311 c1_i32_243
  let v675 : BitVec 32 := Scalar.addi v304 v531
  let c2_i32_296 : BitVec 32 := 2#32
  let v676 : BitVec 1 := Scalar.cmpi .sge v675 v302
  let v677 : BitVec 32 := Scalar.extui v676
  let v678 : BitVec 32 := Scalar.muli c2_i32_296 v677
  let v679 : BitVec 32 := Scalar.addi v675 v678
  let c512_i32_297 : BitVec 32 := 512#32
  let v680 : BitVec 32 := Scalar.muli v679 c512_i32_297
  let v681 : BitVec 32 := v680
  let v682 : Index := Scalar.indexCast v681
  ![0, v682.toNat]
def k0_mult31 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) : BitVec 32 :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_134 : BitVec 32 := 2#32
  let v305 : BitVec 32 := Scalar.addi v302 c2_i32_134
  let c1_i32_135 : BitVec 32 := 1#32
  let v306 : BitVec 32 := Scalar.subi v305 c1_i32_135
  let v307 : BitVec 32 := Scalar.addi v306 v90
  let c15_i32 : BitVec 32 := 15#32
  let v308 : BitVec 32 := Scalar.minsi v307 c15_i32
  let v309 : BitVec 32 := Scalar.subi v308 v304
  let c1_i32_136 : BitVec 32 := 1#32
  let v310 : BitVec 32 := Scalar.addi v309 c1_i32_136
  let c2_i32_137 : BitVec 32 := 2#32
  let v311 : BitVec 32 := Scalar.subi v310 c2_i32_137
  let c1_i32_243 : BitVec 32 := 1#32
  let v531 : BitVec 32 := Scalar.subi v311 c1_i32_243
  let v711 : BitVec 32 := Scalar.addi v304 v531
  let c2_i32_308 : BitVec 32 := 2#32
  let v712 : BitVec 1 := Scalar.cmpi .sge v711 v302
  let v713 : BitVec 32 := Scalar.extui v712
  let v714 : BitVec 32 := Scalar.muli c2_i32_308 v713
  let v715 : BitVec 32 := Scalar.addi v711 v714
  let c512_i32_309 : BitVec 32 := 512#32
  let v716 : BitVec 32 := Scalar.muli v715 c512_i32_309
  v716
def k0_mult32 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) : BitVec 32 :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_134 : BitVec 32 := 2#32
  let v305 : BitVec 32 := Scalar.addi v302 c2_i32_134
  let c1_i32_135 : BitVec 32 := 1#32
  let v306 : BitVec 32 := Scalar.subi v305 c1_i32_135
  let v307 : BitVec 32 := Scalar.addi v306 v90
  let c15_i32 : BitVec 32 := 15#32
  let v308 : BitVec 32 := Scalar.minsi v307 c15_i32
  let v309 : BitVec 32 := Scalar.subi v308 v304
  let c1_i32_136 : BitVec 32 := 1#32
  let v310 : BitVec 32 := Scalar.addi v309 c1_i32_136
  let c2_i32_137 : BitVec 32 := 2#32
  let v311 : BitVec 32 := Scalar.subi v310 c2_i32_137
  let c1_i32_243 : BitVec 32 := 1#32
  let v531 : BitVec 32 := Scalar.subi v311 c1_i32_243
  let v568 : BitVec 32 := Scalar.addi v304 v531
  let c2_i32_255 : BitVec 32 := 2#32
  let v569 : BitVec 1 := Scalar.cmpi .sge v568 v302
  let v570 : BitVec 32 := Scalar.extui v569
  let v571 : BitVec 32 := Scalar.muli c2_i32_255 v570
  let v572 : BitVec 32 := Scalar.addi v568 v571
  let c512_i32_256 : BitVec 32 := 512#32
  let v573 : BitVec 32 := Scalar.muli v572 c512_i32_256
  v573
def k0_off17 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) : Fin 2 → Nat :=
  let c0_257 : Index := 0#32
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_134 : BitVec 32 := 2#32
  let v305 : BitVec 32 := Scalar.addi v302 c2_i32_134
  let c1_i32_135 : BitVec 32 := 1#32
  let v306 : BitVec 32 := Scalar.subi v305 c1_i32_135
  let v307 : BitVec 32 := Scalar.addi v306 v90
  let c15_i32 : BitVec 32 := 15#32
  let v308 : BitVec 32 := Scalar.minsi v307 c15_i32
  let v309 : BitVec 32 := Scalar.subi v308 v304
  let c1_i32_136 : BitVec 32 := 1#32
  let v310 : BitVec 32 := Scalar.addi v309 c1_i32_136
  let c2_i32_137 : BitVec 32 := 2#32
  let v311 : BitVec 32 := Scalar.subi v310 c2_i32_137
  let c1_i32_243 : BitVec 32 := 1#32
  let v531 : BitVec 32 := Scalar.subi v311 c1_i32_243
  let v568 : BitVec 32 := Scalar.addi v304 v531
  let c2_i32_255 : BitVec 32 := 2#32
  let v569 : BitVec 1 := Scalar.cmpi .sge v568 v302
  let v570 : BitVec 32 := Scalar.extui v569
  let v571 : BitVec 32 := Scalar.muli c2_i32_255 v570
  let v572 : BitVec 32 := Scalar.addi v568 v571
  let c512_i32_256 : BitVec 32 := 512#32
  let v573 : BitVec 32 := Scalar.muli v572 c512_i32_256
  let v574 : BitVec 32 := v573
  let v575 : Index := Scalar.indexCast v574
  ![0, v575.toNat]
def k0_mult33 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) : BitVec 32 :=
  let arg1 : BitVec 32 := BitVec.ofNat 32 (i 1).val
  let c1024_i32_126 : BitVec 32 := 1024#32
  let v285 : BitVec 32 := Scalar.muli arg1 c1024_i32_126
  let c0_i32_127 : BitVec 32 := 0#32
  let v287 : BitVec 1 := Scalar.cmpi .sgt v285 c0_i32_127
  let v288 : BitVec 32 := Scalar.extui v287
  let c0_i32_128 : BitVec 32 := 0#32
  let v289 : BitVec 1 := Scalar.cmpi .slt v285 c0_i32_128
  let v290 : BitVec 32 := Scalar.extui v289
  let v291 : BitVec 32 := Scalar.subi v288 v290
  let c512_i32 : BitVec 32 := 512#32
  let c0_i32_129 : BitVec 32 := 0#32
  let v292 : BitVec 1 := Scalar.cmpi .sgt c512_i32 c0_i32_129
  let v293 : BitVec 32 := Scalar.extui v292
  let c0_i32_130 : BitVec 32 := 0#32
  let v294 : BitVec 1 := Scalar.cmpi .slt c512_i32 c0_i32_130
  let v295 : BitVec 32 := Scalar.extui v294
  let v296 : BitVec 32 := Scalar.subi v293 v295
  let v297 : BitVec 1 := Scalar.cmpi .ne v291 v296
  let v298 : BitVec 32 := Scalar.remsi v285 c512_i32
  let c0_i32_131 : BitVec 32 := 0#32
  let v299 : BitVec 1 := Scalar.cmpi .ne v298 c0_i32_131
  let v300 : BitVec 1 := Scalar.andi v297 v299
  let v286 : BitVec 32 := Scalar.divsi v285 c512_i32
  let c1_i32_132 : BitVec 32 := 1#32
  let v301 : BitVec 32 := Scalar.subi v286 c1_i32_132
  let v302 : BitVec 32 := Scalar.select v300 v301 v286
  let c1_i32_17 : BitVec 32 := 1#32
  let c0_i32_15 : BitVec 32 := 0#32
  let c1_i32_16 : BitVec 32 := 1#32
  let v47 : BitVec 32 := Scalar.select v46 c0_i32_15 c1_i32_16
  let v48 : BitVec 32 := Scalar.addi c1_i32_17 v47
  let c0_i32_19 : BitVec 32 := 0#32
  let c1_i32_20 : BitVec 32 := 1#32
  let v50 : BitVec 32 := Scalar.select v49 c0_i32_19 c1_i32_20
  let v51 : BitVec 32 := Scalar.addi v48 v50
  let c0_i32_22 : BitVec 32 := 0#32
  let c1_i32_23 : BitVec 32 := 1#32
  let v53 : BitVec 32 := Scalar.select v52 c0_i32_22 c1_i32_23
  let v54 : BitVec 32 := Scalar.addi v51 v53
  let c0_i32_25 : BitVec 32 := 0#32
  let c1_i32_26 : BitVec 32 := 1#32
  let v56 : BitVec 32 := Scalar.select v55 c0_i32_25 c1_i32_26
  let v57 : BitVec 32 := Scalar.addi v54 v56
  let c0_i32_28 : BitVec 32 := 0#32
  let c1_i32_29 : BitVec 32 := 1#32
  let v59 : BitVec 32 := Scalar.select v58 c0_i32_28 c1_i32_29
  let v60 : BitVec 32 := Scalar.addi v57 v59
  let c0_i32_31 : BitVec 32 := 0#32
  let c1_i32_32 : BitVec 32 := 1#32
  let v62 : BitVec 32 := Scalar.select v61 c0_i32_31 c1_i32_32
  let v63 : BitVec 32 := Scalar.addi v60 v62
  let c0_i32_34 : BitVec 32 := 0#32
  let c1_i32_35 : BitVec 32 := 1#32
  let v65 : BitVec 32 := Scalar.select v64 c0_i32_34 c1_i32_35
  let v66 : BitVec 32 := Scalar.addi v63 v65
  let c0_i32_37 : BitVec 32 := 0#32
  let c1_i32_38 : BitVec 32 := 1#32
  let v68 : BitVec 32 := Scalar.select v67 c0_i32_37 c1_i32_38
  let v69 : BitVec 32 := Scalar.addi v66 v68
  let c0_i32_40 : BitVec 32 := 0#32
  let c1_i32_41 : BitVec 32 := 1#32
  let v71 : BitVec 32 := Scalar.select v70 c0_i32_40 c1_i32_41
  let v72 : BitVec 32 := Scalar.addi v69 v71
  let c0_i32_43 : BitVec 32 := 0#32
  let c1_i32_44 : BitVec 32 := 1#32
  let v74 : BitVec 32 := Scalar.select v73 c0_i32_43 c1_i32_44
  let v75 : BitVec 32 := Scalar.addi v72 v74
  let c0_i32_46 : BitVec 32 := 0#32
  let c1_i32_47 : BitVec 32 := 1#32
  let v77 : BitVec 32 := Scalar.select v76 c0_i32_46 c1_i32_47
  let v78 : BitVec 32 := Scalar.addi v75 v77
  let c0_i32_49 : BitVec 32 := 0#32
  let c1_i32_50 : BitVec 32 := 1#32
  let v80 : BitVec 32 := Scalar.select v79 c0_i32_49 c1_i32_50
  let v81 : BitVec 32 := Scalar.addi v78 v80
  let c0_i32_52 : BitVec 32 := 0#32
  let c1_i32_53 : BitVec 32 := 1#32
  let v83 : BitVec 32 := Scalar.select v82 c0_i32_52 c1_i32_53
  let v84 : BitVec 32 := Scalar.addi v81 v83
  let c0_i32_55 : BitVec 32 := 0#32
  let c1_i32_56 : BitVec 32 := 1#32
  let v86 : BitVec 32 := Scalar.select v85 c0_i32_55 c1_i32_56
  let v87 : BitVec 32 := Scalar.addi v84 v86
  let c0_i32_58 : BitVec 32 := 0#32
  let c1_i32_59 : BitVec 32 := 1#32
  let v89 : BitVec 32 := Scalar.select v88 c0_i32_58 c1_i32_59
  let v90 : BitVec 32 := Scalar.addi v87 v89
  let v303 : BitVec 32 := Scalar.subi v302 v90
  let c0_i32_133 : BitVec 32 := 0#32
  let v304 : BitVec 32 := Scalar.maxsi v303 c0_i32_133
  let c2_i32_134 : BitVec 32 := 2#32
  let v305 : BitVec 32 := Scalar.addi v302 c2_i32_134
  let c1_i32_135 : BitVec 32 := 1#32
  let v306 : BitVec 32 := Scalar.subi v305 c1_i32_135
  let v307 : BitVec 32 := Scalar.addi v306 v90
  let c15_i32 : BitVec 32 := 15#32
  let v308 : BitVec 32 := Scalar.minsi v307 c15_i32
  let v309 : BitVec 32 := Scalar.subi v308 v304
  let c1_i32_136 : BitVec 32 := 1#32
  let v310 : BitVec 32 := Scalar.addi v309 c1_i32_136
  let c2_i32_137 : BitVec 32 := 2#32
  let v311 : BitVec 32 := Scalar.subi v310 c2_i32_137
  let c1_i32_243 : BitVec 32 := 1#32
  let v531 : BitVec 32 := Scalar.subi v311 c1_i32_243
  let v604 : BitVec 32 := Scalar.addi v304 v531
  let c2_i32_267 : BitVec 32 := 2#32
  let v605 : BitVec 1 := Scalar.cmpi .sge v604 v302
  let v606 : BitVec 32 := Scalar.extui v605
  let v607 : BitVec 32 := Scalar.muli c2_i32_267 v606
  let v608 : BitVec 32 := Scalar.addi v604 v607
  let c512_i32_268 : BitVec 32 := 512#32
  let v609 : BitVec 32 := Scalar.muli v608 c512_i32_268
  v609

def k0_chk1_0 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) : Prop :=
  (512 ∣ (k0_mult6 i v46 v49 v52 v55 v58 v61 v64 v67 v70 v73 v76 v79 v82 v85 v88).toNat) ∧
  (∀ a, (k0_off6 i v46 v49 v52 v55 v58 v61 v64 v67 v70 v73 v76 v79 v82 v85 v88) a + S512x128.size a ≤ S8192x128.size a) ∧
  (512 ∣ (k0_mult8 i v46 v49 v52 v55 v58 v61 v64 v67 v70 v73 v76 v79 v82 v85 v88).toNat) ∧
  ((k0_t2_loop i v46 v49 v52 v55 v58 v61 v64 v67 v70 v73 v76 v79 v82 v85 v88).OK) ∧
  (∀ k0_t2 : Fin (k0_t2_loop i v46 v49 v52 v55 v58 v61 v64 v67 v70 v73 v76 v79 v82 v85 v88).trips, 512 ∣ (k0_mult10 i v46 v49 v52 v55 v58 v61 v64 v67 v70 v73 v76 v79 v82 v85 v88 k0_t2).toNat) ∧
  (∀ k0_t2 : Fin (k0_t2_loop i v46 v49 v52 v55 v58 v61 v64 v67 v70 v73 v76 v79 v82 v85 v88).trips, ∀ (r : Fin 2), ∀ a, (k0_off8 i v46 v49 v52 v55 v58 v61 v64 v67 v70 v73 v76 v79 v82 v85 v88 k0_t2 (BitVec.ofNat 32 (1 + r.val))) a + S512x128.size a ≤ S8192x128.size a) ∧
  (∀ k0_t2 : Fin (k0_t2_loop i v46 v49 v52 v55 v58 v61 v64 v67 v70 v73 v76 v79 v82 v85 v88).trips, 512 ∣ (k0_mult11 i v46 v49 v52 v55 v58 v61 v64 v67 v70 v73 v76 v79 v82 v85 v88 k0_t2).toNat) ∧
  (∀ k0_t2 : Fin (k0_t2_loop i v46 v49 v52 v55 v58 v61 v64 v67 v70 v73 v76 v79 v82 v85 v88).trips, ∀ a, (k0_off9 i v46 v49 v52 v55 v58 v61 v64 v67 v70 v73 v76 v79 v82 v85 v88 k0_t2) a + S144x512.size a ≤ S144x8192.size a) ∧
  (∀ k0_t2 : Fin (k0_t2_loop i v46 v49 v52 v55 v58 v61 v64 v67 v70 v73 v76 v79 v82 v85 v88).trips, 512 ∣ (k0_mult12 i v46 v49 v52 v55 v58 v61 v64 v67 v70 v73 v76 v79 v82 v85 v88 k0_t2).toNat) ∧
  (∀ k0_t2 : Fin (k0_t2_loop i v46 v49 v52 v55 v58 v61 v64 v67 v70 v73 v76 v79 v82 v85 v88).trips, 512 ∣ (k0_mult13 i v46 v49 v52 v55 v58 v61 v64 v67 v70 v73 v76 v79 v82 v85 v88 k0_t2).toNat) ∧
  (∀ k0_t2 : Fin (k0_t2_loop i v46 v49 v52 v55 v58 v61 v64 v67 v70 v73 v76 v79 v82 v85 v88).trips, 512 ∣ (k0_mult14 i v46 v49 v52 v55 v58 v61 v64 v67 v70 v73 v76 v79 v82 v85 v88 k0_t2).toNat) ∧
  (∀ k0_t2 : Fin (k0_t2_loop i v46 v49 v52 v55 v58 v61 v64 v67 v70 v73 v76 v79 v82 v85 v88).trips, 512 ∣ (k0_mult15 i v46 v49 v52 v55 v58 v61 v64 v67 v70 v73 v76 v79 v82 v85 v88 k0_t2).toNat) ∧
  (∀ k0_t2 : Fin (k0_t2_loop i v46 v49 v52 v55 v58 v61 v64 v67 v70 v73 v76 v79 v82 v85 v88).trips, ∀ a, (k0_off10 i v46 v49 v52 v55 v58 v61 v64 v67 v70 v73 v76 v79 v82 v85 v88 k0_t2) a + S144x512.size a ≤ S144x8192.size a) ∧
  (∀ k0_t2 : Fin (k0_t2_loop i v46 v49 v52 v55 v58 v61 v64 v67 v70 v73 v76 v79 v82 v85 v88).trips, 512 ∣ (k0_mult16 i v46 v49 v52 v55 v58 v61 v64 v67 v70 v73 v76 v79 v82 v85 v88 k0_t2).toNat) ∧
  (∀ k0_t2 : Fin (k0_t2_loop i v46 v49 v52 v55 v58 v61 v64 v67 v70 v73 v76 v79 v82 v85 v88).trips, 512 ∣ (k0_mult17 i v46 v49 v52 v55 v58 v61 v64 v67 v70 v73 v76 v79 v82 v85 v88 k0_t2).toNat) ∧
  ((k0_t3_loop i v46 v49 v52 v55 v58 v61 v64 v67 v70 v73 v76 v79 v82 v85 v88).OK) ∧
  (∀ k0_t3 : Fin (k0_t3_loop i v46 v49 v52 v55 v58 v61 v64 v67 v70 v73 v76 v79 v82 v85 v88).trips, 512 ∣ (k0_mult18 i v46 v49 v52 v55 v58 v61 v64 v67 v70 v73 v76 v79 v82 v85 v88 k0_t3).toNat) ∧
  (∀ k0_t3 : Fin (k0_t3_loop i v46 v49 v52 v55 v58 v61 v64 v67 v70 v73 v76 v79 v82 v85 v88).trips, ∀ (r : Fin 2), ∀ a, (k0_off11 i v46 v49 v52 v55 v58 v61 v64 v67 v70 v73 v76 v79 v82 v85 v88 k0_t3 (BitVec.ofNat 32 (1 + r.val))) a + S512x128.size a ≤ S8192x128.size a) ∧
  (∀ k0_t3 : Fin (k0_t3_loop i v46 v49 v52 v55 v58 v61 v64 v67 v70 v73 v76 v79 v82 v85 v88).trips, 512 ∣ (k0_mult19 i v46 v49 v52 v55 v58 v61 v64 v67 v70 v73 v76 v79 v82 v85 v88 k0_t3).toNat) ∧
  (∀ k0_t3 : Fin (k0_t3_loop i v46 v49 v52 v55 v58 v61 v64 v67 v70 v73 v76 v79 v82 v85 v88).trips, ∀ a, (k0_off12 i v46 v49 v52 v55 v58 v61 v64 v67 v70 v73 v76 v79 v82 v85 v88 k0_t3) a + S144x512.size a ≤ S144x8192.size a) ∧
  (∀ k0_t3 : Fin (k0_t3_loop i v46 v49 v52 v55 v58 v61 v64 v67 v70 v73 v76 v79 v82 v85 v88).trips, 512 ∣ (k0_mult20 i v46 v49 v52 v55 v58 v61 v64 v67 v70 v73 v76 v79 v82 v85 v88 k0_t3).toNat) ∧
  (∀ k0_t3 : Fin (k0_t3_loop i v46 v49 v52 v55 v58 v61 v64 v67 v70 v73 v76 v79 v82 v85 v88).trips, 512 ∣ (k0_mult21 i v46 v49 v52 v55 v58 v61 v64 v67 v70 v73 v76 v79 v82 v85 v88 k0_t3).toNat) ∧
  (∀ k0_t3 : Fin (k0_t3_loop i v46 v49 v52 v55 v58 v61 v64 v67 v70 v73 v76 v79 v82 v85 v88).trips, 512 ∣ (k0_mult22 i v46 v49 v52 v55 v58 v61 v64 v67 v70 v73 v76 v79 v82 v85 v88 k0_t3).toNat) ∧
  (∀ k0_t3 : Fin (k0_t3_loop i v46 v49 v52 v55 v58 v61 v64 v67 v70 v73 v76 v79 v82 v85 v88).trips, 512 ∣ (k0_mult23 i v46 v49 v52 v55 v58 v61 v64 v67 v70 v73 v76 v79 v82 v85 v88 k0_t3).toNat) ∧
  (∀ k0_t3 : Fin (k0_t3_loop i v46 v49 v52 v55 v58 v61 v64 v67 v70 v73 v76 v79 v82 v85 v88).trips, ∀ a, (k0_off13 i v46 v49 v52 v55 v58 v61 v64 v67 v70 v73 v76 v79 v82 v85 v88 k0_t3) a + S144x512.size a ≤ S144x8192.size a) ∧
  (∀ k0_t3 : Fin (k0_t3_loop i v46 v49 v52 v55 v58 v61 v64 v67 v70 v73 v76 v79 v82 v85 v88).trips, 512 ∣ (k0_mult24 i v46 v49 v52 v55 v58 v61 v64 v67 v70 v73 v76 v79 v82 v85 v88 k0_t3).toNat) ∧
  (∀ k0_t3 : Fin (k0_t3_loop i v46 v49 v52 v55 v58 v61 v64 v67 v70 v73 v76 v79 v82 v85 v88).trips, 512 ∣ (k0_mult25 i v46 v49 v52 v55 v58 v61 v64 v67 v70 v73 v76 v79 v82 v85 v88 k0_t3).toNat) ∧
  (∀ (k0_h2 : k0_cond2 i v46 v49 v52 v55 v58 v61 v64 v67 v70 v73 v76 v79 v82 v85 v88 = 1#1), 512 ∣ (k0_mult26 i v46 v49 v52 v55 v58 v61 v64 v67 v70 v73 v76 v79 v82 v85 v88).toNat) ∧
  (∀ (k0_h2 : k0_cond2 i v46 v49 v52 v55 v58 v61 v64 v67 v70 v73 v76 v79 v82 v85 v88 = 1#1), ∀ a, (k0_off14 i v46 v49 v52 v55 v58 v61 v64 v67 v70 v73 v76 v79 v82 v85 v88) a + S512x128.size a ≤ S8192x128.size a) ∧
  (∀ (k0_h2 : k0_cond2 i v46 v49 v52 v55 v58 v61 v64 v67 v70 v73 v76 v79 v82 v85 v88 = 1#1), 512 ∣ (k0_mult27 i v46 v49 v52 v55 v58 v61 v64 v67 v70 v73 v76 v79 v82 v85 v88).toNat) ∧
  (∀ (k0_h2 : k0_cond2 i v46 v49 v52 v55 v58 v61 v64 v67 v70 v73 v76 v79 v82 v85 v88 = 1#1), ∀ a, (k0_off15 i v46 v49 v52 v55 v58 v61 v64 v67 v70 v73 v76 v79 v82 v85 v88) a + S144x512.size a ≤ S144x8192.size a) ∧
  (∀ (k0_h2 : k0_cond2 i v46 v49 v52 v55 v58 v61 v64 v67 v70 v73 v76 v79 v82 v85 v88 = 1#1), 512 ∣ (k0_mult28 i v46 v49 v52 v55 v58 v61 v64 v67 v70 v73 v76 v79 v82 v85 v88).toNat)
def k0_chk1_1 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) : Prop :=
  (∀ (k0_h2 : k0_cond2 i v46 v49 v52 v55 v58 v61 v64 v67 v70 v73 v76 v79 v82 v85 v88 = 1#1), 512 ∣ (k0_mult29 i v46 v49 v52 v55 v58 v61 v64 v67 v70 v73 v76 v79 v82 v85 v88).toNat) ∧
  (∀ (k0_h2 : k0_cond2 i v46 v49 v52 v55 v58 v61 v64 v67 v70 v73 v76 v79 v82 v85 v88 = 1#1), 512 ∣ (k0_mult30 i v46 v49 v52 v55 v58 v61 v64 v67 v70 v73 v76 v79 v82 v85 v88).toNat) ∧
  (∀ (k0_h2 : k0_cond2 i v46 v49 v52 v55 v58 v61 v64 v67 v70 v73 v76 v79 v82 v85 v88 = 1#1), ∀ a, (k0_off16 i v46 v49 v52 v55 v58 v61 v64 v67 v70 v73 v76 v79 v82 v85 v88) a + S144x512.size a ≤ S144x8192.size a) ∧
  (∀ (k0_h2 : k0_cond2 i v46 v49 v52 v55 v58 v61 v64 v67 v70 v73 v76 v79 v82 v85 v88 = 1#1), 512 ∣ (k0_mult31 i v46 v49 v52 v55 v58 v61 v64 v67 v70 v73 v76 v79 v82 v85 v88).toNat) ∧
  (∀ (k0_h2 : ¬(k0_cond2 i v46 v49 v52 v55 v58 v61 v64 v67 v70 v73 v76 v79 v82 v85 v88 = 1#1)), 512 ∣ (k0_mult32 i v46 v49 v52 v55 v58 v61 v64 v67 v70 v73 v76 v79 v82 v85 v88).toNat) ∧
  (∀ (k0_h2 : ¬(k0_cond2 i v46 v49 v52 v55 v58 v61 v64 v67 v70 v73 v76 v79 v82 v85 v88 = 1#1)), ∀ a, (k0_off17 i v46 v49 v52 v55 v58 v61 v64 v67 v70 v73 v76 v79 v82 v85 v88) a + S144x512.size a ≤ S144x8192.size a) ∧
  (∀ (k0_h2 : ¬(k0_cond2 i v46 v49 v52 v55 v58 v61 v64 v67 v70 v73 v76 v79 v82 v85 v88 = 1#1)), 512 ∣ (k0_mult33 i v46 v49 v52 v55 v58 v61 v64 v67 v70 v73 v76 v79 v82 v85 v88).toNat)
def k0_chk1 (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) : Prop :=
  k0_chk1_0 i v46 v49 v52 v55 v58 v61 v64 v67 v70 v73 v76 v79 v82 v85 v88 ∧
  k0_chk1_1 i v46 v49 v52 v55 v58 v61 v64 v67 v70 v73 v76 v79 v82 v85 v88
theorem k0_mult6_dvd : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88), 512 ∣ (k0_mult6 i v46 v49 v52 v55 v58 v61 v64 v67 v70 v73 v76 v79 v82 v85 v88).toNat := fun i v46 v49 v52 v55 v58 v61 v64 v67 v70 v73 v76 v79 v82 v85 v88 k0_hw1 => k0_hw1.1.1
theorem k0_off6_inb : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88), ∀ a, (k0_off6 i v46 v49 v52 v55 v58 v61 v64 v67 v70 v73 v76 v79 v82 v85 v88) a + S512x128.size a ≤ S8192x128.size a := fun i v46 v49 v52 v55 v58 v61 v64 v67 v70 v73 v76 v79 v82 v85 v88 k0_hw1 => k0_hw1.1.2.1
theorem k0_mult8_dvd : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88), 512 ∣ (k0_mult8 i v46 v49 v52 v55 v58 v61 v64 v67 v70 v73 v76 v79 v82 v85 v88).toNat := fun i v46 v49 v52 v55 v58 v61 v64 v67 v70 v73 v76 v79 v82 v85 v88 k0_hw1 => k0_hw1.1.2.2.1
theorem k0_t2_ok : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88), (k0_t2_loop i v46 v49 v52 v55 v58 v61 v64 v67 v70 v73 v76 v79 v82 v85 v88).OK := fun i v46 v49 v52 v55 v58 v61 v64 v67 v70 v73 v76 v79 v82 v85 v88 k0_hw1 => k0_hw1.1.2.2.2.1
theorem k0_mult10_dvd : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88) (k0_t2 : Fin (k0_t2_loop i v46 v49 v52 v55 v58 v61 v64 v67 v70 v73 v76 v79 v82 v85 v88).trips), 512 ∣ (k0_mult10 i v46 v49 v52 v55 v58 v61 v64 v67 v70 v73 v76 v79 v82 v85 v88 k0_t2).toNat := fun i v46 v49 v52 v55 v58 v61 v64 v67 v70 v73 v76 v79 v82 v85 v88 k0_hw1 k0_t2 => k0_hw1.1.2.2.2.2.1 k0_t2
theorem k0_off8_inb : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88) (k0_t2 : Fin (k0_t2_loop i v46 v49 v52 v55 v58 v61 v64 v67 v70 v73 v76 v79 v82 v85 v88).trips), ∀ (r : Fin 2), ∀ a, (k0_off8 i v46 v49 v52 v55 v58 v61 v64 v67 v70 v73 v76 v79 v82 v85 v88 k0_t2 (BitVec.ofNat 32 (1 + r.val))) a + S512x128.size a ≤ S8192x128.size a := fun i v46 v49 v52 v55 v58 v61 v64 v67 v70 v73 v76 v79 v82 v85 v88 k0_hw1 k0_t2 r => k0_hw1.1.2.2.2.2.2.1 k0_t2 r
theorem k0_mult11_dvd : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88) (k0_t2 : Fin (k0_t2_loop i v46 v49 v52 v55 v58 v61 v64 v67 v70 v73 v76 v79 v82 v85 v88).trips), 512 ∣ (k0_mult11 i v46 v49 v52 v55 v58 v61 v64 v67 v70 v73 v76 v79 v82 v85 v88 k0_t2).toNat := fun i v46 v49 v52 v55 v58 v61 v64 v67 v70 v73 v76 v79 v82 v85 v88 k0_hw1 k0_t2 => k0_hw1.1.2.2.2.2.2.2.1 k0_t2
theorem k0_off9_inb : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88) (k0_t2 : Fin (k0_t2_loop i v46 v49 v52 v55 v58 v61 v64 v67 v70 v73 v76 v79 v82 v85 v88).trips), ∀ a, (k0_off9 i v46 v49 v52 v55 v58 v61 v64 v67 v70 v73 v76 v79 v82 v85 v88 k0_t2) a + S144x512.size a ≤ S144x8192.size a := fun i v46 v49 v52 v55 v58 v61 v64 v67 v70 v73 v76 v79 v82 v85 v88 k0_hw1 k0_t2 => k0_hw1.1.2.2.2.2.2.2.2.1 k0_t2
theorem k0_mult12_dvd : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88) (k0_t2 : Fin (k0_t2_loop i v46 v49 v52 v55 v58 v61 v64 v67 v70 v73 v76 v79 v82 v85 v88).trips), 512 ∣ (k0_mult12 i v46 v49 v52 v55 v58 v61 v64 v67 v70 v73 v76 v79 v82 v85 v88 k0_t2).toNat := fun i v46 v49 v52 v55 v58 v61 v64 v67 v70 v73 v76 v79 v82 v85 v88 k0_hw1 k0_t2 => k0_hw1.1.2.2.2.2.2.2.2.2.1 k0_t2
theorem k0_mult13_dvd : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88) (k0_t2 : Fin (k0_t2_loop i v46 v49 v52 v55 v58 v61 v64 v67 v70 v73 v76 v79 v82 v85 v88).trips), 512 ∣ (k0_mult13 i v46 v49 v52 v55 v58 v61 v64 v67 v70 v73 v76 v79 v82 v85 v88 k0_t2).toNat := fun i v46 v49 v52 v55 v58 v61 v64 v67 v70 v73 v76 v79 v82 v85 v88 k0_hw1 k0_t2 => k0_hw1.1.2.2.2.2.2.2.2.2.2.1 k0_t2
theorem k0_mult14_dvd : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88) (k0_t2 : Fin (k0_t2_loop i v46 v49 v52 v55 v58 v61 v64 v67 v70 v73 v76 v79 v82 v85 v88).trips), 512 ∣ (k0_mult14 i v46 v49 v52 v55 v58 v61 v64 v67 v70 v73 v76 v79 v82 v85 v88 k0_t2).toNat := fun i v46 v49 v52 v55 v58 v61 v64 v67 v70 v73 v76 v79 v82 v85 v88 k0_hw1 k0_t2 => k0_hw1.1.2.2.2.2.2.2.2.2.2.2.1 k0_t2
theorem k0_mult15_dvd : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88) (k0_t2 : Fin (k0_t2_loop i v46 v49 v52 v55 v58 v61 v64 v67 v70 v73 v76 v79 v82 v85 v88).trips), 512 ∣ (k0_mult15 i v46 v49 v52 v55 v58 v61 v64 v67 v70 v73 v76 v79 v82 v85 v88 k0_t2).toNat := fun i v46 v49 v52 v55 v58 v61 v64 v67 v70 v73 v76 v79 v82 v85 v88 k0_hw1 k0_t2 => k0_hw1.1.2.2.2.2.2.2.2.2.2.2.2.1 k0_t2
theorem k0_off10_inb : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88) (k0_t2 : Fin (k0_t2_loop i v46 v49 v52 v55 v58 v61 v64 v67 v70 v73 v76 v79 v82 v85 v88).trips), ∀ a, (k0_off10 i v46 v49 v52 v55 v58 v61 v64 v67 v70 v73 v76 v79 v82 v85 v88 k0_t2) a + S144x512.size a ≤ S144x8192.size a := fun i v46 v49 v52 v55 v58 v61 v64 v67 v70 v73 v76 v79 v82 v85 v88 k0_hw1 k0_t2 => k0_hw1.1.2.2.2.2.2.2.2.2.2.2.2.2.1 k0_t2
theorem k0_mult16_dvd : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88) (k0_t2 : Fin (k0_t2_loop i v46 v49 v52 v55 v58 v61 v64 v67 v70 v73 v76 v79 v82 v85 v88).trips), 512 ∣ (k0_mult16 i v46 v49 v52 v55 v58 v61 v64 v67 v70 v73 v76 v79 v82 v85 v88 k0_t2).toNat := fun i v46 v49 v52 v55 v58 v61 v64 v67 v70 v73 v76 v79 v82 v85 v88 k0_hw1 k0_t2 => k0_hw1.1.2.2.2.2.2.2.2.2.2.2.2.2.2.1 k0_t2
theorem k0_mult17_dvd : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88) (k0_t2 : Fin (k0_t2_loop i v46 v49 v52 v55 v58 v61 v64 v67 v70 v73 v76 v79 v82 v85 v88).trips), 512 ∣ (k0_mult17 i v46 v49 v52 v55 v58 v61 v64 v67 v70 v73 v76 v79 v82 v85 v88 k0_t2).toNat := fun i v46 v49 v52 v55 v58 v61 v64 v67 v70 v73 v76 v79 v82 v85 v88 k0_hw1 k0_t2 => k0_hw1.1.2.2.2.2.2.2.2.2.2.2.2.2.2.2.1 k0_t2
theorem k0_t3_ok : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88), (k0_t3_loop i v46 v49 v52 v55 v58 v61 v64 v67 v70 v73 v76 v79 v82 v85 v88).OK := fun i v46 v49 v52 v55 v58 v61 v64 v67 v70 v73 v76 v79 v82 v85 v88 k0_hw1 => k0_hw1.1.2.2.2.2.2.2.2.2.2.2.2.2.2.2.2.1
theorem k0_mult18_dvd : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88) (k0_t3 : Fin (k0_t3_loop i v46 v49 v52 v55 v58 v61 v64 v67 v70 v73 v76 v79 v82 v85 v88).trips), 512 ∣ (k0_mult18 i v46 v49 v52 v55 v58 v61 v64 v67 v70 v73 v76 v79 v82 v85 v88 k0_t3).toNat := fun i v46 v49 v52 v55 v58 v61 v64 v67 v70 v73 v76 v79 v82 v85 v88 k0_hw1 k0_t3 => k0_hw1.1.2.2.2.2.2.2.2.2.2.2.2.2.2.2.2.2.1 k0_t3
theorem k0_off11_inb : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88) (k0_t3 : Fin (k0_t3_loop i v46 v49 v52 v55 v58 v61 v64 v67 v70 v73 v76 v79 v82 v85 v88).trips), ∀ (r : Fin 2), ∀ a, (k0_off11 i v46 v49 v52 v55 v58 v61 v64 v67 v70 v73 v76 v79 v82 v85 v88 k0_t3 (BitVec.ofNat 32 (1 + r.val))) a + S512x128.size a ≤ S8192x128.size a := fun i v46 v49 v52 v55 v58 v61 v64 v67 v70 v73 v76 v79 v82 v85 v88 k0_hw1 k0_t3 r => k0_hw1.1.2.2.2.2.2.2.2.2.2.2.2.2.2.2.2.2.2.1 k0_t3 r
theorem k0_mult19_dvd : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88) (k0_t3 : Fin (k0_t3_loop i v46 v49 v52 v55 v58 v61 v64 v67 v70 v73 v76 v79 v82 v85 v88).trips), 512 ∣ (k0_mult19 i v46 v49 v52 v55 v58 v61 v64 v67 v70 v73 v76 v79 v82 v85 v88 k0_t3).toNat := fun i v46 v49 v52 v55 v58 v61 v64 v67 v70 v73 v76 v79 v82 v85 v88 k0_hw1 k0_t3 => k0_hw1.1.2.2.2.2.2.2.2.2.2.2.2.2.2.2.2.2.2.2.1 k0_t3
theorem k0_off12_inb : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88) (k0_t3 : Fin (k0_t3_loop i v46 v49 v52 v55 v58 v61 v64 v67 v70 v73 v76 v79 v82 v85 v88).trips), ∀ a, (k0_off12 i v46 v49 v52 v55 v58 v61 v64 v67 v70 v73 v76 v79 v82 v85 v88 k0_t3) a + S144x512.size a ≤ S144x8192.size a := fun i v46 v49 v52 v55 v58 v61 v64 v67 v70 v73 v76 v79 v82 v85 v88 k0_hw1 k0_t3 => k0_hw1.1.2.2.2.2.2.2.2.2.2.2.2.2.2.2.2.2.2.2.2.1 k0_t3
theorem k0_mult20_dvd : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88) (k0_t3 : Fin (k0_t3_loop i v46 v49 v52 v55 v58 v61 v64 v67 v70 v73 v76 v79 v82 v85 v88).trips), 512 ∣ (k0_mult20 i v46 v49 v52 v55 v58 v61 v64 v67 v70 v73 v76 v79 v82 v85 v88 k0_t3).toNat := fun i v46 v49 v52 v55 v58 v61 v64 v67 v70 v73 v76 v79 v82 v85 v88 k0_hw1 k0_t3 => k0_hw1.1.2.2.2.2.2.2.2.2.2.2.2.2.2.2.2.2.2.2.2.2.1 k0_t3
theorem k0_mult21_dvd : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88) (k0_t3 : Fin (k0_t3_loop i v46 v49 v52 v55 v58 v61 v64 v67 v70 v73 v76 v79 v82 v85 v88).trips), 512 ∣ (k0_mult21 i v46 v49 v52 v55 v58 v61 v64 v67 v70 v73 v76 v79 v82 v85 v88 k0_t3).toNat := fun i v46 v49 v52 v55 v58 v61 v64 v67 v70 v73 v76 v79 v82 v85 v88 k0_hw1 k0_t3 => k0_hw1.1.2.2.2.2.2.2.2.2.2.2.2.2.2.2.2.2.2.2.2.2.2.1 k0_t3
theorem k0_mult22_dvd : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88) (k0_t3 : Fin (k0_t3_loop i v46 v49 v52 v55 v58 v61 v64 v67 v70 v73 v76 v79 v82 v85 v88).trips), 512 ∣ (k0_mult22 i v46 v49 v52 v55 v58 v61 v64 v67 v70 v73 v76 v79 v82 v85 v88 k0_t3).toNat := fun i v46 v49 v52 v55 v58 v61 v64 v67 v70 v73 v76 v79 v82 v85 v88 k0_hw1 k0_t3 => k0_hw1.1.2.2.2.2.2.2.2.2.2.2.2.2.2.2.2.2.2.2.2.2.2.2.1 k0_t3
theorem k0_mult23_dvd : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88) (k0_t3 : Fin (k0_t3_loop i v46 v49 v52 v55 v58 v61 v64 v67 v70 v73 v76 v79 v82 v85 v88).trips), 512 ∣ (k0_mult23 i v46 v49 v52 v55 v58 v61 v64 v67 v70 v73 v76 v79 v82 v85 v88 k0_t3).toNat := fun i v46 v49 v52 v55 v58 v61 v64 v67 v70 v73 v76 v79 v82 v85 v88 k0_hw1 k0_t3 => k0_hw1.1.2.2.2.2.2.2.2.2.2.2.2.2.2.2.2.2.2.2.2.2.2.2.2.1 k0_t3
theorem k0_off13_inb : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88) (k0_t3 : Fin (k0_t3_loop i v46 v49 v52 v55 v58 v61 v64 v67 v70 v73 v76 v79 v82 v85 v88).trips), ∀ a, (k0_off13 i v46 v49 v52 v55 v58 v61 v64 v67 v70 v73 v76 v79 v82 v85 v88 k0_t3) a + S144x512.size a ≤ S144x8192.size a := fun i v46 v49 v52 v55 v58 v61 v64 v67 v70 v73 v76 v79 v82 v85 v88 k0_hw1 k0_t3 => k0_hw1.1.2.2.2.2.2.2.2.2.2.2.2.2.2.2.2.2.2.2.2.2.2.2.2.2.1 k0_t3
theorem k0_mult24_dvd : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88) (k0_t3 : Fin (k0_t3_loop i v46 v49 v52 v55 v58 v61 v64 v67 v70 v73 v76 v79 v82 v85 v88).trips), 512 ∣ (k0_mult24 i v46 v49 v52 v55 v58 v61 v64 v67 v70 v73 v76 v79 v82 v85 v88 k0_t3).toNat := fun i v46 v49 v52 v55 v58 v61 v64 v67 v70 v73 v76 v79 v82 v85 v88 k0_hw1 k0_t3 => k0_hw1.1.2.2.2.2.2.2.2.2.2.2.2.2.2.2.2.2.2.2.2.2.2.2.2.2.2.1 k0_t3
theorem k0_mult25_dvd : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88) (k0_t3 : Fin (k0_t3_loop i v46 v49 v52 v55 v58 v61 v64 v67 v70 v73 v76 v79 v82 v85 v88).trips), 512 ∣ (k0_mult25 i v46 v49 v52 v55 v58 v61 v64 v67 v70 v73 v76 v79 v82 v85 v88 k0_t3).toNat := fun i v46 v49 v52 v55 v58 v61 v64 v67 v70 v73 v76 v79 v82 v85 v88 k0_hw1 k0_t3 => k0_hw1.1.2.2.2.2.2.2.2.2.2.2.2.2.2.2.2.2.2.2.2.2.2.2.2.2.2.2.1 k0_t3
theorem k0_mult26_dvd : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88), ∀ (k0_h2 : k0_cond2 i v46 v49 v52 v55 v58 v61 v64 v67 v70 v73 v76 v79 v82 v85 v88 = 1#1), 512 ∣ (k0_mult26 i v46 v49 v52 v55 v58 v61 v64 v67 v70 v73 v76 v79 v82 v85 v88).toNat := fun i v46 v49 v52 v55 v58 v61 v64 v67 v70 v73 v76 v79 v82 v85 v88 k0_hw1 k0_h2 => k0_hw1.1.2.2.2.2.2.2.2.2.2.2.2.2.2.2.2.2.2.2.2.2.2.2.2.2.2.2.2.1 k0_h2
theorem k0_off14_inb : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88), ∀ (k0_h2 : k0_cond2 i v46 v49 v52 v55 v58 v61 v64 v67 v70 v73 v76 v79 v82 v85 v88 = 1#1), ∀ a, (k0_off14 i v46 v49 v52 v55 v58 v61 v64 v67 v70 v73 v76 v79 v82 v85 v88) a + S512x128.size a ≤ S8192x128.size a := fun i v46 v49 v52 v55 v58 v61 v64 v67 v70 v73 v76 v79 v82 v85 v88 k0_hw1 k0_h2 => k0_hw1.1.2.2.2.2.2.2.2.2.2.2.2.2.2.2.2.2.2.2.2.2.2.2.2.2.2.2.2.2.1 k0_h2
theorem k0_mult27_dvd : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88), ∀ (k0_h2 : k0_cond2 i v46 v49 v52 v55 v58 v61 v64 v67 v70 v73 v76 v79 v82 v85 v88 = 1#1), 512 ∣ (k0_mult27 i v46 v49 v52 v55 v58 v61 v64 v67 v70 v73 v76 v79 v82 v85 v88).toNat := fun i v46 v49 v52 v55 v58 v61 v64 v67 v70 v73 v76 v79 v82 v85 v88 k0_hw1 k0_h2 => k0_hw1.1.2.2.2.2.2.2.2.2.2.2.2.2.2.2.2.2.2.2.2.2.2.2.2.2.2.2.2.2.2.1 k0_h2
theorem k0_off15_inb : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88), ∀ (k0_h2 : k0_cond2 i v46 v49 v52 v55 v58 v61 v64 v67 v70 v73 v76 v79 v82 v85 v88 = 1#1), ∀ a, (k0_off15 i v46 v49 v52 v55 v58 v61 v64 v67 v70 v73 v76 v79 v82 v85 v88) a + S144x512.size a ≤ S144x8192.size a := fun i v46 v49 v52 v55 v58 v61 v64 v67 v70 v73 v76 v79 v82 v85 v88 k0_hw1 k0_h2 => k0_hw1.1.2.2.2.2.2.2.2.2.2.2.2.2.2.2.2.2.2.2.2.2.2.2.2.2.2.2.2.2.2.2.1 k0_h2
theorem k0_mult28_dvd : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88), ∀ (k0_h2 : k0_cond2 i v46 v49 v52 v55 v58 v61 v64 v67 v70 v73 v76 v79 v82 v85 v88 = 1#1), 512 ∣ (k0_mult28 i v46 v49 v52 v55 v58 v61 v64 v67 v70 v73 v76 v79 v82 v85 v88).toNat := fun i v46 v49 v52 v55 v58 v61 v64 v67 v70 v73 v76 v79 v82 v85 v88 k0_hw1 k0_h2 => k0_hw1.1.2.2.2.2.2.2.2.2.2.2.2.2.2.2.2.2.2.2.2.2.2.2.2.2.2.2.2.2.2.2.2 k0_h2
theorem k0_mult29_dvd : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88), ∀ (k0_h2 : k0_cond2 i v46 v49 v52 v55 v58 v61 v64 v67 v70 v73 v76 v79 v82 v85 v88 = 1#1), 512 ∣ (k0_mult29 i v46 v49 v52 v55 v58 v61 v64 v67 v70 v73 v76 v79 v82 v85 v88).toNat := fun i v46 v49 v52 v55 v58 v61 v64 v67 v70 v73 v76 v79 v82 v85 v88 k0_hw1 k0_h2 => k0_hw1.2.1 k0_h2
theorem k0_mult30_dvd : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88), ∀ (k0_h2 : k0_cond2 i v46 v49 v52 v55 v58 v61 v64 v67 v70 v73 v76 v79 v82 v85 v88 = 1#1), 512 ∣ (k0_mult30 i v46 v49 v52 v55 v58 v61 v64 v67 v70 v73 v76 v79 v82 v85 v88).toNat := fun i v46 v49 v52 v55 v58 v61 v64 v67 v70 v73 v76 v79 v82 v85 v88 k0_hw1 k0_h2 => k0_hw1.2.2.1 k0_h2
theorem k0_off16_inb : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88), ∀ (k0_h2 : k0_cond2 i v46 v49 v52 v55 v58 v61 v64 v67 v70 v73 v76 v79 v82 v85 v88 = 1#1), ∀ a, (k0_off16 i v46 v49 v52 v55 v58 v61 v64 v67 v70 v73 v76 v79 v82 v85 v88) a + S144x512.size a ≤ S144x8192.size a := fun i v46 v49 v52 v55 v58 v61 v64 v67 v70 v73 v76 v79 v82 v85 v88 k0_hw1 k0_h2 => k0_hw1.2.2.2.1 k0_h2
theorem k0_mult31_dvd : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88), ∀ (k0_h2 : k0_cond2 i v46 v49 v52 v55 v58 v61 v64 v67 v70 v73 v76 v79 v82 v85 v88 = 1#1), 512 ∣ (k0_mult31 i v46 v49 v52 v55 v58 v61 v64 v67 v70 v73 v76 v79 v82 v85 v88).toNat := fun i v46 v49 v52 v55 v58 v61 v64 v67 v70 v73 v76 v79 v82 v85 v88 k0_hw1 k0_h2 => k0_hw1.2.2.2.2.1 k0_h2
theorem k0_mult32_dvd : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88), ∀ (k0_h2 : ¬(k0_cond2 i v46 v49 v52 v55 v58 v61 v64 v67 v70 v73 v76 v79 v82 v85 v88 = 1#1)), 512 ∣ (k0_mult32 i v46 v49 v52 v55 v58 v61 v64 v67 v70 v73 v76 v79 v82 v85 v88).toNat := fun i v46 v49 v52 v55 v58 v61 v64 v67 v70 v73 v76 v79 v82 v85 v88 k0_hw1 k0_h2 => k0_hw1.2.2.2.2.2.1 k0_h2
theorem k0_off17_inb : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88), ∀ (k0_h2 : ¬(k0_cond2 i v46 v49 v52 v55 v58 v61 v64 v67 v70 v73 v76 v79 v82 v85 v88 = 1#1)), ∀ a, (k0_off17 i v46 v49 v52 v55 v58 v61 v64 v67 v70 v73 v76 v79 v82 v85 v88) a + S144x512.size a ≤ S144x8192.size a := fun i v46 v49 v52 v55 v58 v61 v64 v67 v70 v73 v76 v79 v82 v85 v88 k0_hw1 k0_h2 => k0_hw1.2.2.2.2.2.2.1 k0_h2
theorem k0_mult33_dvd : ∀ (i : grid0.Coords) (v46 : BitVec 1) (v49 : BitVec 1) (v52 : BitVec 1) (v55 : BitVec 1) (v58 : BitVec 1) (v61 : BitVec 1) (v64 : BitVec 1) (v67 : BitVec 1) (v70 : BitVec 1) (v73 : BitVec 1) (v76 : BitVec 1) (v79 : BitVec 1) (v82 : BitVec 1) (v85 : BitVec 1) (v88 : BitVec 1) (k0_hw1 : k0_chk1 i v46 v49 v52 v55 v58 v61 v64 v67 v70 v73 v76 v79 v82 v85 v88), ∀ (k0_h2 : ¬(k0_cond2 i v46 v49 v52 v55 v58 v61 v64 v67 v70 v73 v76 v79 v82 v85 v88 = 1#1)), 512 ∣ (k0_mult33 i v46 v49 v52 v55 v58 v61 v64 v67 v70 v73 v76 v79 v82 v85 v88).toNat := fun i v46 v49 v52 v55 v58 v61 v64 v67 v70 v73 v76 v79 v82 v85 v88 k0_hw1 k0_h2 => k0_hw1.2.2.2.2.2.2.2 k0_h2

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S81 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S144x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "underflow" => some ⊤
  | _ => none
-- ==== ReferenceIdeal.lean ====
abbrev S8192x6144 : Shape := ⟨2, ![8192, 6144]⟩
abbrev S64 : Shape := ⟨1, ![64]⟩
abbrev S128 : Shape := ⟨1, ![128]⟩
abbrev S8192x2048 : Shape := ⟨2, ![8192, 2048]⟩
abbrev S8192x16x2x64 : Shape := ⟨4, ![8192, 16, 2, 64]⟩
abbrev S8192x16x128 : Shape := ⟨3, ![8192, 16, 128]⟩
abbrev S_ : Shape := ⟨0, ![]⟩
abbrev S16 : Shape := ⟨1, ![16]⟩
abbrev S8192 : Shape := ⟨1, ![8192]⟩
abbrev S2x16x8192x8192 : Shape := ⟨4, ![2, 16, 8192, 8192]⟩
abbrev S8192x1 : Shape := ⟨2, ![8192, 1]⟩
abbrev S1x8192 : Shape := ⟨2, ![1, 8192]⟩
abbrev S8192x8192 : Shape := ⟨2, ![8192, 8192]⟩
abbrev S16x1x1 : Shape := ⟨3, ![16, 1, 1]⟩
abbrev S1x8192x8192 : Shape := ⟨3, ![1, 8192, 8192]⟩
abbrev S16x8192x8192 : Shape := ⟨3, ![16, 8192, 8192]⟩
abbrev S1x16x8192x8192 : Shape := ⟨4, ![1, 16, 8192, 8192]⟩
abbrev S2x16x8192 : Shape := ⟨3, ![2, 16, 8192]⟩
abbrev S2x16x8192x1 : Shape := ⟨4, ![2, 16, 8192, 1]⟩
abbrev S16x128x8192 : Shape := ⟨3, ![16, 128, 8192]⟩
abbrev S8192x16 : Shape := ⟨2, ![8192, 16]⟩
abbrev S8192x16x1 : Shape := ⟨3, ![8192, 16, 1]⟩
abbrev S1x1x128 : Shape := ⟨3, ![1, 1, 128]⟩

abbrev nBuf : Space → Nat
  | .hbm => 99
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x16x2x64, .f32⟩
  | .hbm, ⟨10, _⟩ => ⟨S8192x16x2x64, .f32⟩
  | .hbm, ⟨11, _⟩ => ⟨S8192x16x128, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S8192, .f32⟩
  | .hbm, ⟨37, _⟩ => ⟨S2x16x8192x8192, .f32⟩
  | .hbm, ⟨38, _⟩ => ⟨S_, .f32⟩
  | .hbm, ⟨39, _⟩ => ⟨S2x16x8192x8192, .f32⟩
  | .hbm, ⟨40, _⟩ => ⟨S2x16x8192x8192, .f32⟩
  | .hbm, ⟨41, _⟩ => ⟨S8192x1, .f32⟩
  | .hbm, ⟨42, _⟩ => ⟨S1x8192, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S16x1x1, .f32⟩
  | .hbm, ⟨48, _⟩ => ⟨S1x8192x8192, .f32⟩
  | .hbm, ⟨49, _⟩ => ⟨S16x8192x8192, .f32⟩
  | .hbm, ⟨50, _⟩ => ⟨S16x8192x8192, .f32⟩
  | .hbm, ⟨51, _⟩ => ⟨S16x8192x8192, .f32⟩
  | .hbm, ⟨52, _⟩ => ⟨S1x16x8192x8192, .f32⟩
  | .hbm, ⟨53, _⟩ => ⟨S2x16x8192x8192, .f32⟩
  | .hbm, ⟨54, _⟩ => ⟨S2x16x8192x8192, .f32⟩
  | .hbm, ⟨55, _⟩ => ⟨S_, .f32⟩
  | .hbm, ⟨56, _⟩ => ⟨S2x16x8192, .f32⟩
  | .hbm, ⟨57, _⟩ => ⟨S_, .f32⟩
  | .hbm, ⟨58, _⟩ => ⟨S2x16x8192, .f32⟩
  | .hbm, ⟨59, _⟩ => ⟨S2x16x8192, .f32⟩
  | .hbm, ⟨60, _⟩ => ⟨S2x16x8192x1, .f32⟩
  | .hbm, ⟨61, _⟩ => ⟨S2x16x8192x8192, .f32⟩
  | .hbm, ⟨62, _⟩ => ⟨S2x16x8192x8192, .f32⟩
  | .hbm, ⟨63, _⟩ => ⟨S2x16x8192x8192, .f32⟩
  | .hbm, ⟨64, _⟩ => ⟨S_, .f32⟩
  | .hbm, ⟨65, _⟩ => ⟨S2x16x8192, .f32⟩
  | .hbm, ⟨66, _⟩ => ⟨S2x16x8192x1, .f32⟩
  | .hbm, ⟨67, _⟩ => ⟨S2x16x8192x8192, .f32⟩
  | .hbm, ⟨68, _⟩ => ⟨S2x16x8192x8192, .f32⟩
  | .hbm, ⟨69, _⟩ => ⟨S1x16x8192x8192, .f32⟩
  | .hbm, ⟨70, _⟩ => ⟨S16x8192x8192, .f32⟩
  | .hbm, ⟨71, _⟩ => ⟨S1x16x8192x8192, .f32⟩
  | .hbm, ⟨72, _⟩ => ⟨S16x8192x8192, .f32⟩
  | .hbm, ⟨73, _⟩ => ⟨S16x8192x8192, .f32⟩
  | .hbm, ⟨74, _⟩ => ⟨S16x8192x8192, .f32⟩
  | .hbm, ⟨75, _⟩ => ⟨S16x8192x8192, .f32⟩
  | .hbm, ⟨76, _⟩ => ⟨S16x128x8192, .f32⟩
  | .hbm, ⟨77, _⟩ => ⟨S8192x16x128, .f32⟩
  | .hbm, ⟨78, _⟩ => ⟨S8192x16x128, .f32⟩
  | .hbm, ⟨79, _⟩ => ⟨S_, .f32⟩
  | .hbm, ⟨80, _⟩ => ⟨S8192x16, .f32⟩
  | .hbm, ⟨81, _⟩ => ⟨S8192x16x1, .f32⟩
  | .hbm, ⟨82, _⟩ => ⟨S_, .f32⟩
  | .hbm, ⟨83, _⟩ => ⟨S8192x16x1, .f32⟩
  | .hbm, ⟨84, _⟩ => ⟨S8192x16x1, .f32⟩
  | .hbm, ⟨85, _⟩ => ⟨S_, .f32⟩
  | .hbm, ⟨86, _⟩ => ⟨S8192x16x1, .f32⟩
  | .hbm, ⟨87, _⟩ => ⟨S8192x16x1, .f32⟩
  | .hbm, ⟨88, _⟩ => ⟨S8192x16x1, .f32⟩
  | .hbm, ⟨89, _⟩ => ⟨S8192x16x128, .f32⟩
  | .hbm, ⟨90, _⟩ => ⟨S8192x16x128, .f32⟩
  | .hbm, ⟨91, _⟩ => ⟨S1x1x128, .f32⟩
  | .hbm, ⟨92, _⟩ => ⟨S8192x16x128, .f32⟩
  | .hbm, ⟨93, _⟩ => ⟨S8192x16x128, .f32⟩
  | .hbm, ⟨94, _⟩ => ⟨S_, .f32⟩
  | .hbm, ⟨95, _⟩ => ⟨S8192x16x128, .f32⟩
  | .hbm, ⟨96, _⟩ => ⟨S8192x16x128, .f32⟩
  | .hbm, ⟨97, _⟩ => ⟨S8192x2048, .f32⟩
  | .hbm, ⟨98, _⟩ => ⟨S8192x2048, .bf16⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_10 : Ref sig .tc := ⟨.hbm, 79, rfl⟩
abbrev main_v62 : Ref sig .tc := ⟨.hbm, 80, rfl⟩
abbrev main_v63 : Ref sig .tc := ⟨.hbm, 81, rfl⟩
abbrev main_cst_11 : Ref sig .tc := ⟨.hbm, 82, rfl⟩
abbrev main_v64 : Ref sig .tc := ⟨.hbm, 83, rfl⟩
abbrev main_v65 : Ref sig .tc := ⟨.hbm, 84, rfl⟩
abbrev main_cst_12 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_13 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩

abbrev nD : Nat := 1
abbrev τ : Topo := Topo.v7x

variable {F : FTy → Type} [FloatOps F]
-- ==== Up.lean ====
abbrev S8192x4096 : Shape := ⟨2, ![8192, 4096]⟩
abbrev S4096x11008 : Shape := ⟨2, ![4096, 11008]⟩
abbrev S8192x11008 : Shape := ⟨2, ![8192, 11008]⟩
abbrev S2048x4096 : Shape := ⟨2, ![2048, 4096]⟩
abbrev S4096x256 : Shape := ⟨2, ![4096, 256]⟩
abbrev S2048x256 : Shape := ⟨2, ![2048, 256]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096x11008, .f32⟩
  | .hbm, ⟨2, _⟩ => ⟨S4096x11008, .f32⟩
  | .hbm, ⟨3, _⟩ => ⟨S8192x4096, .bf16⟩
  | .hbm, ⟨4, _⟩ => ⟨S8192x11008, .bf16⟩
  | .local _ .vmem, ⟨0, _⟩ => ⟨S2048x4096, .bf16⟩
  | .local _ .vmem, ⟨1, _⟩ => ⟨S2048x4096, .bf16⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S2048x256, .bf16⟩
  | .local _ .vmem, ⟨7, _⟩ => ⟨S2048x256, .bf16⟩
  | .local _ .vmem, ⟨8, _⟩ => ⟨S4096x256, .bf16⟩
  | .local _ .vmem, ⟨9, _⟩ => ⟨S4096x256, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![43, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpReferenceIdeal.lean ====
abbrev S8192x4096 : Shape := ⟨2, ![8192, 4096]⟩
abbrev S4096x11008 : Shape := ⟨2, ![4096, 11008]⟩
abbrev S8192x11008 : Shape := ⟨2, ![8192, 11008]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x11008, .f32⟩
  | .hbm, ⟨2, _⟩ => ⟨S4096x11008, .f32⟩
  | .hbm, ⟨3, _⟩ => ⟨S8192x11008, .f32⟩
  | .hbm, ⟨4, _⟩ => ⟨S8192x11008, .f32⟩
  | .hbm, ⟨5, _⟩ => ⟨S8192x11008, .f32⟩
  | .hbm, ⟨6, _⟩ => ⟨S_, .f32⟩
  | .hbm, ⟨7, _⟩ => ⟨S8192x11008, .f32⟩
  | .hbm, ⟨8, _⟩ => ⟨S8192x11008, .f32⟩
  | .hbm, ⟨9, _⟩ => ⟨S_, .f32⟩
  | .hbm, ⟨10, _⟩ => ⟨S8192x11008, .f32⟩
  | .hbm, ⟨11, _⟩ => ⟨S8192x11008, .f32⟩
  | .hbm, ⟨12, _⟩ => ⟨S8192x11008, .f32⟩
  | .hbm, ⟨13, _⟩ => ⟨S8192x11008, .f32⟩
  | .hbm, ⟨14, _⟩ => ⟨S8192x11008, .f32⟩
  | .hbm, ⟨15, _⟩ => ⟨S8192x11008, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Down.lean ====
abbrev S8192x11008 : Shape := ⟨2, ![8192, 11008]⟩
abbrev S11008x4096 : Shape := ⟨2, ![11008, 4096]⟩
abbrev S8192x4096 : Shape := ⟨2, ![8192, 4096]⟩
abbrev S512x11008 : Shape := ⟨2, ![512, 11008]⟩
abbrev S11008x512 : Shape := ⟨2, ![11008, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x11008, .f32⟩
  | .hbm, ⟨1, _⟩ => ⟨S11008x4096, .f32⟩
  | .hbm, ⟨2, _⟩ => ⟨S8192x11008, .bf16⟩
  | .hbm, ⟨3, _⟩ => ⟨S11008x4096, .bf16⟩
  | .hbm, ⟨4, _⟩ => ⟨S8192x4096, .f32⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | _, _ => ⟨S8192x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownReferenceIdeal.lean ====
abbrev S8192x11008 : Shape := ⟨2, ![8192, 11008]⟩
abbrev S11008x4096 : Shape := ⟨2, ![11008, 4096]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x11008, .f32⟩
  | .hbm, ⟨1, _⟩ => ⟨S11008x4096, .f32⟩
  | .hbm, ⟨2, _⟩ => ⟨S8192x4096, .f32⟩
  | _, _ => ⟨S8192x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Last.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LastReferenceIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 40
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x4096, .f32⟩
  | .hbm, ⟨36, _⟩ => ⟨S8192x4096, .f32⟩
  | .hbm, ⟨37, _⟩ => ⟨S1x4096, .f32⟩
  | .hbm, ⟨38, _⟩ => ⟨S8192x4096, .f32⟩
  | .hbm, ⟨39, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Proj.lean ====
abbrev S8192x4096 : Shape := ⟨2, ![8192, 4096]⟩
abbrev S4096x12736 : Shape := ⟨2, ![4096, 12736]⟩
abbrev S4096x96 : Shape := ⟨2, ![4096, 96]⟩
abbrev S_ : Shape := ⟨0, ![]⟩
abbrev S4096x128 : Shape := ⟨2, ![4096, 128]⟩
abbrev S4096x256 : Shape := ⟨2, ![4096, 256]⟩
abbrev S4096x512 : Shape := ⟨2, ![4096, 512]⟩
abbrev S4096x6144 : Shape := ⟨2, ![4096, 6144]⟩
abbrev S4096x6656 : Shape := ⟨2, ![4096, 6656]⟩
abbrev S8192x6656 : Shape := ⟨2, ![8192, 6656]⟩
abbrev S2048x4096 : Shape := ⟨2, ![2048, 4096]⟩
abbrev S2048x512 : Shape := ⟨2, ![2048, 512]⟩

abbrev nBuf : Space → Nat
  | .hbm => 17
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x12736, .f32⟩
  | .hbm, ⟨2, _⟩ => ⟨S4096x96, .f32⟩
  | .hbm, ⟨3, _⟩ => ⟨S_, .i32⟩
  | .hbm, ⟨4, _⟩ => ⟨S_, .f32⟩
  | .hbm, ⟨5, _⟩ => ⟨S4096x128, .f32⟩
  | .hbm, ⟨6, _⟩ => ⟨S4096x96, .f32⟩
  | .hbm, ⟨7, _⟩ => ⟨S_, .i32⟩
  | .hbm, ⟨8, _⟩ => ⟨S_, .f32⟩
  | .hbm, ⟨9, _⟩ => ⟨S4096x128, .f32⟩
  | .hbm, ⟨10, _⟩ => ⟨S4096x256, .f32⟩
  | .hbm, ⟨11, _⟩ => ⟨S4096x512, .f32⟩
  | .hbm, ⟨12, _⟩ => ⟨S4096x6144, .f32⟩
  | .hbm, ⟨13, _⟩ => ⟨S4096x6656, .f32⟩
  | .hbm, ⟨14, _⟩ => ⟨S4096x6656, .bf16⟩
  | .hbm, ⟨15, _⟩ => ⟨S8192x4096, .bf16⟩
  | .hbm, ⟨16, _⟩ => ⟨S8192x6656, .f32⟩
  | .local _ .vmem, ⟨0, _⟩ => ⟨S2048x4096, .bf16⟩
  | .local _ .vmem, ⟨1, _⟩ => ⟨S2048x4096, .bf16⟩
  | .local _ .vmem, ⟨2, _⟩ => ⟨S4096x512, .bf16⟩
  | .local _ .vmem, ⟨3, _⟩ => ⟨S4096x512, .bf16⟩
  | .local _ .vmem, ⟨4, _⟩ => ⟨S2048x512, .f32⟩
  | .local _ .vmem, ⟨5, _⟩ => ⟨S2048x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjReferenceIdeal.lean ====
abbrev S8192x4096 : Shape := ⟨2, ![8192, 4096]⟩
abbrev S4096x12736 : Shape := ⟨2, ![4096, 12736]⟩
abbrev S4096x6592 : Shape := ⟨2, ![4096, 6592]⟩
abbrev S8192x6592 : Shape := ⟨2, ![8192, 6592]⟩
abbrev S_ : Shape := ⟨0, ![]⟩
abbrev S8192x32 : Shape := ⟨2, ![8192, 32]⟩
abbrev S8192x6240 : Shape := ⟨2, ![8192, 6240]⟩
abbrev S8192x96 : Shape := ⟨2, ![8192, 96]⟩
abbrev S8192x256 : Shape := ⟨2, ![8192, 256]⟩
abbrev S8192x6656 : Shape := ⟨2, ![8192, 6656]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x12736, .f32⟩
  | .hbm, ⟨2, _⟩ => ⟨S4096x6592, .f32⟩
  | .hbm, ⟨3, _⟩ => ⟨S8192x6592, .f32⟩
  | .hbm, ⟨4, _⟩ => ⟨S_, .f32⟩
  | .hbm, ⟨5, _⟩ => ⟨S8192x32, .f32⟩
  | .hbm, ⟨6, _⟩ => ⟨S8192x6240, .f32⟩
  | .hbm, ⟨7, _⟩ => ⟨S8192x96, .f32⟩
  | .hbm, ⟨8, _⟩ => ⟨S8192x256, .f32⟩
  | .hbm, ⟨9, _⟩ => ⟨S8192x6656, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Qkv.lean ====
abbrev S8192x4096 : Shape := ⟨2, ![8192, 4096]⟩
abbrev S4096x12736 : Shape := ⟨2, ![4096, 12736]⟩
abbrev S_ : Shape := ⟨0, ![]⟩
abbrev S1x2048 : Shape := ⟨2, ![1, 2048]⟩
abbrev S1x4096 : Shape := ⟨2, ![1, 4096]⟩
abbrev S1x6144 : Shape := ⟨2, ![1, 6144]⟩
abbrev S4096x6144 : Shape := ⟨2, ![4096, 6144]⟩
abbrev S8192x6144 : Shape := ⟨2, ![8192, 6144]⟩
abbrev S2048x4096 : Shape := ⟨2, ![2048, 4096]⟩
abbrev S4096x512 : Shape := ⟨2, ![4096, 512]⟩
abbrev S1x512 : Shape := ⟨2, ![1, 512]⟩
abbrev S2048x512 : Shape := ⟨2, ![2048, 512]⟩

abbrev nBuf : Space → Nat
  | .hbm => 14
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x12736, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1x2048, .f32⟩
  | .hbm, ⟨7, _⟩ => ⟨S_, .f32⟩
  | .hbm, ⟨8, _⟩ => ⟨S1x4096, .f32⟩
  | .hbm, ⟨9, _⟩ => ⟨S1x6144, .f32⟩
  | .hbm, ⟨10, _⟩ => ⟨S8192x4096, .bf16⟩
  | .hbm, ⟨11, _⟩ => ⟨S4096x6144, .f32⟩
  | .hbm, ⟨12, _⟩ => ⟨S4096x6144, .bf16⟩
  | .hbm, ⟨13, _⟩ => ⟨S8192x6144, .bf16⟩
  | .local _ .vmem, ⟨0, _⟩ => ⟨S2048x4096, .bf16⟩
  | .local _ .vmem, ⟨1, _⟩ => ⟨S2048x4096, .bf16⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S2048x512, .bf16⟩
  | .local _ .vmem, ⟨7, _⟩ => ⟨S2048x512, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![12, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkvReferenceIdeal.lean ====
abbrev S8192x4096 : Shape := ⟨2, ![8192, 4096]⟩
abbrev S4096x12736 : Shape := ⟨2, ![4096, 12736]⟩
abbrev S4096x6144 : Shape := ⟨2, ![4096, 6144]⟩
abbrev S8192x6144 : Shape := ⟨2, ![8192, 6144]⟩
abbrev S8192x2048 : Shape := ⟨2, ![8192, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x12736, .f32⟩
  | .hbm, ⟨2, _⟩ => ⟨S4096x6144, .f32⟩
  | .hbm, ⟨3, _⟩ => ⟨S8192x6144, .f32⟩
  | .hbm, ⟨4, _⟩ => ⟨S8192x2048, .f32⟩
  | .hbm, ⟨5, _⟩ => ⟨S8192x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x6144, .f32⟩
  | .hbm, ⟨13, _⟩ => ⟨S8192x6144, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Mix.lean ====
abbrev S8192x2048 : Shape := ⟨2, ![8192, 2048]⟩
abbrev S4096x4096 : Shape := ⟨2, ![4096, 4096]⟩
abbrev S2048x4096 : Shape := ⟨2, ![2048, 4096]⟩
abbrev S8192x4096 : Shape := ⟨2, ![8192, 4096]⟩
abbrev S2048x2048 : Shape := ⟨2, ![2048, 2048]⟩
abbrev S2048x512 : Shape := ⟨2, ![2048, 512]⟩

abbrev nBuf : Space → Nat
  | .hbm => 10
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S4096x4096, .f32⟩
  | .hbm, ⟨3, _⟩ => ⟨S8192x2048, .bf16⟩
  | .hbm, ⟨4, _⟩ => ⟨S8192x2048, .bf16⟩
  | .hbm, ⟨5, _⟩ => ⟨S2048x4096, .f32⟩
  | .hbm, ⟨6, _⟩ => ⟨S2048x4096, .bf16⟩
  | .hbm, ⟨7, _⟩ => ⟨S2048x4096, .f32⟩
  | .hbm, ⟨8, _⟩ => ⟨S2048x4096, .bf16⟩
  | .hbm, ⟨9, _⟩ => ⟨S8192x4096, .f32⟩
  | .local _ .vmem, ⟨0, _⟩ => ⟨S2048x2048, .bf16⟩
  | .local _ .vmem, ⟨1, _⟩ => ⟨S2048x2048, .bf16⟩
  | .local _ .vmem, ⟨2, _⟩ => ⟨S2048x2048, .bf16⟩
  | .local _ .vmem, ⟨3, _⟩ => ⟨S2048x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .f32⟩
  | .local _ .vmem, ⟨9, _⟩ => ⟨S2048x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MixReferenceIdeal.lean ====
abbrev S8192x2048 : Shape := ⟨2, ![8192, 2048]⟩
abbrev S4096x4096 : Shape := ⟨2, ![4096, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S4096x4096, .f32⟩
  | .hbm, ⟨3, _⟩ => ⟨S8192x4096, .f32⟩
  | .hbm, ⟨4, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Norm.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Half.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S8192x4096, .f32⟩
  | .hbm, ⟨7, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== HalfReferenceIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 41
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x4096, .f32⟩
  | .hbm, ⟨36, _⟩ => ⟨S8192x4096, .f32⟩
  | .hbm, ⟨37, _⟩ => ⟨S1x4096, .f32⟩
  | .hbm, ⟨38, _⟩ => ⟨S8192x4096, .f32⟩
  | .hbm, ⟨39, _⟩ => ⟨S8192x4096, .f32⟩
  | .hbm, ⟨40, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Full.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S8192x4096, .f32⟩
  | .hbm, ⟨7, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FullReferenceIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x4096, .f32⟩
  | .hbm, ⟨33, _⟩ => ⟨S8192x4096, .f32⟩
  | .hbm, ⟨34, _⟩ => ⟨S1x4096, .f32⟩
  | .hbm, ⟨35, _⟩ => ⟨S8192x4096, .f32⟩
  | .hbm, ⟨36, _⟩ => ⟨S8192x4096, .f32⟩
  | .hbm, ⟨37, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Post.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S128x128 : Shape := ⟨2, ![128, 128]⟩
abbrev S256x128 : Shape := ⟨2, ![256, 128]⟩

abbrev nBuf : Space → Nat
  | .hbm => 13
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S2048, .f32⟩
  | .hbm, ⟨5, _⟩ => ⟨S2048, .f32⟩
  | .hbm, ⟨6, _⟩ => ⟨S8192x2048, .bf16⟩
  | .hbm, ⟨7, _⟩ => ⟨S8192x2048, .bf16⟩
  | .hbm, ⟨8, _⟩ => ⟨S8192x2048, .bf16⟩
  | .hbm, ⟨9, _⟩ => ⟨S8192x2048, .bf16⟩
  | .hbm, ⟨10, _⟩ => ⟨S1x2048, .f32⟩
  | .hbm, ⟨11, _⟩ => ⟨S1x2048, .f32⟩
  | .hbm, ⟨12, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S1x2048, .f32⟩
  | .local _ .vmem, ⟨10, _⟩ => ⟨S256x2048, .bf16⟩
  | .local _ .vmem, ⟨11, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PostReferenceIdeal.lean ====
abbrev S8192x2048 : Shape := ⟨2, ![8192, 2048]⟩
abbrev S2048 : Shape := ⟨1, ![2048]⟩
abbrev S8192x32x64 : Shape := ⟨3, ![8192, 32, 64]⟩
abbrev S_ : Shape := ⟨0, ![]⟩
abbrev S8192x32 : Shape := ⟨2, ![8192, 32]⟩
abbrev S8192x32x1 : Shape := ⟨3, ![8192, 32, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S2048, .f32⟩
  | .hbm, ⟨5, _⟩ => ⟨S2048, .f32⟩
  | .hbm, ⟨6, _⟩ => ⟨S8192x2048, .f32⟩
  | .hbm, ⟨7, _⟩ => ⟨S8192x32x64, .f32⟩
  | .hbm, ⟨8, _⟩ => ⟨S_, .f32⟩
  | .hbm, ⟨9, _⟩ => ⟨S8192x32, .f32⟩
  | .hbm, ⟨10, _⟩ => ⟨S8192x32x1, .f32⟩
  | .hbm, ⟨11, _⟩ => ⟨S_, .f32⟩
  | .hbm, ⟨12, _⟩ => ⟨S8192x32x1, .f32⟩
  | .hbm, ⟨13, _⟩ => ⟨S8192x32x1, .f32⟩
  | .hbm, ⟨14, _⟩ => ⟨S8192x32x64, .f32⟩
  | .hbm, ⟨15, _⟩ => ⟨S8192x32x64, .f32⟩
  | .hbm, ⟨16, _⟩ => ⟨S8192x32x64, .f32⟩
  | .hbm, ⟨17, _⟩ => ⟨S_, .f32⟩
  | .hbm, ⟨18, _⟩ => ⟨S8192x32, .f32⟩
  | .hbm, ⟨19, _⟩ => ⟨S8192x32x1, .f32⟩
  | .hbm, ⟨20, _⟩ => ⟨S_, .f32⟩
  | .hbm, ⟨21, _⟩ => ⟨S8192x32x1, .f32⟩
  | .hbm, ⟨22, _⟩ => ⟨S8192x32x1, .f32⟩
  | .hbm, ⟨23, _⟩ => ⟨S8192x32x64, .f32⟩
  | .hbm, ⟨24, _⟩ => ⟨S8192x32x64, .f32⟩
  | .hbm, ⟨25, _⟩ => ⟨S_, .f32⟩
  | .hbm, ⟨26, _⟩ => ⟨S8192x32x1, .f32⟩
  | .hbm, ⟨27, _⟩ => ⟨S8192x32x1, .f32⟩
  | .hbm, ⟨28, _⟩ => ⟨S8192x32x1, .f32⟩
  | .hbm, ⟨29, _⟩ => ⟨S8192x32x64, .f32⟩
  | .hbm, ⟨30, _⟩ => ⟨S8192x32x64, .f32⟩
  | .hbm, ⟨31, _⟩ => ⟨S8192x2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S1x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.Checks.lean ====
/- The block indices the attention body computes at run time: the reach of the window of keys is a count of comparisons, so
   every index stays inside the arrays, whatever the inputs. -/
module

public import proofs.«01_k».proof.Proof.Gen.KernelIdeal.Frame

@[expose] public section

set_option maxRecDepth 65536

noncomputable section

namespace Cert.KernelIdeal.Gen

open Idealize.ShloMosaic

/-! # The words the kernel computes before its loops

The kernel counts, from fifteen comparisons, how many blocks of keys each side of the diagonal it reads (its width): one
more than the number of comparisons that fail. Every offset it then computes is a function of the query block (one of
eight) and of the width (one of sixteen), so the facts it assumes of those offsets are checked over these 128 cases. -/

/-- One comparison adds nothing or one to the width. -/
theorem width_step (v : BitVec 1) (n b : ℕ) (hn : n < b) (w : BitVec 32) (hw : w = BitVec.ofNat 32 (n + 1)) :
    ∃ n', n' < b + 1 ∧ Scalar.addi w (Scalar.select v (0#32 : BitVec 32) (1#32 : BitVec 32)) = BitVec.ofNat 32 (n' + 1) := by
  subst hw
  unfold Scalar.select
  split
  · exact ⟨n, by omega, BitVec.add_zero _⟩
  · exact ⟨n + 1, by omega, (BitVec.ofNat_add (n + 1) 1).symm⟩

/-- The width, from the fifteen comparisons. -/
theorem width_mem (v46 v49 v52 v55 v58 v61 v64 v67 v70 v73 v76 v79 v82 v85 v88 : BitVec 1) :
    ∃ n, n < 16 ∧ Scalar.addi (Scalar.addi (Scalar.addi (Scalar.addi (Scalar.addi (Scalar.addi (Scalar.addi (Scalar.addi (Scalar.addi (Scalar.addi (Scalar.addi (Scalar.addi (Scalar.addi (Scalar.addi (Scalar.addi ((1#32 : BitVec 32)) (Scalar.select v46 (0#32 : BitVec 32) (1#32 : BitVec 32))) (Scalar.select v49 (0#32 : BitVec 32) (1#32 : BitVec 32))) (Scalar.select v52 (0#32 : BitVec 32) (1#32 : BitVec 32))) (Scalar.select v55 (0#32 : BitVec 32) (1#32 : BitVec 32))) (Scalar.select v58 (0#32 : BitVec 32) (1#32 : BitVec 32))) (Scalar.select v61 (0#32 : BitVec 32) (1#32 : BitVec 32))) (Scalar.select v64 (0#32 : BitVec 32) (1#32 : BitVec 32))) (Scalar.select v67 (0#32 : BitVec 32) (1#32 : BitVec 32))) (Scalar.select v70 (0#32 : BitVec 32) (1#32 : BitVec 32))) (Scalar.select v73 (0#32 : BitVec 32) (1#32 : BitVec 32))) (Scalar.select v76 (0#32 : BitVec 32) (1#32 : BitVec 32))) (Scalar.select v79 (0#32 : BitVec 32) (1#32 : BitVec 32))) (Scalar.select v82 (0#32 : BitVec 32) (1#32 : BitVec 32))) (Scalar.select v85 (0#32 : BitVec 32) (1#32 : BitVec 32))) (Scalar.select v88 (0#32 : BitVec 32) (1#32 : BitVec 32)) = BitVec.ofNat 32 (n + 1) := by
  obtain ⟨n0, h0, e0⟩ : ∃ n, n < 1 ∧ (1#32 : BitVec 32) = BitVec.ofNat 32 (n + 1) := ⟨0, by omega, rfl⟩
  obtain ⟨n1, h1, e1⟩ := width_step v46 n0 1 h0 _ e0
  obtain ⟨n2, h2, e2⟩ := width_step v49 n1 2 h1 _ e1
  obtain ⟨n3, h3, e3⟩ := width_step v52 n2 3 h2 _ e2
  obtain ⟨n4, h4, e4⟩ := width_step v55 n3 4 h3 _ e3
  obtain ⟨n5, h5, e5⟩ := width_step v58 n4 5 h4 _ e4
  obtain ⟨n6, h6, e6⟩ := width_step v61 n5 6 h5 _ e5
  obtain ⟨n7, h7, e7⟩ := width_step v64 n6 7 h6 _ e6
  obtain ⟨n8, h8, e8⟩ := width_step v67 n7 8 h7 _ e7
  obtain ⟨n9, h9, e9⟩ := width_step v70 n8 9 h8 _ e8
  obtain ⟨n10, h10, e10⟩ := width_step v73 n9 10 h9 _ e9
  obtain ⟨n11, h11, e11⟩ := width_step v76 n10 11 h10 _ e10
  obtain ⟨n12, h12, e12⟩ := width_step v79 n11 12 h11 _ e11
  obtain ⟨n13, h13, e13⟩ := width_step v82 n12 13 h12 _ e12
  obtain ⟨n14, h14, e14⟩ := width_step v85 n13 14 h13 _ e13
  obtain ⟨n15, h15, e15⟩ := width_step v88 n14 15 h14 _ e14
  exact ⟨n15, h15, e15⟩

theorem k0_chk1_all : ∀ (i : grid0.Coords) (v46 v49 v52 v55 v58 v61 v64 v67 v70 v73 v76 v79 v82 v85 v88 : BitVec 1),
    k0_chk1 i v46 v49 v52 v55 v58 v61 v64 v67 v70 v73 v76 v79 v82 v85 v88 := by
  intro i v46 v49 v52 v55 v58 v61 v64 v67 v70 v73 v76 v79 v82 v85 v88
  obtain ⟨n, hn, hw⟩ := width_mem v46 v49 v52 v55 v58 v61 v64 v67 v70 v73 v76 v79 v82 v85 v88
  have hq : (i 1).val < 8 := (i 1).isLt
  unfold k0_chk1 k0_chk1_0 k0_chk1_1
  dsimp -failIfUnchanged -decide only [k0_t2_loop, k0_t3_loop, k0_cond2, k0_mult6, k0_mult8, k0_mult10, k0_mult11, k0_mult12, k0_mult13, k0_mult14, k0_mult15, k0_mult16, k0_mult17, k0_mult18, k0_mult19, k0_mult20, k0_mult21, k0_mult22, k0_mult23, k0_mult24, k0_mult25, k0_mult26, k0_mult27, k0_mult28, k0_mult29, k0_mult30, k0_mult31, k0_mult32, k0_mult33, k0_off6, k0_off8, k0_off9, k0_off10, k0_off11, k0_off12, k0_off13, k0_off14, k0_off15, k0_off16, k0_off17]
  generalize Scalar.addi (Scalar.addi (Scalar.addi (Scalar.addi (Scalar.addi (Scalar.addi (Scalar.addi (Scalar.addi (Scalar.addi (Scalar.addi (Scalar.addi (Scalar.addi (Scalar.addi (Scalar.addi (Scalar.addi ((1#32 : BitVec 32)) (Scalar.select v46 (0#32 : BitVec 32) (1#32 : BitVec 32))) (Scalar.select v49 (0#32 : BitVec 32) (1#32 : BitVec 32))) (Scalar.select v52 (0#32 : BitVec 32) (1#32 : BitVec 32))) (Scalar.select v55 (0#32 : BitVec 32) (1#32 : BitVec 32))) (Scalar.select v58 (0#32 : BitVec 32) (1#32 : BitVec 32))) (Scalar.select v61 (0#32 : BitVec 32) (1#32 : BitVec 32))) (Scalar.select v64 (0#32 : BitVec 32) (1#32 : BitVec 32))) (Scalar.select v67 (0#32 : BitVec 32) (1#32 : BitVec 32))) (Scalar.select v70 (0#32 : BitVec 32) (1#32 : BitVec 32))) (Scalar.select v73 (0#32 : BitVec 32) (1#32 : BitVec 32))) (Scalar.select v76 (0#32 : BitVec 32) (1#32 : BitVec 32))) (Scalar.select v79 (0#32 : BitVec 32) (1#32 : BitVec 32))) (Scalar.select v82 (0#32 : BitVec 32) (1#32 : BitVec 32))) (Scalar.select v85 (0#32 : BitVec 32) (1#32 : BitVec 32))) (Scalar.select v88 (0#32 : BitVec 32) (1#32 : BitVec 32)) = w at hw ⊢
  subst hw
  generalize (i 1).val = q at hq ⊢
  revert q n
  set_option synthInstance.maxSize 1000000 in set_option synthInstance.maxHeartbeats 0 in decide +kernel

end Cert.KernelIdeal.Gen

end
-- ==== Proof.Points.lean ====
/- The grid points of the attention: which of them compute the largest key norm afresh, and the buffers the body works on. -/
module

public import proofs.«01_k».proof.Proof.Checks
public import proofs.«01_k».proof.Proof.Gen.KernelIdeal.Loops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 8) — by arithmetic of the point. -/
theorem hcond0_0 : ∀ t : Fin cfg0.N, cond0_0 (grid0.coords t) ↔ t.val % 8 = 0 :=
  (fun t => by
    have ht : t.val < 128 := Nat.lt_of_lt_of_eq t.isLt N_0
    have e0 : (grid0.coords t 0).val = t.val / 8 % 16 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-! ## The kernel body on any staging memrefs: a subtype the run finds -/

/-- One staging buffer of output window 5, through which its contents are stated (`View.read_writes_of_cover`: the
    choice does not matter). -/
abbrev VO0_5 : View sig .tc .vmem S1024x128 .bf16 := (Memref.whole cc0_stg5_0 : Memref sig .tc .vmem S1024x128 .bf16).view
/-- Each window's current staging memref at point `t`, spelled as the pipeline passes it (`bodyAt0`), and its wholeness. -/
abbrev ms0_0 (t : Fin cfg0.N) : Memref sig .tc .smem S81 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S144x8192 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S2x2x512x1024 .f32 := Memref.whole cc0_scratch0
abbrev scM0_1 : Memref sig .tc .smem S1 .f32 := Memref.whole cc0_scratch1
/-- The scratch `arg9` the kernel carries between points, as a view: what it holds is stated through it. -/
abbrev VS0_1 : View sig .tc .smem S1 .f32 := scM0_1.view

/-- What holds between grid points, with the scratch operands owned at some contents: what the body is handed and gives back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## A choice between two computations -/

/-- One of two values, by whether a proposition holds. -/
def pick {α : Type} (C : Prop) (A : C → α) (B : ¬C → α) : α := @dite _ C (Classical.propDecidable C) A B

theorem pick_pos {α : Type} {C : Prop} (A : C → α) (B : ¬C → α) (h : C) : pick C A B = A h :=
  @dif_pos C (Classical.propDecidable C) h _ A B

theorem pick_neg {α : Type} {C : Prop} (A : C → α) (B : ¬C → α) (h : ¬C) : pick C A B = B h :=
  @dif_neg C (Classical.propDecidable C) h _ A B

end Cert.KernelIdeal.Gen

end
-- ==== Proof.RunA.lean ====
/- The run of the attention body at the first query block of a head, with both outcomes of the conditional. -/
module

public import proofs.«01_k».proof.Proof.Points

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The kernel's body where the running maximum of the keys is computed afresh (the first query block of a head): on whole staging
    memrefs it ends with the inputs as they were, the output's buffer with the pieces found here, chosen by the proposition found
    here (`C`: whether an even number of key blocks is left for the last pass), and the scratch as stated. -/
noncomputable def kernelRun0_A (c : Dev nD) (i : grid0.Coords) (arg2 : Memref sig .tc .smem S81 .f32) (harg2 : arg2.IsWhole) (arg3 : Memref sig .tc .vmem S128x1024 .bf16) (harg3 : arg3.IsWhole) (arg4 : Memref sig .tc .vmem S8192x128 .bf16) (harg4 : arg4.IsWhole) (arg5 : Memref sig .tc .vmem S144x8192 .bf16) (harg5 : arg5.IsWhole) (arg6 : Memref sig .tc .vmem S1x128 .f32) (harg6 : arg6.IsWhole) (arg7 : Memref sig .tc .vmem S1024x128 .bf16) (harg7 : arg7.IsWhole) (arg8 : Memref sig .tc .vmem S2x2x512x1024 .f32) (harg8 : arg8.IsWhole) (arg9 : Memref sig .tc .smem S1 .f32) (harg9 : arg9.IsWhole) (hc0 : cond0_0 i)
    (hall : ∀ (i : grid0.Coords) (v46 v49 v52 v55 v58 v61 v64 v67 v70 v73 v76 v79 v82 v85 v88 : BitVec 1), k0_chk1 i v46 v49 v52 v55 v58 v61 v64 v67 v70 v73 v76 v79 v82 v85 v88)
    (x0 : Vec F S81 .f32) (x1 : Vec F S128x1024 .bf16) (x2 : Vec F S8192x128 .bf16) (x3 : Vec F S144x8192 .bf16) (x4 : Vec F S1x128 .f32) :
    Σ' (C : Prop) (LA : C → List (View.Piece (Elt F) S1024x128 .bf16)) (LB : ¬C → List (View.Piece (Elt F) S1024x128 .bf16)), { LS1 : List (View.Piece (Elt F) S1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f (pick C LA LB)) ∗ (∃ d, owns (c : Thread nD τ) arg8 fullShare d) ∗ (∃ f, arg9.view.loc (c : Thread nD τ) ↦[arg9.view.set]{fullShare} arg9.view.writes (Elt F) f LS1)) -∗ K ⟨⟩))
          ⊢ wp frame (wpE (defs₀ (F := F)) Variants.none c none) E (cc0_diff_attn i arg2 harg2 arg3 harg3 arg4 harg4 arg5 harg5 arg6 harg6 arg7 harg7 arg8 harg8 arg9 harg9) K } := by
  refine ⟨?C, ?LA, ?LB, ?LS, fun E K => ?run⟩
  case run =>
    simp only [cc0_diff_attn_eq_skeleton]; unfold cc0_diff_attn_skel
    simp only [k0_part1_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    split
    rename_i h2
    have _ : ?C := by exact h2
    sl_exec (disch := first | sl_exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · rw [pick_pos _ _ h2]; sl_close
    isplitl [HS0]
    · iexists _, _; isplitr; swap; · iexact HS0
      ipureintro; rfl
    iexists _; iexact HS1
    case isFalse h2 =>
      have _ : ¬?C := by exact h2
      sl_exec (disch := first | sl_exact h2)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]; · rw [pick_neg _ _ h2]; sl_close
      isplitl [HS0]
      · iexists _, _; isplitr; swap; · iexact HS0
        ipureintro; rfl
      iexists _; iexact HS1

end Cert.KernelIdeal.Gen

end
-- ==== Proof.RunB.lean ====
/- The run of the attention body at the other query blocks of a head, with both outcomes of the conditional. -/
module

public import proofs.«01_k».proof.Proof.Points

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The kernel's body where the running maximum of the keys is the one the point before left (every other query block): on whole staging
    memrefs it ends with the inputs as they were, the output's buffer with the pieces found here, chosen by the proposition found
    here (`C`: whether an even number of key blocks is left for the last pass), and the scratch as stated. -/
noncomputable def kernelRun0_B (c : Dev nD) (i : grid0.Coords) (arg2 : Memref sig .tc .smem S81 .f32) (harg2 : arg2.IsWhole) (arg3 : Memref sig .tc .vmem S128x1024 .bf16) (harg3 : arg3.IsWhole) (arg4 : Memref sig .tc .vmem S8192x128 .bf16) (harg4 : arg4.IsWhole) (arg5 : Memref sig .tc .vmem S144x8192 .bf16) (harg5 : arg5.IsWhole) (arg6 : Memref sig .tc .vmem S1x128 .f32) (harg6 : arg6.IsWhole) (arg7 : Memref sig .tc .vmem S1024x128 .bf16) (harg7 : arg7.IsWhole) (arg8 : Memref sig .tc .vmem S2x2x512x1024 .f32) (harg8 : arg8.IsWhole) (arg9 : Memref sig .tc .smem S1 .f32) (harg9 : arg9.IsWhole) (hc0 : ¬cond0_0 i)
    (hall : ∀ (i : grid0.Coords) (v46 v49 v52 v55 v58 v61 v64 v67 v70 v73 v76 v79 v82 v85 v88 : BitVec 1), k0_chk1 i v46 v49 v52 v55 v58 v61 v64 v67 v70 v73 v76 v79 v82 v85 v88)
    (x0 : Vec F S81 .f32) (x1 : Vec F S128x1024 .bf16) (x2 : Vec F S8192x128 .bf16) (x3 : Vec F S144x8192 .bf16) (x4 : Vec F S1x128 .f32) (xs1 : Vec F S1 .f32) :
    Σ' (C : Prop) (LA : C → List (View.Piece (Elt F) S1024x128 .bf16)) (LB : ¬C → List (View.Piece (Elt F) S1024x128 .bf16)), { LS1 : List (View.Piece (Elt F) S1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f (pick C LA LB)) ∗ (∃ d, owns (c : Thread nD τ) arg8 fullShare d) ∗ owns (c : Thread nD τ) arg9 fullShare xs1) -∗ K ⟨⟩))
          ⊢ wp frame (wpE (defs₀ (F := F)) Variants.none c none) E (cc0_diff_attn i arg2 harg2 arg3 harg3 arg4 harg4 arg5 harg5 arg6 harg6 arg7 harg7 arg8 harg8 arg9 harg9) K } := by
  refine ⟨?C, ?LA, ?LB, [], fun E K => ?run⟩
  case run =>
    simp only [cc0_diff_attn_eq_skeleton]; unfold cc0_diff_attn_skel
    simp only [k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs1
    sl_exec (disch := first | sl_exact hc0)
    split
    rename_i h2
    have _ : ?C := by exact h2
    sl_exec (disch := first | sl_exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · rw [pick_pos _ _ h2]; sl_close
    isplitl [HS0]
    · iexists _, _; isplitr; swap; · iexact HS0
      ipureintro; rfl
    iexists _; isplitr; · ipureintro; exact harg9.read_unread _
    iexact HS1
    case isFalse h2 =>
      have _ : ¬?C := by exact h2
      sl_exec (disch := first | sl_exact h2)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]; · rw [pick_neg _ _ h2]; sl_close
      isplitl [HS0]
      · iexists _, _; isplitr; swap; · iexact HS0
        ipureintro; rfl
      iexists _; isplitr; · ipureintro; exact harg9.read_unread _
      iexact HS1

end Cert.KernelIdeal.Gen

end
-- ==== Proof.Frame.lean ====
/- The frame of the differential attention: what each grid point leaves in the result and the scratch, that the body takes
   every point to the next, and that the whole run ends with the arguments and counters as they were. -/
module

public import proofs.«01_k».proof.Proof.RunA
public import proofs.«01_k».proof.Proof.RunB
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Case A's pieces for output 5 tile its block (1 store of `S1024x128`, checked by evaluation), so they cover it. -/
theorem cover0_A_5 (c : Dev nD) (i : grid0.Coords) (arg2 : Memref sig .tc .smem S81 .f32) (harg2 : arg2.IsWhole) (arg3 : Memref sig .tc .vmem S128x1024 .bf16) (harg3 : arg3.IsWhole) (arg4 : Memref sig .tc .vmem S8192x128 .bf16) (harg4 : arg4.IsWhole) (arg5 : Memref sig .tc .vmem S144x8192 .bf16) (harg5 : arg5.IsWhole) (arg6 : Memref sig .tc .vmem S1x128 .f32) (harg6 : arg6.IsWhole) (arg7 : Memref sig .tc .vmem S1024x128 .bf16) (harg7 : arg7.IsWhole) (arg8 : Memref sig .tc .vmem S2x2x512x1024 .f32) (harg8 : arg8.IsWhole) (arg9 : Memref sig .tc .smem S1 .f32) (harg9 : arg9.IsWhole) (hc0 : cond0_0 i)
    (x0 : Vec F S81 .f32) (x1 : Vec F S128x1024 .bf16) (x2 : Vec F S8192x128 .bf16) (x3 : Vec F S144x8192 .bf16) (x4 : Vec F S1x128 .f32) (y : S1024x128.Idx) :
    ∃ pc ∈ (pick (kernelRun0_A c i arg2 harg2 arg3 harg3 arg4 harg4 arg5 harg5 arg6 harg6 arg7 harg7 arg8 harg8 arg9 harg9 hc0 k0_chk1_all x0 x1 x2 x3 x4).1 (kernelRun0_A c i arg2 harg2 arg3 harg3 arg4 harg4 arg5 harg5 arg6 harg6 arg7 harg7 arg8 harg8 arg9 harg9 hc0 k0_chk1_all x0 x1 x2 x3 x4).2.1 (kernelRun0_A c i arg2 harg2 arg3 harg3 arg4 harg4 arg5 harg5 arg6 harg6 arg7 harg7 arg8 harg8 arg9 harg9 hc0 k0_chk1_all x0 x1 x2 x3 x4).2.2.1), y ∈ pc.1.set :=
  by
    by_cases h : (kernelRun0_A c i arg2 harg2 arg3 harg3 arg4 harg4 arg5 harg5 arg6 harg6 arg7 harg7 arg8 harg8 arg9 harg9 hc0 k0_chk1_all x0 x1 x2 x3 x4).1
    · rw [pick_pos _ _ h]; exact View.cover_of_tiledL ((kernelRun0_A c i arg2 harg2 arg3 harg3 arg4 harg4 arg5 harg5 arg6 harg6 arg7 harg7 arg8 harg8 arg9 harg9 hc0 k0_chk1_all x0 x1 x2 x3 x4).2.1 h) S1024x128.size (by sl_kernel_rfl) y
    · rw [pick_neg _ _ h]; exact View.cover_of_tiledL ((kernelRun0_A c i arg2 harg2 arg3 harg3 arg4 harg4 arg5 harg5 arg6 harg6 arg7 harg7 arg8 harg8 arg9 harg9 hc0 k0_chk1_all x0 x1 x2 x3 x4).2.2.1 h) S1024x128.size (by sl_kernel_rfl) y

/-- What case A leaves in output 5's staging buffer: its pieces read back over junk. -/
def out0_A_5 (c : Dev nD) (i : grid0.Coords) (arg2 : Memref sig .tc .smem S81 .f32) (harg2 : arg2.IsWhole) (arg3 : Memref sig .tc .vmem S128x1024 .bf16) (harg3 : arg3.IsWhole) (arg4 : Memref sig .tc .vmem S8192x128 .bf16) (harg4 : arg4.IsWhole) (arg5 : Memref sig .tc .vmem S144x8192 .bf16) (harg5 : arg5.IsWhole) (arg6 : Memref sig .tc .vmem S1x128 .f32) (harg6 : arg6.IsWhole) (arg7 : Memref sig .tc .vmem S1024x128 .bf16) (harg7 : arg7.IsWhole) (arg8 : Memref sig .tc .vmem S2x2x512x1024 .f32) (harg8 : arg8.IsWhole) (arg9 : Memref sig .tc .smem S1 .f32) (harg9 : arg9.IsWhole) (hc0 : cond0_0 i)
    (x0 : Vec F S81 .f32) (x1 : Vec F S128x1024 .bf16) (x2 : Vec F S8192x128 .bf16) (x3 : Vec F S144x8192 .bf16) (x4 : Vec F S1x128 .f32) : Vec F S1024x128 .bf16 :=
  VO0_5.read (Elt F) (VO0_5.writes (Elt F) VO0_5.junk (pick (kernelRun0_A c i arg2 harg2 arg3 harg3 arg4 harg4 arg5 harg5 arg6 harg6 arg7 harg7 arg8 harg8 arg9 harg9 hc0 k0_chk1_all x0 x1 x2 x3 x4).1 (kernelRun0_A c i arg2 harg2 arg3 harg3 arg4 harg4 arg5 harg5 arg6 harg6 arg7 harg7 arg8 harg8 arg9 harg9 hc0 k0_chk1_all x0 x1 x2 x3 x4).2.1 (kernelRun0_A c i arg2 harg2 arg3 harg3 arg4 harg4 arg5 harg5 arg6 harg6 arg7 harg7 arg8 harg8 arg9 harg9 hc0 k0_chk1_all x0 x1 x2 x3 x4).2.2.1))

/-- Case A's pieces for scratch `arg9`, which the kernel carries between points, cover it: 1 piece of `S1` tiling it. -/
theorem scover0_A_1 (c : Dev nD) (i : grid0.Coords) (arg2 : Memref sig .tc .smem S81 .f32) (harg2 : arg2.IsWhole) (arg3 : Memref sig .tc .vmem S128x1024 .bf16) (harg3 : arg3.IsWhole) (arg4 : Memref sig .tc .vmem S8192x128 .bf16) (harg4 : arg4.IsWhole) (arg5 : Memref sig .tc .vmem S144x8192 .bf16) (harg5 : arg5.IsWhole) (arg6 : Memref sig .tc .vmem S1x128 .f32) (harg6 : arg6.IsWhole) (arg7 : Memref sig .tc .vmem S1024x128 .bf16) (harg7 : arg7.IsWhole) (arg8 : Memref sig .tc .vmem S2x2x512x1024 .f32) (harg8 : arg8.IsWhole) (arg9 : Memref sig .tc .smem S1 .f32) (harg9 : arg9.IsWhole) (hc0 : cond0_0 i)
    (x0 : Vec F S81 .f32) (x1 : Vec F S128x1024 .bf16) (x2 : Vec F S8192x128 .bf16) (x3 : Vec F S144x8192 .bf16) (x4 : Vec F S1x128 .f32) (y : S1.Idx) :
    ∃ pc ∈ (kernelRun0_A c i arg2 harg2 arg3 harg3 arg4 harg4 arg5 harg5 arg6 harg6 arg7 harg7 arg8 harg8 arg9 harg9 hc0 k0_chk1_all x0 x1 x2 x3 x4).2.2.2.1, y ∈ pc.1.set :=
  View.cover_of_tiledL (kernelRun0_A c i arg2 harg2 arg3 harg3 arg4 harg4 arg5 harg5 arg6 harg6 arg7 harg7 arg8 harg8 arg9 harg9 hc0 k0_chk1_all x0 x1 x2 x3 x4).2.2.2.1 S1.size (by sl_kernel_rfl) y

/-- What case A leaves in scratch `arg9`: its pieces read back over junk. -/
def sout0_A_1 (c : Dev nD) (i : grid0.Coords) (arg2 : Memref sig .tc .smem S81 .f32) (harg2 : arg2.IsWhole) (arg3 : Memref sig .tc .vmem S128x1024 .bf16) (harg3 : arg3.IsWhole) (arg4 : Memref sig .tc .vmem S8192x128 .bf16) (harg4 : arg4.IsWhole) (arg5 : Memref sig .tc .vmem S144x8192 .bf16) (harg5 : arg5.IsWhole) (arg6 : Memref sig .tc .vmem S1x128 .f32) (harg6 : arg6.IsWhole) (arg7 : Memref sig .tc .vmem S1024x128 .bf16) (harg7 : arg7.IsWhole) (arg8 : Memref sig .tc .vmem S2x2x512x1024 .f32) (harg8 : arg8.IsWhole) (arg9 : Memref sig .tc .smem S1 .f32) (harg9 : arg9.IsWhole) (hc0 : cond0_0 i)
    (x0 : Vec F S81 .f32) (x1 : Vec F S128x1024 .bf16) (x2 : Vec F S8192x128 .bf16) (x3 : Vec F S144x8192 .bf16) (x4 : Vec F S1x128 .f32) : Vec F S1 .f32 :=
  VS0_1.read (Elt F) (VS0_1.writes (Elt F) VS0_1.junk (kernelRun0_A c i arg2 harg2 arg3 harg3 arg4 harg4 arg5 harg5 arg6 harg6 arg7 harg7 arg8 harg8 arg9 harg9 hc0 k0_chk1_all x0 x1 x2 x3 x4).2.2.2.1)

/-- Case B's pieces for output 5 tile its block (1 store of `S1024x128`, checked by evaluation), so they cover it. -/
theorem cover0_B_5 (c : Dev nD) (i : grid0.Coords) (arg2 : Memref sig .tc .smem S81 .f32) (harg2 : arg2.IsWhole) (arg3 : Memref sig .tc .vmem S128x1024 .bf16) (harg3 : arg3.IsWhole) (arg4 : Memref sig .tc .vmem S8192x128 .bf16) (harg4 : arg4.IsWhole) (arg5 : Memref sig .tc .vmem S144x8192 .bf16) (harg5 : arg5.IsWhole) (arg6 : Memref sig .tc .vmem S1x128 .f32) (harg6 : arg6.IsWhole) (arg7 : Memref sig .tc .vmem S1024x128 .bf16) (harg7 : arg7.IsWhole) (arg8 : Memref sig .tc .vmem S2x2x512x1024 .f32) (harg8 : arg8.IsWhole) (arg9 : Memref sig .tc .smem S1 .f32) (harg9 : arg9.IsWhole) (hc0 : ¬cond0_0 i)
    (x0 : Vec F S81 .f32) (x1 : Vec F S128x1024 .bf16) (x2 : Vec F S8192x128 .bf16) (x3 : Vec F S144x8192 .bf16) (x4 : Vec F S1x128 .f32) (xs1 : Vec F S1 .f32) (y : S1024x128.Idx) :
    ∃ pc ∈ (pick (kernelRun0_B c i arg2 harg2 arg3 harg3 arg4 harg4 arg5 harg5 arg6 harg6 arg7 harg7 arg8 harg8 arg9 harg9 hc0 k0_chk1_all x0 x1 x2 x3 x4 xs1).1 (kernelRun0_B c i arg2 harg2 arg3 harg3 arg4 harg4 arg5 harg5 arg6 harg6 arg7 harg7 arg8 harg8 arg9 harg9 hc0 k0_chk1_all x0 x1 x2 x3 x4 xs1).2.1 (kernelRun0_B c i arg2 harg2 arg3 harg3 arg4 harg4 arg5 harg5 arg6 harg6 arg7 harg7 arg8 harg8 arg9 harg9 hc0 k0_chk1_all x0 x1 x2 x3 x4 xs1).2.2.1), y ∈ pc.1.set :=
  by
    by_cases h : (kernelRun0_B c i arg2 harg2 arg3 harg3 arg4 harg4 arg5 harg5 arg6 harg6 arg7 harg7 arg8 harg8 arg9 harg9 hc0 k0_chk1_all x0 x1 x2 x3 x4 xs1).1
    · rw [pick_pos _ _ h]; exact View.cover_of_tiledL ((kernelRun0_B c i arg2 harg2 arg3 harg3 arg4 harg4 arg5 harg5 arg6 harg6 arg7 harg7 arg8 harg8 arg9 harg9 hc0 k0_chk1_all x0 x1 x2 x3 x4 xs1).2.1 h) S1024x128.size (by sl_kernel_rfl) y
    · rw [pick_neg _ _ h]; exact View.cover_of_tiledL ((kernelRun0_B c i arg2 harg2 arg3 harg3 arg4 harg4 arg5 harg5 arg6 harg6 arg7 harg7 arg8 harg8 arg9 harg9 hc0 k0_chk1_all x0 x1 x2 x3 x4 xs1).2.2.1 h) S1024x128.size (by sl_kernel_rfl) y

/-- What case B leaves in output 5's staging buffer: its pieces read back over junk. -/
def out0_B_5 (c : Dev nD) (i : grid0.Coords) (arg2 : Memref sig .tc .smem S81 .f32) (harg2 : arg2.IsWhole) (arg3 : Memref sig .tc .vmem S128x1024 .bf16) (harg3 : arg3.IsWhole) (arg4 : Memref sig .tc .vmem S8192x128 .bf16) (harg4 : arg4.IsWhole) (arg5 : Memref sig .tc .vmem S144x8192 .bf16) (harg5 : arg5.IsWhole) (arg6 : Memref sig .tc .vmem S1x128 .f32) (harg6 : arg6.IsWhole) (arg7 : Memref sig .tc .vmem S1024x128 .bf16) (harg7 : arg7.IsWhole) (arg8 : Memref sig .tc .vmem S2x2x512x1024 .f32) (harg8 : arg8.IsWhole) (arg9 : Memref sig .tc .smem S1 .f32) (harg9 : arg9.IsWhole) (hc0 : ¬cond0_0 i)
    (x0 : Vec F S81 .f32) (x1 : Vec F S128x1024 .bf16) (x2 : Vec F S8192x128 .bf16) (x3 : Vec F S144x8192 .bf16) (x4 : Vec F S1x128 .f32) (xs1 : Vec F S1 .f32) : Vec F S1024x128 .bf16 :=
  VO0_5.read (Elt F) (VO0_5.writes (Elt F) VO0_5.junk (pick (kernelRun0_B c i arg2 harg2 arg3 harg3 arg4 harg4 arg5 harg5 arg6 harg6 arg7 harg7 arg8 harg8 arg9 harg9 hc0 k0_chk1_all x0 x1 x2 x3 x4 xs1).1 (kernelRun0_B c i arg2 harg2 arg3 harg3 arg4 harg4 arg5 harg5 arg6 harg6 arg7 harg7 arg8 harg8 arg9 harg9 hc0 k0_chk1_all x0 x1 x2 x3 x4 xs1).2.1 (kernelRun0_B c i arg2 harg2 arg3 harg3 arg4 harg4 arg5 harg5 arg6 harg6 arg7 harg7 arg8 harg8 arg9 harg9 hc0 k0_chk1_all x0 x1 x2 x3 x4 xs1).2.2.1))

/-- Case B stores nothing into scratch `arg9`: it holds what the point before left. -/
def sout0_B_1 (c : Dev nD) (i : grid0.Coords) (arg2 : Memref sig .tc .smem S81 .f32) (harg2 : arg2.IsWhole) (arg3 : Memref sig .tc .vmem S128x1024 .bf16) (harg3 : arg3.IsWhole) (arg4 : Memref sig .tc .vmem S8192x128 .bf16) (harg4 : arg4.IsWhole) (arg5 : Memref sig .tc .vmem S144x8192 .bf16) (harg5 : arg5.IsWhole) (arg6 : Memref sig .tc .vmem S1x128 .f32) (harg6 : arg6.IsWhole) (arg7 : Memref sig .tc .vmem S1024x128 .bf16) (harg7 : arg7.IsWhole) (arg8 : Memref sig .tc .vmem S2x2x512x1024 .f32) (harg8 : arg8.IsWhole) (arg9 : Memref sig .tc .smem S1 .f32) (harg9 : arg9.IsWhole) (hc0 : ¬cond0_0 i)
    (x0 : Vec F S81 .f32) (x1 : Vec F S128x1024 .bf16) (x2 : Vec F S8192x128 .bf16) (x3 : Vec F S144x8192 .bf16) (x4 : Vec F S1x128 .f32) (xs1 : Vec F S1 .f32) : Vec F S1 .f32 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x128 .bf16 × Vec F S1 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 8 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)

/-- `outsAt0` at a point of case A: that case's contents. -/
theorem outsAt0_A (c : Dev nD) (t : Fin cfg0.N) (h0 : t.val % 8 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    launch's own (every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 128 := lt_of_lt_of_eq t.isLt (show cfg0.N = 128 from N_0)
  by_cases h0 : t.val % 8 = 0
  · by_cases hz : t.val = 0
    · rw [PhiS_castSucc m c t, PhiS_zero m c _ _ hz, PhiA0_eq]
      rw [outsAt0_A m c t h0]
      unfold out0_A_5 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_0 t).mpr h0) k0_chk1_all (iblk m c 0 t) (iblk m c 1 t) (iblk m c 2 t) (iblk m c 3 t) (iblk m c 4 t)).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, HS0, ⟨%es1, HS1⟩⟩
      isplitl [HS0 HS1 Hg]
      · isplitl [HS0 HS1]
        · isplitl [HS0]
          · iexact HS0
          unfold owns; iexists _; isplitr
          swap; · iexact HS1
          ipureintro; exact View.read_writes_of_cover _ _ _ _ _ (scover0_A_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_A_5 c _ _ _ _ _ _ _ _ _ _ _ _ _ _ _ _ _ _ _ _ _ _ _)
    · rw [PhiS_castSucc m c t, PhiS_pos m c _ _ hz]
      rw [outsAt0_A m c t h0]
      unfold out0_A_5 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_0 t).mpr h0) k0_chk1_all (iblk m c 0 t) (iblk m c 1 t) (iblk m c 2 t) (iblk m c 3 t) (iblk m c 4 t)).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexists _; iexact HS1
      iintro ⟨H0, H1, H2, H3, H4, ⟨%e5, H5⟩, HS0, ⟨%es1, HS1⟩⟩
      isplitl [HS0 HS1 Hg]
      · isplitl [HS0 HS1]
        · isplitl [HS0]
          · iexact HS0
          unfold owns; iexists _; isplitr
          swap; · iexact HS1
          ipureintro; exact View.read_writes_of_cover _ _ _ _ _ (scover0_A_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_A_5 c _ _ _ _ _ _ _ _ _ _ _ _ _ _ _ _ _ _ _ _ _ _ _)
  · by_cases hz : t.val = 0
    · exfalso; have hN : t.val < 128 := lt_of_lt_of_eq t.isLt (show cfg0.N = 128 from N_0); omega
    · rw [PhiS_castSucc m c t, PhiS_pos m c _ _ hz]
      rw [outsAt0_B m c t h0]
      unfold out0_B_5 sout0_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => h0 ((hcond0_0 t).mp h)) k0_chk1_all (iblk m c 0 t) (iblk m c 1 t) (iblk m c 2 t) (iblk m c 3 t) (iblk m c 4 t) _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_B_5 c _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the data of the proof
    give and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the run ends, the argument arrays end unchanged, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Gen

end
-- ==== Proof.Up.lean ====
/- The gated product of the feed-forward part: what the kernel's blocks compute, what the whole array holds, and that
   the reference computes the same array. -/
module

public import proofs.«01_k».proof.Defs
public import proofs.«01_k».proof.Proof.Gen.UpIdeal.Value
public import proofs.«01_k».proof.Proof.Gen.UpReferenceIdeal
public import proofs.«01_k».proof.Proof.Gen.UpReferenceIdeal.Run
public import Idealize.ShloMosaic.Lib.MatmulPlain
public import Idealize.ShloMosaic.Lib.Pointwise
public import Idealize.ShloMosaic.Lib.ValueIdx
public import Idealize.ShloMosaic.Lib.Quiescent
public import Idealize.ShloMosaic.Lib.VecWindow

@[expose] public section

noncomputable section

namespace Cert.Proof.Up

open Idealize.ShloMosaic Idealize.ShloMosaic.TcCoe Idealize.SL.Sem
open Cert.UpIdeal Cert.UpIdeal.Gen
open Idealize.ShloMosaic.Pipeline (Dat Cfg Window)

variable (m : (ℓ : Loc nD τ sig) → Buf (Elt Ideal) ℓ) (ρ : Dev nD → PrngReg)

/-- The gated product at one place, from the two products there: `g · logistic g · u`. -/
def gated (g u : EReal) : EReal := g * Ideal.logistic g * u

/-- What the body computes of its three blocks, at one place. -/
theorem pay_apply (x : Vec Ideal S2048x4096 .bf16) (w v : Vec Ideal S4096x256 .bf16) (j : S2048x256.Idx) :
    k0_pay3 x w v j = gated (∑ k : Fin 4096, (x (ix2 (j 0) k) : EReal) * (w (ix2 k (j 1)) : EReal))
      (∑ k : Fin 4096, (x (ix2 (j 0) k) : EReal) * (v (ix2 k (j 1)) : EReal)) := by
  unfold k0_pay3 gated
  pointwise

/-- The whole gated product of an array with two others. -/
def prod (a : FVec Ideal S8192x4096 .f32) (w v : FVec Ideal S4096x11008 .f32) : FVec Ideal S8192x11008 .bf16 :=
  fun i => gated (∑ k : Fin 4096, (a (ix2 (i 0) k) : EReal) * (w (ix2 k (i 1)) : EReal))
    (∑ k : Fin 4096, (a (ix2 (i 0) k) : EReal) * (v (ix2 k (i 1)) : EReal))

/-- The reference computes the same array. -/
theorem reference_eq (a : FVec Ideal S8192x4096 .f32) (w v : FVec Ideal S4096x11008 .f32)
    (hb : Cert.UpReferenceIdeal.S_.BroadcastsInDim S8192x11008 ![]) (hl : FTy.bits .bf16 < FTy.bits .f32) :
    (truncf .bf16 (mulf (mulf (Host.dotGeneral Cert.UpReferenceIdeal.dot_S8192x4096_S4096x11008_S8192x11008_1_0_0_1_n_n none a w)
        (Host.divf (broadcastInDim S8192x11008 ![] hb (constant (F := Ideal) Cert.UpReferenceIdeal.S_ .f32 0x3F800000#32))
          (addf (broadcastInDim S8192x11008 ![] hb (constant (F := Ideal) Cert.UpReferenceIdeal.S_ .f32 0x3F800000#32))
            (Host.exp (Host.negf (Host.dotGeneral Cert.UpReferenceIdeal.dot_S8192x4096_S4096x11008_S8192x11008_1_0_0_1_n_n none a w))))))
        (Host.dotGeneral Cert.UpReferenceIdeal.dot_S8192x4096_S4096x11008_S8192x11008_1_0_0_1_n_n none a v)) hl
      : FVec Ideal S8192x11008 .bf16) = prod a w v := by
  funext j
  unfold prod gated Ideal.logistic
  pointwise

section Cases
variable (c : Dev nD) (i : grid0.Coords) (arg2 : Memref sig .tc .vmem S2048x4096 .bf16) (harg2 : arg2.IsWhole)
  (arg3 : Memref sig .tc .vmem S4096x256 .f32) (harg3 : arg3.IsWhole) (arg4 : Memref sig .tc .vmem S4096x256 .f32) (harg4 : arg4.IsWhole)
  (arg5 : Memref sig .tc .vmem S2048x256 .bf16) (harg5 : arg5.IsWhole) (arg6 : Memref sig .tc .vmem S4096x256 .bf16) (harg6 : arg6.IsWhole)
  (arg7 : Memref sig .tc .vmem S4096x256 .bf16) (harg7 : arg7.IsWhole)
  (x0 : Vec Ideal S2048x4096 .bf16) (x1 : Vec Ideal S4096x256 .f32) (x2 : Vec Ideal S4096x256 .f32)
  (xs0 xs1 : Vec Ideal S4096x256 .bf16)

/-- At the first row block of a column block the body stores the product of the rows with the two weight blocks it has just rounded. -/
theorem outA (hc0 : cond0_0 i) :
    out0_A_3 c i arg2 harg2 arg3 harg3 arg4 harg4 arg5 harg5 arg6 harg6 arg7 harg7 hc0 x0 x1 x2 = k0_pay3 x0 (k0_pay1 x1) (k0_pay2 x2) := by
  unfold out0_A_3 kernelRun0_A
  dsimp only
  unfold kernelRun0_A.sl.v5 kernelRun0_A.sl.v7
  rw [View.read_writes_full VO0_3, View.readAt_full arg2.view, harg2.read_unread]
  unfold kernelRun0_A.sl.HS0_1 kernelRun0_A.sl.HS1_1
  rw [View.readCov_full arg6.view, View.readCov_full arg7.view, View.readAt_full arg3.view, harg3.read_unread,
    View.readAt_full arg4.view, harg4.read_unread]

/-- It leaves the rounded gate weights in the first scratch array … -/
theorem keepA0 (hc0 : cond0_0 i) :
    sout0_A_0 c i arg2 harg2 arg3 harg3 arg4 harg4 arg5 harg5 arg6 harg6 arg7 harg7 hc0 x0 x1 x2 = k0_pay1 x1 := by
  unfold sout0_A_0 kernelRun0_A
  dsimp only
  unfold kernelRun0_A.sl.HS0_1
  rw [View.read_writes_full VS0_0, View.readAt_full arg3.view, harg3.read_unread]

/-- … and the rounded up weights in the second. -/
theorem keepA1 (hc0 : cond0_0 i) :
    sout0_A_1 c i arg2 harg2 arg3 harg3 arg4 harg4 arg5 harg5 arg6 harg6 arg7 harg7 hc0 x0 x1 x2 = k0_pay2 x2 := by
  unfold sout0_A_1 kernelRun0_A
  dsimp only
  unfold kernelRun0_A.sl.HS1_1
  rw [View.read_writes_full VS0_1, View.readAt_full arg4.view, harg4.read_unread]

/-- At the other row blocks the body multiplies with what the scratch arrays hold. -/
theorem outB (hc0 : ¬cond0_0 i) :
    out0_B_3 c i arg2 harg2 arg3 harg3 arg4 harg4 arg5 harg5 arg6 harg6 arg7 harg7 hc0 x0 x1 x2 xs0 xs1 = k0_pay3 x0 xs0 xs1 := by
  unfold out0_B_3 kernelRun0_B
  dsimp only
  rw [View.read_writes_full VO0_3, View.readAt_full arg2.view, harg2.read_unread, View.readAt_full arg6.view, harg6.read_unread,
    View.readAt_full arg7.view, harg7.read_unread]

end Cases

/-- The region finds the rounded first argument in its first array; over the reals rounding does nothing. -/
theorem V0 (c : Dev nD) (i : S8192x4096.Idx) :
    (V m c main_v0 i : EReal) = m ((c.tc : Thread nD τ).loc main_arg0) i := by
  have e : V m c main_v0 = (truncf (F := Ideal) (s := S8192x4096) (φ := .f32) .bf16 (m ((c.tc : Thread nD τ).loc main_arg0)) bitsLt_bf16_f32 : FVec Ideal S8192x4096 .bf16) := by
    show StableHlo.after hostOps0 _ (Proc.devRef .tc main_v0) = _
    after_results
  rw [e]; rfl

/-- The blocks of a grid point: the rows of the first operand and the columns of the two weights are those of the
    result's block; the columns change every fourth point only. -/
theorem places : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (1 : Fin 2) = t.val / 4 :=
  (by decide +kernel : ∀ t : Fin grid0.N, _)

/-- The block of columns that belongs to a number. -/
def cols (w : FVec Ideal S4096x11008 .f32) (q : ℕ) : Vec Ideal S4096x256 .bf16 :=
  fun y => if h : q * 256 + (y 1).val < 11008 then (w (ix2 (y 0) ⟨q * 256 + (y 1).val, h⟩) : EReal) else (0 : EReal)

/-- Reading a block of columns. -/
theorem cols_apply (w : FVec Ideal S4096x11008 .f32) (q : ℕ) (z : S4096x256.Idx) (i : S4096x11008.Idx)
    (h0 : (i 0).val = (z 0).val) (h1 : (i 1).val = q * 256 + (z 1).val) : (cols w q z : EReal) = w i := by
  have hi : (i 1).val < 11008 := (i 1).isLt
  unfold cols
  rw [dif_pos (by omega)]
  refine congrArg _ (funext fun a => Fin.ext ?_)
  match a with
  | ⟨0, _⟩ => exact h0.symm
  | ⟨1, _⟩ => exact h1.symm

/-- The gate block of a point, rounded, is its block of columns. -/
theorem gate_block (c : Dev nD) (t : Fin cfg0.N) : k0_pay1 (iblk m c 1 t) = cols (m ((c.tc : Thread nD τ).loc main_arg1)) (t.val / 4) := by
  obtain ⟨-, -, e2, e3, -, -, e6⟩ := places t
  have hN : t.val < 172 := lt_of_lt_of_eq t.isLt (show cfg0.N = 172 from N_0)
  funext y
  have hy : (y 1).val < 256 := (y 1).isLt
  unfold k0_pay1 cols
  rw [dif_pos (by omega)]
  simp only [shapeCast_self]
  show V m c main_arg1 (((cfg0.win 1).blk t).view.emb y) = _
  rw [V_main_arg1]
  refine congrArg _ (funext fun a => Fin.ext ?_)
  match a with
  | ⟨0, _⟩ =>
    show win0_1.index t (0 : Fin 2) * 4096 + 1 * (y 0).val = (y 0).val
    rw [e2]; omega
  | ⟨1, _⟩ =>
    show win0_1.index t (1 : Fin 2) * 256 + 1 * (y 1).val = t.val / 4 * 256 + (y 1).val
    rw [e3, e6]; omega

/-- The same for the up block. -/
theorem up_block (c : Dev nD) (t : Fin cfg0.N) : k0_pay2 (iblk m c 2 t) = cols (m ((c.tc : Thread nD τ).loc main_arg2)) (t.val / 4) := by
  obtain ⟨-, -, -, -, e2, e3, e6⟩ := places t
  have hN : t.val < 172 := lt_of_lt_of_eq t.isLt (show cfg0.N = 172 from N_0)
  funext y
  have hy : (y 1).val < 256 := (y 1).isLt
  unfold k0_pay2 cols
  rw [dif_pos (by omega)]
  simp only [shapeCast_self]
  show V m c main_arg2 (((cfg0.win 2).blk t).view.emb y) = _
  rw [V_main_arg2]
  refine congrArg _ (funext fun a => Fin.ext ?_)
  match a with
  | ⟨0, _⟩ =>
    show win0_2.index t (0 : Fin 2) * 4096 + 1 * (y 0).val = (y 0).val
    rw [e2]; omega
  | ⟨1, _⟩ =>
    show win0_2.index t (1 : Fin 2) * 256 + 1 * (y 1).val = t.val / 4 * 256 + (y 1).val
    rw [e3, e6]; omega

/-- After every point the scratch arrays hold the columns of the point, and the staged block is the rows' product with them. -/
theorem state (c : Dev nD) : ∀ (n : ℕ) (hn : n < cfg0.N), outsAt0 m c n hn
    = (k0_pay3 (iblk m c 0 ⟨n, hn⟩) (cols (m ((c.tc : Thread nD τ).loc main_arg1)) (n / 4)) (cols (m ((c.tc : Thread nD τ).loc main_arg2)) (n / 4)),
       cols (m ((c.tc : Thread nD τ).loc main_arg1)) (n / 4), cols (m ((c.tc : Thread nD τ).loc main_arg2)) (n / 4)) := by
  intro n
  induction n with
  | zero =>
    intro hn
    rw [outsAt0_A m c ⟨0, hn⟩ (Nat.zero_mod _), outA, keepA0, keepA1, gate_block, up_block]
  | succ n ih =>
    intro hn
    by_cases h0 : (n + 1) % 4 = 0
    · rw [outsAt0_A m c ⟨n + 1, hn⟩ h0, outA, keepA0, keepA1, gate_block, up_block]
    · rw [outsAt0_B m c ⟨n + 1, hn⟩ h0, outB]
      unfold sout0_B_0 sout0_B_1
      have e := ih (Nat.lt_of_succ_lt hn)
      have hq : (n + 1) / 4 = n / 4 := by omega
      rw [hq]
      show (k0_pay3 _ (outsAt0 m c n _).2.1 (outsAt0 m c n _).2.2, (outsAt0 m c n _).2.1, (outsAt0 m c n _).2.2) = _
      rw [e]

set_option maxRecDepth 65536 in
/-- What a grid point writes back is its block of the whole gated product. -/
theorem flushed_eq (c : Dev nD) (t : Fin cfg0.N) : (dats m 0 c).flushed 3 t
    = ((cfg0.win 3).blk t).view.read (Elt Ideal)
        (prod (m ((c.tc : Thread nD τ).loc main_arg0)) (m ((c.tc : Thread nD τ).loc main_arg1)) (m ((c.tc : Thread nD τ).loc main_arg2))) := by
  rw [Value.flushed3, state]
  obtain ⟨e0, e1, -, -, -, -, e6⟩ := places t
  have hN : t.val < 172 := lt_of_lt_of_eq t.isLt (show cfg0.N = 172 from N_0)
  funext y
  have hy : (y 1).val < 256 := (y 1).isLt
  show k0_pay3 (iblk m c 0 t) _ _ ((cfg0.win 3).xinj (grid0.coords t) y) = prod _ _ _ (((cfg0.win 3).blk t).view.emb y)
  rw [pay_apply]
  unfold prod
  generalize hz : (cfg0.win 3).xinj (grid0.coords t) y = z
  have z0 : (z 0).val = (y 0).val := by rw [← hz]
  have z1 : (z 1).val = (y 1).val := by rw [← hz]
  have hx : ∀ k : Fin 4096, (iblk m c 0 t (ix2 (z 0) k) : EReal)
      = m ((c.tc : Thread nD τ).loc main_arg0) (ix2 ((((cfg0.win 3).blk t).view.emb y) 0) k) := fun k => by
    refine (V0 m c (((cfg0.win 0).blk t).view.emb (ix2 (z 0) k))).trans (congrArg _ (funext fun a => Fin.ext ?_))
    match a with
    | ⟨0, _⟩ =>
      show win0_0.index t (0 : Fin 2) * 2048 + 1 * (z 0).val = win0_3.index t (0 : Fin 2) * 2048 + 1 * (y 0).val
      rw [e0, z0]
    | ⟨1, _⟩ =>
      show win0_0.index t (1 : Fin 2) * 4096 + 1 * k.val = k.val
      rw [e1]; omega
  have hw : ∀ (w : FVec Ideal S4096x11008 .f32) (k : Fin 4096), (cols w (t.val / 4) (ix2 k (z 1)) : EReal)
      = w (ix2 k ((((cfg0.win 3).blk t).view.emb y) 1)) := fun w k =>
    cols_apply w _ _ _ rfl (by
      show win0_3.index t (1 : Fin 2) * 256 + 1 * (y 1).val = t.val / 4 * 256 + (z 1).val
      rw [e6, z1]; omega)
  refine congrArg₂ gated (Finset.sum_congr rfl fun k _ => ?_) (Finset.sum_congr rfl fun k _ => ?_)
  · exact congrArg₂ (fun u v : EReal => u * v) (hx k) (hw _ k)
  · exact congrArg₂ (fun u v : EReal => u * v) (hx k) (hw _ k)

/-- Every place of the result is in some point's block. -/
theorem covered (i : S8192x11008.Idx) : ∃ t : Fin cfg0.N, (cfg0.win 3).flush t = true ∧ i ∈ ((cfg0.win 3).blk t).view.set :=
  (Value.covered_iff3 i).2 (by
    have h0 : (i 0).val < 8192 := (i 0).isLt
    have h1 : (i 1).val < 11008 := (i 1).isLt
    omega)

/-- After the run the result array is the gated product of the arguments. -/
theorem final (c : Dev nD) : (dats m 0 c).arrAt 3 cfg0.N
    = prod (m ((c.tc : Thread nD τ).loc main_arg0)) (m ((c.tc : Thread nD τ).loc main_arg1)) (m ((c.tc : Thread nD τ).loc main_arg2)) :=
  (dats m 0 c).arrAt_eq_of_cover 3 _ (fun t _ => flushed_eq m c t) covered

/-- The kernel and the reference compute the same gated product. -/
theorem value : Cert.algebraic_UpIdeal_UpReferenceIdeal := by
  intro m g m' g' _ hag
  refine ⟨fun c => prod (m ((c.tc : Thread nD τ).loc main_arg0)) (m ((c.tc : Thread nD τ).loc main_arg1)) (m ((c.tc : Thread nD τ).loc main_arg2)), ?_, ?_⟩
  · exact (θ_run _ _ _).mono (fun r h c => ⟨(h c).1.trans (final m c), (h c).2⟩) (Value.run_blocks m g)
  · refine (θ_run _ _ _).mono (fun r h c => ⟨(h c).1.trans ?_, (h c).2⟩) (Cert.UpReferenceIdeal.Value.run (F := Ideal) m' g')
    rw [(hag c).1, (hag c).2.1, (hag c).2.2]
    exact reference_eq _ _ _ _ _

/-- The reference runs to its end and leaves its arguments alone; it has no counters. -/
theorem reference_frame : Cert.quiescent_UpReferenceIdeal := fun m ρ _ =>
  (θ_run _ _ _).mono (fun r h => ⟨fun c => (h c).2, sem_eq_zero_of_no_sems (by decide) r.2⟩)
    (Cert.UpReferenceIdeal.Value.run (F := Ideal) m ρ)

end Cert.Proof.Up

end
-- ==== Proof.Down.lean ====
/- The down product of the feed-forward part: what the kernel's blocks compute, what the whole array holds, and that
   the reference's product is the same array. -/
module

public import proofs.«01_k».proof.Defs
public import proofs.«01_k».proof.Proof.Gen.DownIdeal.Value
public import proofs.«01_k».proof.Proof.Gen.DownReferenceIdeal
public import proofs.«01_k».proof.Proof.Gen.DownReferenceIdeal.Run
public import Idealize.ShloMosaic.Lib.MatmulPlain
public import Idealize.ShloMosaic.Lib.Pointwise
public import Idealize.ShloMosaic.Lib.ValueIdx
public import Idealize.ShloMosaic.Lib.Quiescent

@[expose] public section

noncomputable section

namespace Cert.Proof.Down

open Idealize.ShloMosaic Idealize.ShloMosaic.TcCoe Idealize.SL.Sem
open Cert.DownIdeal Cert.DownIdeal.Gen
open Idealize.ShloMosaic.Pipeline (Dat Cfg Window)

variable (m : (ℓ : Loc nD τ sig) → Buf (Elt Ideal) ℓ) (ρ : Dev nD → PrngReg)

/-- The product of a block of rows with a block of columns, at one place. -/
theorem pay_apply (x : Vec Ideal S512x11008 .bf16) (w : Vec Ideal S11008x512 .bf16) (j : S512x512.Idx) :
    k0_pay1 x w j = ∑ k : Fin 11008, (x (ix2 (j 0) k) : EReal) * (w (ix2 k (j 1)) : EReal) := by
  unfold k0_pay1
  pointwise

/-- The body stores the product of the two blocks it loads. -/
theorem out_eq (x : Vec Ideal S512x11008 .bf16) (w : Vec Ideal S11008x512 .bf16) : out0_2 x w = k0_pay1 x w := by
  have h2 : (![0, 0] : Fin S512x512.rank → Nat) = fun _ => 0 := funext fun a => by fin_cases a <;> rfl
  have h0 : (![0, 0] : Fin S512x11008.rank → Nat) = fun _ => 0 := funext fun a => by fin_cases a <;> rfl
  have h1 : (![0, 0] : Fin S11008x512.rank → Nat) = fun _ => 0 := funext fun a => by fin_cases a <;> rfl
  unfold out0_2
  rw [View.canon_unit_zero h2, View.ld_unit_zero h0, View.ld_unit_zero h1]

/-- The whole product of two arrays. -/
def prod (a : FVec Ideal S8192x11008 .f32) (w : FVec Ideal S11008x4096 .f32) : FVec Ideal S8192x4096 .f32 :=
  fun i => ∑ k : Fin 11008, (a (ix2 (i 0) k) : EReal) * (w (ix2 k (i 1)) : EReal)

/-- The region finds the rounded first argument in its first array; over the reals rounding does nothing. -/
theorem V0 (c : Dev nD) (i : S8192x11008.Idx) :
    (V m c main_v0 i : EReal) = m ((c.tc : Thread nD τ).loc main_arg0) i := by
  have e : V m c main_v0 = (truncf (F := Ideal) (s := S8192x11008) (φ := .f32) .bf16 (m ((c.tc : Thread nD τ).loc main_arg0)) bitsLt_bf16_f32 : FVec Ideal S8192x11008 .bf16) := by
    show StableHlo.after hostOps0 _ (Proc.devRef .tc main_v0) = _
    after_results
  rw [e]; rfl

/-- The same for the second argument. -/
theorem V1 (c : Dev nD) (i : S11008x4096.Idx) :
    (V m c main_v1 i : EReal) = m ((c.tc : Thread nD τ).loc main_arg1) i := by
  have e : V m c main_v1 = (truncf (F := Ideal) (s := S11008x4096) (φ := .f32) .bf16 (m ((c.tc : Thread nD τ).loc main_arg1)) bitsLt_bf16_f32 : FVec Ideal S11008x4096 .bf16) := by
    show StableHlo.after hostOps0 _ (Proc.devRef .tc main_v1) = _
    after_results
  rw [e]; rfl

/-- The blocks of a grid point: the rows of the first operand and the columns of the second are those of the result's
    block, and both run over the whole contracted axis. -/
theorem places : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

/-- Every pair of a row block and a column block is one point's. -/
theorem onto : ∀ (p : Fin 16) (q : Fin 8), ∃ t : Fin cfg0.N, (cfg0.win 2).flush t = true ∧ win0_2.index t = ![p.val, q.val] :=
  (by decide +kernel : ∀ (p : Fin 16) (q : Fin 8), ∃ t : Fin grid0.N, win0_2.flush t = true ∧ win0_2.index t = ![p.val, q.val])

set_option maxRecDepth 65536 in
/-- What a grid point writes back is its block of the whole product. -/
theorem flushed_eq (c : Dev nD) (t : Fin cfg0.N) : (dats m 0 c).flushed 2 t
    = ((cfg0.win 2).blk t).view.read (Elt Ideal)
        (prod (m ((c.tc : Thread nD τ).loc main_arg0)) (m ((c.tc : Thread nD τ).loc main_arg1))) := by
  rw [Value.flushed2, out_eq]
  obtain ⟨e0, e1, e2, e3⟩ := places t
  funext y
  show k0_pay1 (iblk m c 0 t) (iblk m c 1 t) ((cfg0.win 2).xinj (grid0.coords t) y) = prod _ _ (((cfg0.win 2).blk t).view.emb y)
  rw [pay_apply]
  unfold prod
  generalize hz : (cfg0.win 2).xinj (grid0.coords t) y = z
  have z0 : (z 0).val = (y 0).val := by rw [← hz]
  have z1 : (z 1).val = (y 1).val := by rw [← hz]
  refine Finset.sum_congr rfl fun k _ => ?_
  refine congrArg₂ (fun u v : EReal => u * v) ?_ ?_
  · refine (V0 m c (((cfg0.win 0).blk t).view.emb (ix2 (z 0) k))).trans (congrArg _ (funext fun a => Fin.ext ?_))
    match a with
    | ⟨0, _⟩ =>
      show win0_0.index t (0 : Fin 2) * 512 + 1 * (z 0).val = win0_2.index t (0 : Fin 2) * 512 + 1 * (y 0).val
      rw [e0, z0]
    | ⟨1, _⟩ =>
      show win0_0.index t (1 : Fin 2) * 11008 + 1 * k.val = k.val
      rw [e1]; omega
  · refine (V1 m c (((cfg0.win 1).blk t).view.emb (ix2 k (z 1)))).trans (congrArg _ (funext fun a => Fin.ext ?_))
    match a with
    | ⟨0, _⟩ =>
      show win0_1.index t (0 : Fin 2) * 11008 + 1 * k.val = k.val
      rw [e2]; omega
    | ⟨1, _⟩ =>
      show win0_1.index t (1 : Fin 2) * 512 + 1 * (z 1).val = win0_2.index t (1 : Fin 2) * 512 + 1 * (y 1).val
      rw [e3, z1]

/-- Every place of the result is in some point's block. -/
theorem covered (i : S8192x4096.Idx) : ∃ t : Fin cfg0.N, (cfg0.win 2).flush t = true ∧ i ∈ ((cfg0.win 2).blk t).view.set := by
  have h0 : (i 0).val < 8192 := (i 0).isLt
  have h1 : (i 1).val < 4096 := (i 1).isLt
  obtain ⟨t, hf, ht⟩ := onto ⟨(i 0).val / 512, by omega⟩ ⟨(i 1).val / 512, by omega⟩
  have q0 : win0_2.index t (0 : Fin 2) = (i 0).val / 512 := congrFun ht 0
  have q1 : win0_2.index t (1 : Fin 2) = (i 1).val / 512 := congrFun ht 1
  refine ⟨t, hf, ?_⟩
  show i ∈ ((View.whole main_v2).slice (win0_2.rect t)).set
  rw [View.set_slice_whole, Rect.mem_set_unit]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- After the run the result array is the product of the arguments. -/
theorem final (c : Dev nD) : (dats m 0 c).arrAt 2 cfg0.N
    = prod (m ((c.tc : Thread nD τ).loc main_arg0)) (m ((c.tc : Thread nD τ).loc main_arg1)) :=
  (dats m 0 c).arrAt_eq_of_cover 2 _ (fun t _ => flushed_eq m c t) covered

/-- The reference's product is the same array. -/
theorem reference_eq (a : FVec Ideal S8192x11008 .f32) (w : FVec Ideal S11008x4096 .f32) :
    Host.dotGeneral Cert.DownReferenceIdeal.dot_S8192x11008_S11008x4096_S8192x4096_1_0_0_1_n_n none a w = prod a w := by
  funext j
  unfold prod
  pointwise

/-- The kernel and the reference compute the same product. -/
theorem value : Cert.algebraic_DownIdeal_DownReferenceIdeal := by
  intro m g m' g' _ hag
  refine ⟨fun c => prod (m ((c.tc : Thread nD τ).loc main_arg0)) (m ((c.tc : Thread nD τ).loc main_arg1)), ?_, ?_⟩
  · exact (θ_run _ _ _).mono (fun r h c => ⟨(h c).1.trans (final m c), (h c).2⟩) (Value.run_blocks m g)
  · refine (θ_run _ _ _).mono (fun r h c => ⟨(h c).1.trans ?_, (h c).2⟩) (Cert.DownReferenceIdeal.Value.run (F := Ideal) m' g')
    rw [(hag c).1, (hag c).2]
    exact reference_eq _ _

/-- The reference runs to its end and leaves its arguments alone; it has no counters. -/
theorem reference_frame : Cert.quiescent_DownReferenceIdeal := fun m ρ _ =>
  (θ_run _ _ _).mono (fun r h => ⟨fun c => (h c).2, sem_eq_zero_of_no_sems (by decide) r.2⟩)
    (Cert.DownReferenceIdeal.Value.run (F := Ideal) m ρ)

end Cert.Proof.Down

end
-- ==== Proof.Last.lean ====
/- The last step of the layer: what the kernel's row blocks compute, what the whole array holds, and that the reference
   computes the same array. -/
module

public import proofs.«01_k».proof.Defs
public import proofs.«01_k».proof.Proof.Gen.LastIdeal.Value
public import proofs.«01_k».proof.Proof.Gen.LastReferenceIdeal
public import proofs.«01_k».proof.Proof.Gen.LastReferenceIdeal.Run
public import Idealize.ShloMosaic.Lib.Pointwise
public import Idealize.ShloMosaic.Lib.ValueIdx
public import Idealize.ShloMosaic.Lib.Quiescent

@[expose] public section

noncomputable section

namespace Cert.Proof.Last

open Idealize.ShloMosaic Idealize.ShloMosaic.TcCoe Idealize.SL.Sem
open Cert.LastIdeal Cert.LastIdeal.Gen
open Idealize.ShloMosaic.Pipeline (Dat Cfg Window)

variable (m : (ℓ : Loc nD τ sig) → Buf (Elt Ideal) ℓ) (ρ : Dev nD → PrngReg)

/-- The factor by which a row is scaled: one over the root of its mean square plus the small constant. -/
def scale (x : Fin 4096 → EReal) : EReal :=
  Ideal.rsqrt (Ideal.div (∑ k : Fin 4096, x k * x k) (Scalar.ofBits (F := Ideal) .f32 0x45800000#32) + (Scalar.ofBits (F := Ideal) .f32 0x358637BD#32 : EReal))

/-- The row after the residual sum: the stream plus half the scaled and weighted feed-forward output. -/
def mid (h f g : Fin 4096 → EReal) (k : Fin 4096) : EReal :=
  h k + (Scalar.ofBits (F := Ideal) .f32 0x3F000000#32 : EReal) * (f k * scale f * g k)

/-- The row of the result. -/
def row (h f g g' : Fin 4096 → EReal) (k : Fin 4096) : EReal := mid h f g k * scale (mid h f g) * g' k

/-- What the body computes of its blocks, at one place. -/
theorem pay_apply (x y : Vec Ideal S256x4096 .f32) (v w : Vec Ideal S1x4096 .f32) (j : S256x4096.Idx) :
    k0_pay1 x y v w j = row (fun k => x (ix2 (j 0) k)) (fun k => y (ix2 (j 0) k)) (fun k => v (ix2 (0 : Fin 1) k)) (fun k => w (ix2 (0 : Fin 1) k)) (j 1) := by
  unfold k0_pay1 row mid scale
  pointwise

/-- The body stores what it computes of the blocks it loads. -/
theorem out_eq (x y : Vec Ideal S256x4096 .f32) (v w : Vec Ideal S1x4096 .f32) : out0_4 x y v w = k0_pay1 x y v w := by
  have h0 : (![0, 0] : Fin S256x4096.rank → Nat) = fun _ => 0 := funext fun a => by fin_cases a <;> rfl
  have h1 : (![0, 0] : Fin S1x4096.rank → Nat) = fun _ => 0 := funext fun a => by fin_cases a <;> rfl
  unfold out0_4
  rw [View.canon_unit_zero h0, View.ld_unit_zero h0, View.ld_unit_zero h0, View.ld_unit_zero h1, View.ld_unit_zero h1]

/-- The whole result. -/
def whole (h f : FVec Ideal S8192x4096 .f32) (g g' : FVec Ideal S4096 .f32) : FVec Ideal S8192x4096 .f32 :=
  fun i => row (fun k => h (ix2 (i 0) k)) (fun k => f (ix2 (i 0) k)) (fun k => g (ix1 k)) (fun k => g' (ix1 k)) (i 1)

/-- The region finds the first weight as one row. -/
theorem V0 (c : Dev nD) (k : Fin 4096) :
    (V m c main_v0 (ix2 (0 : Fin 1) k) : EReal) = m ((c.tc : Thread nD τ).loc main_arg2) (ix1 k) := by
  have e : V m c main_v0 = (shapeCast S1x4096 (m ((c.tc : Thread nD τ).loc main_arg2)) shapeCasts_S4096_S1x4096) := by
    show StableHlo.after hostOps0 _ (Proc.devRef .tc main_v0) = _
    after_results
    rfl
  rw [e]
  refine (shapeCast_addUnit_apply ![4096] _ _ _).trans (congrArg _ (funext fun a => ?_))
  fin_cases a
  rfl

/-- The same for the second weight. -/
theorem V1 (c : Dev nD) (k : Fin 4096) :
    (V m c main_v1 (ix2 (0 : Fin 1) k) : EReal) = m ((c.tc : Thread nD τ).loc main_arg3) (ix1 k) := by
  have e : V m c main_v1 = (shapeCast S1x4096 (m ((c.tc : Thread nD τ).loc main_arg3)) shapeCasts_S4096_S1x4096) := by
    show StableHlo.after hostOps0 _ (Proc.devRef .tc main_v1) = _
    after_results
    rfl
  rw [e]
  refine (shapeCast_addUnit_apply ![4096] _ _ _).trans (congrArg _ (funext fun a => ?_))
  fin_cases a
  rfl

/-- The blocks of a grid point: the rows of both operands are the result's, the weights are whole. -/
theorem places : ∀ t : Fin cfg0.N, win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 ∧ win0_4.index t (1 : Fin 2) = 0 :=
  (by decide +kernel : ∀ t : Fin grid0.N, _)

/-- Every block of rows is one point's. -/
theorem onto : ∀ p : Fin 32, ∃ t : Fin cfg0.N, (cfg0.win 4).flush t = true ∧ win0_4.index t = ![p.val, 0] :=
  (by decide +kernel : ∀ p : Fin 32, ∃ t : Fin grid0.N, win0_4.flush t = true ∧ win0_4.index t = ![p.val, 0])

set_option maxRecDepth 65536 in
/-- What a grid point writes back is its block of the whole result. -/
theorem flushed_eq (c : Dev nD) (t : Fin cfg0.N) : (dats m 0 c).flushed 4 t
    = ((cfg0.win 4).blk t).view.read (Elt Ideal)
        (whole (m ((c.tc : Thread nD τ).loc main_arg0)) (m ((c.tc : Thread nD τ).loc main_arg1))
          (m ((c.tc : Thread nD τ).loc main_arg2)) (m ((c.tc : Thread nD τ).loc main_arg3))) := by
  rw [Value.flushed4, out_eq]
  obtain ⟨e0, e1, e2, e3, e4, e5, e6, e7, e8⟩ := places t
  funext y
  show k0_pay1 (iblk m c 0 t) (iblk m c 1 t) (iblk m c 2 t) (iblk m c 3 t) ((cfg0.win 4).xinj (grid0.coords t) y)
    = whole _ _ _ _ (((cfg0.win 4).blk t).view.emb y)
  rw [pay_apply]
  unfold whole
  generalize hz : (cfg0.win 4).xinj (grid0.coords t) y = z
  have z0 : (z 0).val = (y 0).val := by rw [← hz]
  have z1 : (z 1).val = (y 1).val := by rw [← hz]
  have hh : (fun k : Fin 4096 => (iblk m c 0 t (ix2 (z 0) k) : EReal))
      = fun k => m ((c.tc : Thread nD τ).loc main_arg0) (ix2 ((((cfg0.win 4).blk t).view.emb y) 0) k) := funext fun k => by
    show V m c main_arg0 (((cfg0.win 0).blk t).view.emb (ix2 (z 0) k)) = _
    rw [V_main_arg0]
    refine congrArg _ (funext fun a => Fin.ext ?_)
    match a with
    | ⟨0, _⟩ =>
      show win0_0.index t (0 : Fin 2) * 256 + 1 * (z 0).val = win0_4.index t (0 : Fin 2) * 256 + 1 * (y 0).val
      rw [e0, z0]
    | ⟨1, _⟩ =>
      show win0_0.index t (1 : Fin 2) * 4096 + 1 * k.val = k.val
      rw [e1]; omega
  have hf : (fun k : Fin 4096 => (iblk m c 1 t (ix2 (z 0) k) : EReal))
      = fun k => m ((c.tc : Thread nD τ).loc main_arg1) (ix2 ((((cfg0.win 4).blk t).view.emb y) 0) k) := funext fun k => by
    show V m c main_arg1 (((cfg0.win 1).blk t).view.emb (ix2 (z 0) k)) = _
    rw [V_main_arg1]
    refine congrArg _ (funext fun a => Fin.ext ?_)
    match a with
    | ⟨0, _⟩ =>
      show win0_1.index t (0 : Fin 2) * 256 + 1 * (z 0).val = win0_4.index t (0 : Fin 2) * 256 + 1 * (y 0).val
      rw [e2, z0]
    | ⟨1, _⟩ =>
      show win0_1.index t (1 : Fin 2) * 4096 + 1 * k.val = k.val
      rw [e3]; omega
  have hg : (fun k : Fin 4096 => (iblk m c 2 t (ix2 (0 : Fin 1) k) : EReal))
      = fun k => m ((c.tc : Thread nD τ).loc main_arg2) (ix1 k) := funext fun k => by
    refine (congrArg (V m c main_v0) (funext fun a => Fin.ext ?_)).trans (V0 m c k)
    match a with
    | ⟨0, _⟩ =>
      show win0_2.index t (0 : Fin 2) * 1 + 1 * 0 = 0
      rw [e4]
    | ⟨1, _⟩ =>
      show win0_2.index t (1 : Fin 2) * 4096 + 1 * k.val = k.val
      rw [e5]; omega
  have hg' : (fun k : Fin 4096 => (iblk m c 3 t (ix2 (0 : Fin 1) k) : EReal))
      = fun k => m ((c.tc : Thread nD τ).loc main_arg3) (ix1 k) := funext fun k => by
    refine (congrArg (V m c main_v1) (funext fun a => Fin.ext ?_)).trans (V1 m c k)
    match a with
    | ⟨0, _⟩ =>
      show win0_3.index t (0 : Fin 2) * 1 + 1 * 0 = 0
      rw [e6]
    | ⟨1, _⟩ =>
      show win0_3.index t (1 : Fin 2) * 4096 + 1 * k.val = k.val
      rw [e7]; omega
  have hk : (z 1 : Fin 4096) = (((cfg0.win 4).blk t).view.emb y) 1 := Fin.ext (by
    show (z 1).val = win0_4.index t (1 : Fin 2) * 4096 + 1 * (y 1).val
    rw [e8, z1]; omega)
  exact (congrArg₂ (fun a b => row a b _ _ (z 1)) hh hf).trans ((congrArg₂ (fun a b => row _ _ a b (z 1)) hg hg').trans (congrArg _ hk))

/-- Every place of the result is in some point's block. -/
theorem covered (i : S8192x4096.Idx) : ∃ t : Fin cfg0.N, (cfg0.win 4).flush t = true ∧ i ∈ ((cfg0.win 4).blk t).view.set := by
  have h0 : (i 0).val < 8192 := (i 0).isLt
  have h1 : (i 1).val < 4096 := (i 1).isLt
  obtain ⟨t, hf, ht⟩ := onto ⟨(i 0).val / 256, by omega⟩
  have q0 : win0_4.index t (0 : Fin 2) = (i 0).val / 256 := congrFun ht 0
  have q1 : win0_4.index t (1 : Fin 2) = 0 := congrFun ht 1
  refine ⟨t, hf, ?_⟩
  show i ∈ ((View.whole main_v2).slice (win0_4.rect t)).set
  rw [View.set_slice_whole, Rect.mem_set_unit]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 4096 ≤ (i 1).val ∧ (i 1).val < win0_4.index t (1 : Fin 2) * 4096 + 4096; omega

/-- After the run the result array is the whole result. -/
theorem final (c : Dev nD) : (dats m 0 c).arrAt 4 cfg0.N
    = whole (m ((c.tc : Thread nD τ).loc main_arg0)) (m ((c.tc : Thread nD τ).loc main_arg1))
        (m ((c.tc : Thread nD τ).loc main_arg2)) (m ((c.tc : Thread nD τ).loc main_arg3)) :=
  (dats m 0 c).arrAt_eq_of_cover 4 _ (fun t _ => flushed_eq m c t) covered

/-- The kernel and the reference compute the same result. -/
theorem value : Cert.algebraic_LastIdeal_LastReferenceIdeal := by
  intro m g m' g' _ hag
  refine ⟨fun c => whole (m ((c.tc : Thread nD τ).loc main_arg0)) (m ((c.tc : Thread nD τ).loc main_arg1))
        (m ((c.tc : Thread nD τ).loc main_arg2)) (m ((c.tc : Thread nD τ).loc main_arg3)), ?_, ?_⟩
  · exact (θ_run _ _ _).mono (fun r h c => ⟨(h c).1.trans (final m c), (h c).2⟩) (Value.run_blocks m g)
  · refine (θ_run _ _ _).mono (fun r h c => ⟨(h c).1.trans ?_, (h c).2⟩) (Cert.LastReferenceIdeal.Value.run (F := Ideal) m' g')
    rw [(hag c).1, (hag c).2.1, (hag c).2.2.1, (hag c).2.2.2]
    funext j
    unfold whole row mid scale
    pointwise

/-- The reference runs to its end and leaves its arguments alone; it has no counters. -/
theorem reference_frame : Cert.quiescent_LastReferenceIdeal := fun m ρ _ =>
  (θ_run _ _ _).mono (fun r h => ⟨fun c => (h c).2, sem_eq_zero_of_no_sems (by decide) r.2⟩)
    (Cert.LastReferenceIdeal.Value.run (F := Ideal) m ρ)

end Cert.Proof.Last

end
-- ==== Proof.Proj.lean ====
/- The part of the input projection that feeds the recurrence: its product with the weight laid out in padded columns
   is the product with the plain weight, laid out the same way. -/
module

public import proofs.«01_k».proof.Defs
public import proofs.«01_k».proof.Proof.Gen.ProjIdeal.Value
public import proofs.«01_k».proof.Proof.Gen.ProjReferenceIdeal
public import proofs.«01_k».proof.Proof.Gen.ProjReferenceIdeal.Run
public import Idealize.ShloMosaic.Lib.MatmulPlain
public import Idealize.ShloMosaic.Lib.Pointwise
public import Idealize.ShloMosaic.Lib.ValueIdx
public import Idealize.ShloMosaic.Lib.Quiescent

@[expose] public section

noncomputable section

namespace Cert.Proof.Proj

open Idealize.ShloMosaic Idealize.ShloMosaic.TcCoe Idealize.SL.Sem
open Cert.ProjIdeal Cert.ProjIdeal.Gen
open Idealize.ShloMosaic.Pipeline (Dat Cfg Window)

variable (m : (ℓ : Loc nD τ sig) → Buf (Elt Ideal) ℓ) (ρ : Dev nD → PrngReg)

/-- The product of a block of rows with a block of columns, at one place. -/
theorem pay_apply (x : Vec Ideal S2048x4096 .bf16) (w : Vec Ideal S4096x512 .bf16) (j : S2048x512.Idx) :
    k0_pay1 x w j = ∑ k : Fin 4096, (x (ix2 (j 0) k) : EReal) * (w (ix2 k (j 1)) : EReal) := by
  unfold k0_pay1
  pointwise

/-- The body stores the product of the two blocks it loads. -/
theorem out_eq (x : Vec Ideal S2048x4096 .bf16) (w : Vec Ideal S4096x512 .bf16) : out0_2 x w = k0_pay1 x w := by
  have h0 : (![0, 0] : Fin S2048x512.rank → Nat) = fun _ => 0 := funext fun a => by fin_cases a <;> rfl
  have h1 : (![0, 0] : Fin S2048x4096.rank → Nat) = fun _ => 0 := funext fun a => by fin_cases a <;> rfl
  have h2 : (![0, 0] : Fin S4096x512.rank → Nat) = fun _ => 0 := funext fun a => by fin_cases a <;> rfl
  unfold out0_2
  rw [View.canon_unit_zero h0, View.ld_unit_zero h1, View.ld_unit_zero h2]

/-- The column of the laid-out weight: the two narrow groups of columns are followed by 32 columns of zeros each. -/
def wide (w : FVec Ideal S4096x12736 .f32) (k : Fin 4096) (j : Fin 6656) : EReal :=
  if h : j.val < 6240 then w (ix2 k ⟨j.val, by omega⟩)
  else if j.val < 6272 then 0
  else if h : j.val < 6368 then w (ix2 k ⟨j.val - 32, by omega⟩)
  else if j.val < 6400 then 0
  else w (ix2 k ⟨j.val - 64, by omega⟩)

/-- The whole product with the laid-out weight. -/
def prod (a : FVec Ideal S8192x4096 .f32) (w : FVec Ideal S4096x12736 .f32) : FVec Ideal S8192x6656 .f32 :=
  fun i => ∑ k : Fin 4096, (a (ix2 (i 0) k) : EReal) * wide w k (i 1)

/-- The region finds the rounded argument; over the reals rounding does nothing. -/
theorem V0 (c : Dev nD) (i : S8192x4096.Idx) :
    (V m c main_v9 i : EReal) = m ((c.tc : Thread nD τ).loc main_arg0) i := by
  have e : V m c main_v9 = (truncf (F := Ideal) (s := S8192x4096) (φ := .f32) .bf16 (m ((c.tc : Thread nD τ).loc main_arg0)) bitsLt_bf16_f32 : FVec Ideal S8192x4096 .bf16) := by
    show StableHlo.after (List.flatten [hostOps0, hostOps0_1, hostOps0_2, hostOps0_3, hostOps0_4]) _ (Proc.devRef .tc main_v9) = _
    simp only [hostOps0, hostOps0_1, hostOps0_2, hostOps0_3, hostOps0_4, List.flatten_cons, List.flatten_nil, List.append_nil, List.cons_append, List.nil_append]
    after_results
  rw [e]; rfl

/-- The weight as the host code lays it out: cut in four groups of columns, two of them filled up with zeros. -/
def laid (w : FVec Ideal S4096x12736 .f32) : FVec Ideal S4096x6656 .bf16 :=
  truncf (F := Ideal) (s := S4096x6656) (φ := .f32) .bf16
      (concatenate S4096x6656 1 [⟨S4096x6144, extractStridedSlice S4096x6144 ![0, 0] w slices_S4096x12736_S4096x6144_0_0⟩,
        ⟨S4096x512, concatenate S4096x512 1
          [⟨S4096x128, pad S4096x128 ![0, 0] ![0, 32] ![0, 0] (extractStridedSlice S4096x96 ![0, 6144] w slices_S4096x12736_S4096x96_0_6144) (sitofp .f32 (constantI S_ 32 0#32)) pads_S4096x96_S4096x128_000_0320 h_S_⟩,
           ⟨S4096x128, pad S4096x128 ![0, 0] ![0, 32] ![0, 0] (extractStridedSlice S4096x96 ![0, 6240] w slices_S4096x12736_S4096x96_0_6240) (sitofp .f32 (constantI S_ 32 0#32)) pads_S4096x96_S4096x128_000_0320 h_S_⟩,
           ⟨S4096x256, extractStridedSlice S4096x256 ![0, 6336] w slices_S4096x12736_S4096x256_0_6336⟩]
          concatenates_S4096x128_S4096x128_S4096x256_S4096x512_d1⟩] concatenates_S4096x6144_S4096x512_S4096x6656_d1) bitsLt_bf16_f32

set_option maxRecDepth 65536 in
/-- Its entries. -/
theorem laid_apply (w : FVec Ideal S4096x12736 .f32) (k : Fin 4096) (j : Fin 6656) : (laid w (ix2 k j) : EReal) = wide w k j := by
  have z : (FloatOps.sitofp (F := Ideal) .f32 (0#32) : EReal) = 0 := by simp [FloatOps.sitofp]
  unfold laid wide
  pointwise
  by_cases a1 : j.val < 6144
  · have b1 : j.val < 6240 := by omega
    simp only [a1, b1, ↓reduceDIte]
  by_cases a2 : j.val - 6144 < 128
  · by_cases a3 : j.val - 6144 < 96
    · have b1 : j.val < 6240 := by omega
      simp only [a1, a2, a3, b1, ↓reduceDIte]
      exact congrArg (fun q => w (ix2 k q)) (Fin.ext (by dsimp only; omega))
    · have b1 : ¬ j.val < 6240 := by omega
      have b2 : j.val < 6272 := by omega
      simp only [a1, a2, a3, b1, b2, ↓reduceDIte, ↓reduceIte]
      exact z
  have b1 : ¬ j.val < 6240 := by omega
  have b2 : ¬ j.val < 6272 := by omega
  by_cases a4 : j.val - 6144 - 128 < 128
  · by_cases a5 : j.val - 6144 - 128 < 96
    · have b3 : j.val < 6368 := by omega
      simp only [a1, a2, a4, a5, b1, b2, b3, ↓reduceDIte, ↓reduceIte]
      exact congrArg (fun q => w (ix2 k q)) (Fin.ext (by dsimp only; omega))
    · have b3 : ¬ j.val < 6368 := by omega
      have b4 : j.val < 6400 := by omega
      simp only [a1, a2, a4, a5, b1, b2, b3, b4, ↓reduceDIte, ↓reduceIte]
      exact z
  have b3 : ¬ j.val < 6368 := by omega
  have b4 : ¬ j.val < 6400 := by omega
  simp only [a1, a2, a4, b1, b2, b3, b4, ↓reduceDIte, ↓reduceIte]
  exact congrArg (fun q => w (ix2 k q)) (Fin.ext (by dsimp only; omega))

/-- The region finds the laid-out weight in its second array. -/
theorem V1 (c : Dev nD) (k : Fin 4096) (j : Fin 6656) :
    (V m c main_v8 (ix2 k j) : EReal) = wide (m ((c.tc : Thread nD τ).loc main_arg1)) k j := by
  have e : V m c main_v8 = laid (m ((c.tc : Thread nD τ).loc main_arg1)) := by
    show StableHlo.after (List.flatten [hostOps0, hostOps0_1, hostOps0_2, hostOps0_3, hostOps0_4]) _ (Proc.devRef .tc main_v8) = _
    simp only [hostOps0, hostOps0_1, hostOps0_2, hostOps0_3, hostOps0_4, List.flatten_cons, List.flatten_nil, List.append_nil, List.cons_append, List.nil_append]
    after_results
    all_goals rfl
  rw [e]
  exact laid_apply _ k j

/-- The blocks of a grid point: the rows of the first operand and the columns of the others are those of the result's
    block, and the products run over the whole contracted axis. -/
theorem places : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

set_option maxRecDepth 65536 in
/-- What a grid point writes back is its block of the whole product. -/
theorem flushed_eq (c : Dev nD) (t : Fin cfg0.N) : (dats m 0 c).flushed 2 t
    = ((cfg0.win 2).blk t).view.read (Elt Ideal) (prod (m ((c.tc : Thread nD τ).loc main_arg0)) (m ((c.tc : Thread nD τ).loc main_arg1))) := by
  rw [Value.flushed2, out_eq]
  obtain ⟨e0, e1, e2, e3⟩ := places t
  funext y
  show k0_pay1 (iblk m c 0 t) (iblk m c 1 t) ((cfg0.win 2).xinj (grid0.coords t) y) = prod _ _ (((cfg0.win 2).blk t).view.emb y)
  rw [pay_apply]
  unfold prod
  generalize hz : (cfg0.win 2).xinj (grid0.coords t) y = z
  have z0 : (z 0).val = (y 0).val := by rw [← hz]
  have z1 : (z 1).val = (y 1).val := by rw [← hz]
  refine Finset.sum_congr rfl fun k _ => ?_
  refine congrArg₂ (fun u v : EReal => u * v) ?_ ?_
  · refine (V0 m c (((cfg0.win 0).blk t).view.emb (ix2 (z 0) k))).trans (congrArg _ (funext fun a => Fin.ext ?_))
    match a with
    | ⟨0, _⟩ =>
      show win0_0.index t (0 : Fin 2) * 2048 + 1 * (z 0).val = win0_2.index t (0 : Fin 2) * 2048 + 1 * (y 0).val
      rw [e0, z0]
    | ⟨1, _⟩ =>
      show win0_0.index t (1 : Fin 2) * 4096 + 1 * k.val = k.val
      rw [e1]; omega
  · refine (congrArg (V m c main_v8) (funext fun a => Fin.ext ?_)).trans (V1 m c k (((cfg0.win 2).blk t).view.emb y 1))
    match a with
    | ⟨0, _⟩ =>
      show win0_1.index t (0 : Fin 2) * 4096 + 1 * k.val = k.val
      rw [e2]; omega
    | ⟨1, _⟩ =>
      show win0_1.index t (1 : Fin 2) * 512 + 1 * (z 1).val = win0_2.index t (1 : Fin 2) * 512 + 1 * (y 1).val
      rw [e3, z1]

/-- Every pair of a row block and a column block is one point's. -/
theorem onto : ∀ (p : Fin 4) (q : Fin 13), ∃ t : Fin cfg0.N, (cfg0.win 2).flush t = true ∧ win0_2.index t = ![p.val, q.val] :=
  (by decide +kernel : ∀ (p : Fin 4) (q : Fin 13), ∃ t : Fin grid0.N, win0_2.flush t = true ∧ win0_2.index t = ![p.val, q.val])

/-- Every place of the result is in some point's block. -/
theorem covered (i : S8192x6656.Idx) : ∃ t : Fin cfg0.N, (cfg0.win 2).flush t = true ∧ i ∈ ((cfg0.win 2).blk t).view.set := by
  have h0 : (i 0).val < 8192 := (i 0).isLt
  have h1 : (i 1).val < 6656 := (i 1).isLt
  obtain ⟨t, hf, ht⟩ := onto ⟨(i 0).val / 2048, by omega⟩ ⟨(i 1).val / 512, by omega⟩
  have q0 : win0_2.index t (0 : Fin 2) = (i 0).val / 2048 := congrFun ht 0
  have q1 : win0_2.index t (1 : Fin 2) = (i 1).val / 512 := congrFun ht 1
  refine ⟨t, hf, ?_⟩
  show i ∈ ((View.whole main_v10).slice (win0_2.rect t)).set
  rw [View.set_slice_whole, Rect.mem_set_unit]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 512 ≤ (i 1).val ∧ (i 1).val < win0_2.index t (1 : Fin 2) * 512 + 512; omega

/-- After the run the result array is the product with the laid-out weight. -/
theorem final (c : Dev nD) : (dats m 0 c).arrAt 2 cfg0.N = prod (m ((c.tc : Thread nD τ).loc main_arg0)) (m ((c.tc : Thread nD τ).loc main_arg1)) :=
  (dats m 0 c).arrAt_eq_of_cover 2 _ (fun t _ => flushed_eq m c t) covered

set_option maxRecDepth 65536 in
/-- The reference's laid-out product is the same array. -/
theorem reference_eq (a : FVec Ideal S8192x4096 .f32) (w : FVec Ideal S4096x12736 .f32)
    (hs : S4096x12736.Slices ![0, 0] Cert.ProjReferenceIdeal.S4096x6592)
    (h1 : Cert.ProjReferenceIdeal.S8192x6592.Slices ![0, 0] Cert.ProjReferenceIdeal.S8192x6240)
    (h2 : Cert.ProjReferenceIdeal.S8192x6592.Slices ![0, 6240] Cert.ProjReferenceIdeal.S8192x96)
    (h3 : Cert.ProjReferenceIdeal.S8192x6592.Slices ![0, 6336] Cert.ProjReferenceIdeal.S8192x256)
    (hb : Cert.ProjReferenceIdeal.S_.BroadcastsInDim Cert.ProjReferenceIdeal.S8192x32 (![] : Fin 0 → Fin Cert.ProjReferenceIdeal.S8192x32.rank))
    (hc : Shape.Concatenates [Cert.ProjReferenceIdeal.S8192x6240, Cert.ProjReferenceIdeal.S8192x32, Cert.ProjReferenceIdeal.S8192x96, Cert.ProjReferenceIdeal.S8192x32, Cert.ProjReferenceIdeal.S8192x256] Cert.ProjReferenceIdeal.S8192x6656 1) :
    (concatenate Cert.ProjReferenceIdeal.S8192x6656 1
      [⟨Cert.ProjReferenceIdeal.S8192x6240, extractStridedSlice Cert.ProjReferenceIdeal.S8192x6240 ![0, 0] (Host.dotGeneral Cert.ProjReferenceIdeal.dot_S8192x4096_S4096x6592_S8192x6592_1_0_0_1_n_n none a (extractStridedSlice Cert.ProjReferenceIdeal.S4096x6592 ![0, 0] w hs)) h1⟩,
       ⟨Cert.ProjReferenceIdeal.S8192x32, broadcastInDim Cert.ProjReferenceIdeal.S8192x32 ![] hb (constant (F := Ideal) Cert.ProjReferenceIdeal.S_ .f32 0x00000000#32)⟩,
       ⟨Cert.ProjReferenceIdeal.S8192x96, extractStridedSlice Cert.ProjReferenceIdeal.S8192x96 ![0, 6240] (Host.dotGeneral Cert.ProjReferenceIdeal.dot_S8192x4096_S4096x6592_S8192x6592_1_0_0_1_n_n none a (extractStridedSlice Cert.ProjReferenceIdeal.S4096x6592 ![0, 0] w hs)) h2⟩,
       ⟨Cert.ProjReferenceIdeal.S8192x32, broadcastInDim Cert.ProjReferenceIdeal.S8192x32 ![] hb (constant (F := Ideal) Cert.ProjReferenceIdeal.S_ .f32 0x00000000#32)⟩,
       ⟨Cert.ProjReferenceIdeal.S8192x256, extractStridedSlice Cert.ProjReferenceIdeal.S8192x256 ![0, 6336] (Host.dotGeneral Cert.ProjReferenceIdeal.dot_S8192x4096_S4096x6592_S8192x6592_1_0_0_1_n_n none a (extractStridedSlice Cert.ProjReferenceIdeal.S4096x6592 ![0, 0] w hs)) h3⟩] hc
        : FVec Ideal Cert.ProjReferenceIdeal.S8192x6656 .f32) = prod a w := by
  funext j
  have hj : j = ix2 (j 0) (j 1) := funext fun a => by fin_cases a <;> rfl
  rw [hj]
  generalize (j 0 : Fin 8192) = p
  generalize (j 1 : Fin 6656) = n
  unfold prod wide
  pointwise
  by_cases a1 : n.val < 6240
  · simp only [a1, ↓reduceDIte]
  by_cases a2 : n.val < 6272
  · have b2 : n.val - 6240 < 32 := by omega
    simp only [a1, a2, b2, ↓reduceDIte, ↓reduceIte, mul_zero, Finset.sum_const_zero]
  have b2 : ¬ n.val - 6240 < 32 := by omega
  by_cases a3 : n.val < 6368
  · have b3 : n.val - 6240 - 32 < 96 := by omega
    simp only [a1, a2, a3, b2, b3, ↓reduceDIte, ↓reduceIte]
    exact Finset.sum_congr rfl fun k _ => congrArg (fun q => (a (ix2 p k) * w (ix2 k q) : EReal)) (Fin.ext (by dsimp only; omega))
  have b3 : ¬ n.val - 6240 - 32 < 96 := by omega
  by_cases a4 : n.val < 6400
  · have b4 : n.val - 6240 - 32 - 96 < 32 := by omega
    simp only [a1, a2, a3, a4, b2, b3, b4, ↓reduceDIte, ↓reduceIte, mul_zero, Finset.sum_const_zero]
  have b4 : ¬ n.val - 6240 - 32 - 96 < 32 := by omega
  simp only [a1, a2, a3, a4, b2, b3, b4, ↓reduceDIte, ↓reduceIte]
  exact Finset.sum_congr rfl fun k _ => congrArg (fun q => (a (ix2 p k) * w (ix2 k q) : EReal)) (Fin.ext (by dsimp only; omega))

/-- The kernel and the reference compute the same laid-out product. -/
theorem value : Cert.algebraic_ProjIdeal_ProjReferenceIdeal := by
  intro m g m' g' _ hag
  refine ⟨fun c => prod (m ((c.tc : Thread nD τ).loc main_arg0)) (m ((c.tc : Thread nD τ).loc main_arg1)), ?_, ?_⟩
  · exact (θ_run _ _ _).mono (fun r h c => ⟨(h c).1.trans (final m c), (h c).2⟩) (Value.run_blocks m g)
  · refine (θ_run _ _ _).mono (fun r h c => ⟨(h c).1.trans ?_, (h c).2⟩) (Cert.ProjReferenceIdeal.Value.run (F := Ideal) m' g')
    rw [(hag c).1, (hag c).2]
    exact reference_eq _ _ _ _ _ _ _ _

/-- The reference runs to its end and leaves its arguments alone; it has no counters. -/
theorem reference_frame : Cert.quiescent_ProjReferenceIdeal := fun m ρ _ =>
  (θ_run _ _ _).mono (fun r h => ⟨fun c => (h c).2, sem_eq_zero_of_no_sems (by decide) r.2⟩)
    (Cert.ProjReferenceIdeal.Value.run (F := Ideal) m ρ)

end Cert.Proof.Proj

end
-- ==== Proof.Qkv.lean ====
/- The part of the input projection that feeds the attention: the product, its first third scaled. -/
module

public import proofs.«01_k».proof.Defs
public import proofs.«01_k».proof.Proof.Gen.QkvIdeal.Value
public import proofs.«01_k».proof.Proof.Gen.QkvReferenceIdeal
public import proofs.«01_k».proof.Proof.Gen.QkvReferenceIdeal.Run
public import Idealize.ShloMosaic.Lib.MatmulPlain
public import Idealize.ShloMosaic.Lib.Pointwise
public import Idealize.ShloMosaic.Lib.ValueIdx
public import Idealize.ShloMosaic.Lib.Quiescent

@[expose] public section

noncomputable section

namespace Cert.Proof.Qkv

open Idealize.ShloMosaic Idealize.ShloMosaic.TcCoe Idealize.SL.Sem
open Cert.QkvIdeal Cert.QkvIdeal.Gen
open Idealize.ShloMosaic.Pipeline (Dat Cfg Window)

variable (m : (ℓ : Loc nD τ sig) → Buf (Elt Ideal) ℓ) (ρ : Dev nD → PrngReg)

/-- The product of a block of rows with a block of columns, each column scaled, at one place. -/
theorem pay_apply (x : Vec Ideal S2048x4096 .bf16) (w : Vec Ideal S4096x512 .bf16) (s : Vec Ideal S1x512 .f32) (j : S2048x512.Idx) :
    k0_pay1 x w s j = ((∑ k : Fin 4096, (x (ix2 (j 0) k) : EReal) * (w (ix2 k (j 1)) : EReal)) * (s (ix2 (0 : Fin 1) (j 1)) : EReal) : EReal) := by
  unfold k0_pay1
  pointwise

/-- The body stores the scaled product of the blocks it loads. -/
theorem out_eq (x : Vec Ideal S2048x4096 .bf16) (w : Vec Ideal S4096x512 .bf16) (s : Vec Ideal S1x512 .f32) : out0_3 x w s = k0_pay1 x w s := by
  have h0 : (![0, 0] : Fin S2048x512.rank → Nat) = fun _ => 0 := funext fun a => by fin_cases a <;> rfl
  have h1 : (![0, 0] : Fin S2048x4096.rank → Nat) = fun _ => 0 := funext fun a => by fin_cases a <;> rfl
  have h2 : (![0, 0] : Fin S4096x512.rank → Nat) = fun _ => 0 := funext fun a => by fin_cases a <;> rfl
  have h3 : (![0, 0] : Fin S1x512.rank → Nat) = fun _ => 0 := funext fun a => by fin_cases a <;> rfl
  unfold out0_3
  rw [View.canon_unit_zero h0, View.ld_unit_zero h1, View.ld_unit_zero h2, View.ld_unit_zero h3]

/-- The factor of the first third of the columns: one over eight, divided by the logarithm of two. -/
def factor : EReal := Ideal.div (Scalar.ofBits (F := Ideal) .f32 0x3E000000#32) (Ideal.log (Scalar.ofBits (F := Ideal) .f32 0x40000000#32))

/-- The factor of a column. -/
def colScale (j : Fin 6144) : EReal := if j.val < 2048 then factor else 1

/-- The whole scaled product. -/
def prod (a : FVec Ideal S8192x4096 .f32) (w : FVec Ideal S4096x12736 .f32) : FVec Ideal S8192x6144 .bf16 :=
  fun i => ((∑ k : Fin 4096, (a (ix2 (i 0) k) : EReal) * (w (ix2 k ⟨6592 + (i 1).val, Nat.add_lt_add_left (i 1).isLt 6592⟩) : EReal)) * colScale (i 1) : EReal)

/-- The region finds the rounded argument; over the reals rounding does nothing. -/
theorem V0 (c : Dev nD) (i : S8192x4096.Idx) :
    (V m c main_v5 i : EReal) = m ((c.tc : Thread nD τ).loc main_arg0) i := by
  have e : V m c main_v5 = (truncf (F := Ideal) (s := S8192x4096) (φ := .f32) .bf16 (m ((c.tc : Thread nD τ).loc main_arg0)) bitsLt_bf16_f32 : FVec Ideal S8192x4096 .bf16) := by
    show StableHlo.after hostOps0 _ (Proc.devRef .tc main_v5) = _
    after_results
  rw [e]; rfl

/-- The region finds the last columns of the weight in its second array. -/
theorem V1 (c : Dev nD) (k : Fin 4096) (j : Fin 6144) :
    (V m c main_v7 (ix2 k j) : EReal) = m ((c.tc : Thread nD τ).loc main_arg1) (ix2 k ⟨6592 + j.val, Nat.add_lt_add_left j.isLt 6592⟩) := by
  have e : V m c main_v7 = (truncf (F := Ideal) (s := S4096x6144) (φ := .f32) .bf16 (extractStridedSlice S4096x6144 ![0, 6592] (m ((c.tc : Thread nD τ).loc main_arg1)) slices_S4096x12736_S4096x6144_0_6592) bitsLt_bf16_f32 : FVec Ideal S4096x6144 .bf16) := by
    show StableHlo.after hostOps0 _ (Proc.devRef .tc main_v7) = _
    after_results
  rw [e]
  show m ((c.tc : Thread nD τ).loc main_arg1) _ = _
  refine congrArg _ (funext fun a => Fin.ext ?_)
  match a with
  | ⟨0, _⟩ => show 0 + k.val = k.val; omega
  | ⟨1, _⟩ => rfl

/-- The region finds the columns' factors in its third array. -/
theorem V2 (c : Dev nD) (j : Fin 6144) : (V m c main_v4 (ix2 (0 : Fin 1) j) : EReal) = colScale j := by
  have e : V m c main_v4 = (concatenate S1x6144 1 [⟨S1x2048, broadcastInDim S1x2048 ![] bcast_S_S1x2048 (Host.divf (constant (F := Ideal) S_ .f32 0x3E000000#32) (Host.log (constant (F := Ideal) S_ .f32 0x40000000#32)))⟩,
      ⟨S1x4096, broadcastInDim S1x4096 ![] bcast_S_S1x4096 (constant (F := Ideal) S_ .f32 0x3F800000#32)⟩] concatenates_S1x2048_S1x4096_S1x6144_d1 : FVec Ideal S1x6144 .f32) := by
    show StableHlo.after hostOps0 _ (Proc.devRef .tc main_v4) = _
    after_results
  rw [e]
  unfold colScale factor
  pointwise
  split_ifs <;> rfl

/-- The blocks of a grid point: the rows of the first operand and the columns of the others are those of the result's
    block, and the products run over the whole contracted axis. -/
theorem places : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2) :=
  (by decide +kernel : ∀ t : Fin grid0.N, _)

set_option maxRecDepth 65536 in
/-- What a grid point writes back is its block of the whole product. -/
theorem flushed_eq (c : Dev nD) (t : Fin cfg0.N) : (dats m 0 c).flushed 3 t
    = ((cfg0.win 3).blk t).view.read (Elt Ideal) (prod (m ((c.tc : Thread nD τ).loc main_arg0)) (m ((c.tc : Thread nD τ).loc main_arg1))) := by
  rw [Value.flushed3, out_eq]
  obtain ⟨e0, e1, e2, e3, e4, e5⟩ := places t
  funext y
  show k0_pay1 (iblk m c 0 t) (iblk m c 1 t) (iblk m c 2 t) ((cfg0.win 3).xinj (grid0.coords t) y) = prod _ _ (((cfg0.win 3).blk t).view.emb y)
  rw [pay_apply]
  unfold prod
  generalize hz : (cfg0.win 3).xinj (grid0.coords t) y = z
  have z0 : (z 0).val = (y 0).val := by rw [← hz]
  have z1 : (z 1).val = (y 1).val := by rw [← hz]
  have hs : (iblk m c 2 t (ix2 (0 : Fin 1) (z 1)) : EReal) = colScale (((cfg0.win 3).blk t).view.emb y 1) := by
    refine (congrArg (V m c main_v4) (funext fun a => Fin.ext ?_)).trans (V2 m c _)
    match a with
    | ⟨0, _⟩ =>
      show win0_2.index t (0 : Fin 2) * 1 + 1 * 0 = 0
      rw [e4]
    | ⟨1, _⟩ =>
      show win0_2.index t (1 : Fin 2) * 512 + 1 * (z 1).val = win0_3.index t (1 : Fin 2) * 512 + 1 * (y 1).val
      rw [e5, z1]
  refine congrArg₂ (fun u v : EReal => u * v) ?_ hs
  refine Finset.sum_congr rfl fun k _ => ?_
  refine congrArg₂ (fun u v : EReal => u * v) ?_ ?_
  · refine (V0 m c (((cfg0.win 0).blk t).view.emb (ix2 (z 0) k))).trans (congrArg _ (funext fun a => Fin.ext ?_))
    match a with
    | ⟨0, _⟩ =>
      show win0_0.index t (0 : Fin 2) * 2048 + 1 * (z 0).val = win0_3.index t (0 : Fin 2) * 2048 + 1 * (y 0).val
      rw [e0, z0]
    | ⟨1, _⟩ =>
      show win0_0.index t (1 : Fin 2) * 4096 + 1 * k.val = k.val
      rw [e1]; omega
  · refine (congrArg (V m c main_v7) (funext fun a => Fin.ext ?_)).trans (V1 m c k (((cfg0.win 3).blk t).view.emb y 1))
    match a with
    | ⟨0, _⟩ =>
      show win0_1.index t (0 : Fin 2) * 4096 + 1 * k.val = k.val
      rw [e2]; omega
    | ⟨1, _⟩ =>
      show win0_1.index t (1 : Fin 2) * 512 + 1 * (z 1).val = win0_3.index t (1 : Fin 2) * 512 + 1 * (y 1).val
      rw [e3, z1]

/-- Every pair of a row block and a column block is one point's. -/
theorem onto : ∀ (p : Fin 4) (q : Fin 12), ∃ t : Fin cfg0.N, (cfg0.win 3).flush t = true ∧ win0_3.index t = ![p.val, q.val] :=
  (by decide +kernel : ∀ (p : Fin 4) (q : Fin 12), ∃ t : Fin grid0.N, win0_3.flush t = true ∧ win0_3.index t = ![p.val, q.val])

/-- Every place of the result is in some point's block. -/
theorem covered (i : S8192x6144.Idx) : ∃ t : Fin cfg0.N, (cfg0.win 3).flush t = true ∧ i ∈ ((cfg0.win 3).blk t).view.set := by
  have h0 : (i 0).val < 8192 := (i 0).isLt
  have h1 : (i 1).val < 6144 := (i 1).isLt
  obtain ⟨t, hf, ht⟩ := onto ⟨(i 0).val / 2048, by omega⟩ ⟨(i 1).val / 512, by omega⟩
  have q0 : win0_3.index t (0 : Fin 2) = (i 0).val / 2048 := congrFun ht 0
  have q1 : win0_3.index t (1 : Fin 2) = (i 1).val / 512 := congrFun ht 1
  refine ⟨t, hf, ?_⟩
  show i ∈ ((View.whole main_v8).slice (win0_3.rect t)).set
  rw [View.set_slice_whole, Rect.mem_set_unit]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 512 ≤ (i 1).val ∧ (i 1).val < win0_3.index t (1 : Fin 2) * 512 + 512; omega

/-- After the run the result array is the scaled product. -/
theorem final (c : Dev nD) : (dats m 0 c).arrAt 3 cfg0.N = prod (m ((c.tc : Thread nD τ).loc main_arg0)) (m ((c.tc : Thread nD τ).loc main_arg1)) :=
  (dats m 0 c).arrAt_eq_of_cover 3 _ (fun t _ => flushed_eq m c t) covered

/-- The reference's product, scaled in its first third, is the same array. -/
theorem reference_eq (a : FVec Ideal S8192x4096 .f32) (w : FVec Ideal S4096x12736 .f32)
    (hs : S4096x12736.Slices ![0, 6592] Cert.QkvReferenceIdeal.S4096x6144)
    (h1 : Cert.QkvReferenceIdeal.S8192x6144.Slices ![0, 0] Cert.QkvReferenceIdeal.S8192x2048)
    (h2 : Cert.QkvReferenceIdeal.S8192x6144.Slices ![0, 2048] Cert.QkvReferenceIdeal.S8192x4096)
    (hb : Cert.QkvReferenceIdeal.S_.BroadcastsInDim Cert.QkvReferenceIdeal.S8192x2048 (![] : Fin 0 → Fin Cert.QkvReferenceIdeal.S8192x2048.rank))
    (hc : Shape.Concatenates [Cert.QkvReferenceIdeal.S8192x2048, Cert.QkvReferenceIdeal.S8192x4096] Cert.QkvReferenceIdeal.S8192x6144 1)
    (hl : FTy.bits .bf16 < FTy.bits .f32) :
    (truncf (F := Ideal) (s := Cert.QkvReferenceIdeal.S8192x6144) (φ := .f32) .bf16 (concatenate Cert.QkvReferenceIdeal.S8192x6144 1
      [⟨Cert.QkvReferenceIdeal.S8192x2048, mulf (extractStridedSlice Cert.QkvReferenceIdeal.S8192x2048 ![0, 0] (Host.dotGeneral Cert.QkvReferenceIdeal.dot_S8192x4096_S4096x6144_S8192x6144_1_0_0_1_n_n none a (extractStridedSlice Cert.QkvReferenceIdeal.S4096x6144 ![0, 6592] w hs)) h1)
          (broadcastInDim Cert.QkvReferenceIdeal.S8192x2048 ![] hb (Host.divf (constant (F := Ideal) Cert.QkvReferenceIdeal.S_ .f32 0x3E000000#32) (Host.log (constant (F := Ideal) Cert.QkvReferenceIdeal.S_ .f32 0x40000000#32))))⟩,
       ⟨Cert.QkvReferenceIdeal.S8192x4096, extractStridedSlice Cert.QkvReferenceIdeal.S8192x4096 ![0, 2048] (Host.dotGeneral Cert.QkvReferenceIdeal.dot_S8192x4096_S4096x6144_S8192x6144_1_0_0_1_n_n none a (extractStridedSlice Cert.QkvReferenceIdeal.S4096x6144 ![0, 6592] w hs)) h2⟩] hc) hl
        : FVec Ideal Cert.QkvReferenceIdeal.S8192x6144 .bf16) = prod a w := by
  funext j
  have hj : j = ix2 (j 0) (j 1) := funext fun a => by fin_cases a <;> rfl
  rw [hj]
  generalize (j 0 : Fin 8192) = p
  generalize (j 1 : Fin 6144) = n
  unfold prod colScale factor
  pointwise
  by_cases a1 : n.val < 2048
  · simp only [a1, ↓reduceDIte, ↓reduceIte]
  · simp only [a1, ↓reduceDIte, ↓reduceIte, mul_one]
    refine Finset.sum_congr rfl fun k _ => congrArg (fun q => (a (ix2 p k) * w (ix2 k q) : EReal)) (Fin.ext ?_)
    dsimp only
    omega

/-- The kernel and the reference compute the same scaled product. -/
theorem value : Cert.algebraic_QkvIdeal_QkvReferenceIdeal := by
  intro m g m' g' _ hag
  refine ⟨fun c => prod (m ((c.tc : Thread nD τ).loc main_arg0)) (m ((c.tc : Thread nD τ).loc main_arg1)), ?_, ?_⟩
  · exact (θ_run _ _ _).mono (fun r h c => ⟨(h c).1.trans (final m c), (h c).2⟩) (Value.run_blocks m g)
  · refine (θ_run _ _ _).mono (fun r h c => ⟨(h c).1.trans ?_, (h c).2⟩) (Cert.QkvReferenceIdeal.Value.run (F := Ideal) m' g')
    rw [(hag c).1, (hag c).2]
    exact reference_eq _ _ _ _ _ _ _ _

/-- The reference runs to its end and leaves its arguments alone; it has no counters. -/
theorem reference_frame : Cert.quiescent_QkvReferenceIdeal := fun m ρ _ =>
  (θ_run _ _ _).mono (fun r h => ⟨fun c => (h c).2, sem_eq_zero_of_no_sems (by decide) r.2⟩)
    (Cert.QkvReferenceIdeal.Value.run (F := Ideal) m ρ)

end Cert.Proof.Qkv

end
-- ==== Proof.Mix.lean ====
/- The output projection: the product of the two mixers' outputs with the two halves of the weight, added up, is the
   product of the joined outputs with the whole weight. -/
module

public import proofs.«01_k».proof.Defs
public import proofs.«01_k».proof.Proof.Gen.MixIdeal.Value
public import proofs.«01_k».proof.Proof.Gen.MixReferenceIdeal
public import proofs.«01_k».proof.Proof.Gen.MixReferenceIdeal.Run
public import Idealize.ShloMosaic.Lib.MatmulPlain
public import Idealize.ShloMosaic.Lib.Pointwise
public import Idealize.ShloMosaic.Lib.ValueIdx
public import Idealize.ShloMosaic.Lib.Quiescent

@[expose] public section

noncomputable section

namespace Cert.Proof.Mix

open Idealize.ShloMosaic Idealize.ShloMosaic.TcCoe Idealize.SL.Sem
open Cert.MixIdeal Cert.MixIdeal.Gen
open Idealize.ShloMosaic.Pipeline (Dat Cfg Window)

variable (m : (ℓ : Loc nD τ sig) → Buf (Elt Ideal) ℓ) (ρ : Dev nD → PrngReg)

/-- The sum of two products of a block of rows with a block of columns, at one place. -/
theorem pay_apply (x : Vec Ideal S2048x2048 .bf16) (w : Vec Ideal S2048x512 .bf16) (x' : Vec Ideal S2048x2048 .bf16) (w' : Vec Ideal S2048x512 .bf16) (j : S2048x512.Idx) :
    k0_pay1 x w x' w' j = ((∑ k : Fin 2048, (x (ix2 (j 0) k) : EReal) * (w (ix2 k (j 1)) : EReal)) + ∑ k : Fin 2048, (x' (ix2 (j 0) k) : EReal) * (w' (ix2 k (j 1)) : EReal) : EReal) := by
  unfold k0_pay1
  pointwise

/-- The body stores that sum of the blocks it loads. -/
theorem out_eq (x x' : Vec Ideal S2048x2048 .bf16) (w w' : Vec Ideal S2048x512 .bf16) : out0_4 x x' w w' = k0_pay1 x w x' w' := by
  have h0 : (![0, 0] : Fin S2048x512.rank → Nat) = fun _ => 0 := funext fun a => by fin_cases a <;> rfl
  have h1 : (![0, 0] : Fin S2048x2048.rank → Nat) = fun _ => 0 := funext fun a => by fin_cases a <;> rfl
  unfold out0_4
  rw [View.canon_unit_zero h0, View.ld_unit_zero h1, View.ld_unit_zero h1, View.ld_unit_zero h0, View.ld_unit_zero h0]

/-- The sum of the two whole products: the first half of the contracted axis runs over the first operand, the second
    half over the second. -/
def prod (a b : FVec Ideal S8192x2048 .f32) (w : FVec Ideal S4096x4096 .f32) : FVec Ideal S8192x4096 .f32 :=
  fun i => ((∑ k : Fin 2048, (a (ix2 (i 0) k) : EReal) * (w (ix2 (Fin.castAdd 2048 k) (i 1)) : EReal))
    + ∑ k : Fin 2048, (b (ix2 (i 0) k) : EReal) * (w (ix2 (Fin.natAdd 2048 k) (i 1)) : EReal) : EReal)

/-- The region finds the rounded argument; over the reals rounding does nothing. -/
theorem V0 (c : Dev nD) (i : S8192x2048.Idx) :
    (V m c main_v0 i : EReal) = m ((c.tc : Thread nD τ).loc main_arg0) i := by
  have e : V m c main_v0 = (truncf (F := Ideal) (s := S8192x2048) (φ := .f32) .bf16 (m ((c.tc : Thread nD τ).loc main_arg0)) bitsLt_bf16_f32 : FVec Ideal S8192x2048 .bf16) := by
    show StableHlo.after hostOps0 _ (Proc.devRef .tc main_v0) = _
    after_results
  rw [e]; rfl

/-- The region finds the rounded argument; over the reals rounding does nothing. -/
theorem V1 (c : Dev nD) (i : S8192x2048.Idx) :
    (V m c main_v1 i : EReal) = m ((c.tc : Thread nD τ).loc main_arg1) i := by
  have e : V m c main_v1 = (truncf (F := Ideal) (s := S8192x2048) (φ := .f32) .bf16 (m ((c.tc : Thread nD τ).loc main_arg1)) bitsLt_bf16_f32 : FVec Ideal S8192x2048 .bf16) := by
    show StableHlo.after hostOps0 _ (Proc.devRef .tc main_v1) = _
    after_results
  rw [e]; rfl

/-- The region finds the first half of the weight's rows. -/
theorem V2 (c : Dev nD) (k : Fin 2048) (j : Fin 4096) :
    (V m c main_v3 (ix2 k j) : EReal) = m ((c.tc : Thread nD τ).loc main_arg2) (ix2 (Fin.castAdd 2048 k) j) := by
  have e : V m c main_v3 = (truncf (F := Ideal) (s := S2048x4096) (φ := .f32) .bf16 (extractStridedSlice S2048x4096 ![0, 0] (m ((c.tc : Thread nD τ).loc main_arg2)) slices_S4096x4096_S2048x4096_0_0) bitsLt_bf16_f32 : FVec Ideal S2048x4096 .bf16) := by
    show StableHlo.after hostOps0 _ (Proc.devRef .tc main_v3) = _
    after_results
  rw [e]
  show m ((c.tc : Thread nD τ).loc main_arg2) _ = _
  refine congrArg _ (funext fun a => Fin.ext ?_)
  match a with
  | ⟨0, _⟩ => show 0 + k.val = (Fin.castAdd 2048 k : Fin 4096).val; simp [Nat.add_comm]
  | ⟨1, _⟩ => show 0 + j.val = j.val; omega

/-- The region finds the second half of the weight's rows. -/
theorem V3 (c : Dev nD) (k : Fin 2048) (j : Fin 4096) :
    (V m c main_v5 (ix2 k j) : EReal) = m ((c.tc : Thread nD τ).loc main_arg2) (ix2 (Fin.natAdd 2048 k) j) := by
  have e : V m c main_v5 = (truncf (F := Ideal) (s := S2048x4096) (φ := .f32) .bf16 (extractStridedSlice S2048x4096 ![2048, 0] (m ((c.tc : Thread nD τ).loc main_arg2)) slices_S4096x4096_S2048x4096_2048_0) bitsLt_bf16_f32 : FVec Ideal S2048x4096 .bf16) := by
    show StableHlo.after hostOps0 _ (Proc.devRef .tc main_v5) = _
    after_results
  rw [e]
  show m ((c.tc : Thread nD τ).loc main_arg2) _ = _
  refine congrArg _ (funext fun a => Fin.ext ?_)
  match a with
  | ⟨0, _⟩ => show 2048 + k.val = (Fin.natAdd 2048 k : Fin 4096).val; simp [Nat.add_comm]
  | ⟨1, _⟩ => show 0 + j.val = j.val; omega

/-- The blocks of a grid point: the rows of the operands and the columns of the weights are those of the result's
    block, and all run over their whole contracted axis. -/
theorem places : ∀ t : Fin cfg0.N, (win0_0.index t (0 : Fin 2) = win0_4.index t (0 : Fin 2) ∧ win0_0.index t (1 : Fin 2) = 0)
    ∧ (win0_1.index t (0 : Fin 2) = win0_4.index t (0 : Fin 2) ∧ win0_1.index t (1 : Fin 2) = 0)
    ∧ (win0_2.index t (0 : Fin 2) = 0 ∧ win0_2.index t (1 : Fin 2) = win0_4.index t (1 : Fin 2))
    ∧ (win0_3.index t (0 : Fin 2) = 0 ∧ win0_3.index t (1 : Fin 2) = win0_4.index t (1 : Fin 2)) :=
  (by decide +kernel : ∀ t : Fin grid0.N, _)

set_option maxRecDepth 65536 in
/-- What a grid point writes back is its block of the whole result. -/
theorem flushed_eq (c : Dev nD) (t : Fin cfg0.N) : (dats m 0 c).flushed 4 t
    = ((cfg0.win 4).blk t).view.read (Elt Ideal)
        (prod (m ((c.tc : Thread nD τ).loc main_arg0)) (m ((c.tc : Thread nD τ).loc main_arg1)) (m ((c.tc : Thread nD τ).loc main_arg2))) := by
  rw [Value.flushed4, out_eq]
  obtain ⟨⟨e0, e1⟩, ⟨e2, e3⟩, ⟨e4, e5⟩, ⟨e6, e7⟩⟩ := places t
  funext y
  show k0_pay1 (iblk m c 0 t) (iblk m c 2 t) (iblk m c 1 t) (iblk m c 3 t) ((cfg0.win 4).xinj (grid0.coords t) y) = prod _ _ _ (((cfg0.win 4).blk t).view.emb y)
  rw [pay_apply]
  unfold prod
  generalize hz : (cfg0.win 4).xinj (grid0.coords t) y = z
  have z0 : (z 0).val = (y 0).val := by rw [← hz]
  have z1 : (z 1).val = (y 1).val := by rw [← hz]
  refine congrArg₂ (fun u v : EReal => u + v) (Finset.sum_congr rfl fun k _ => ?_) (Finset.sum_congr rfl fun k _ => ?_)
  · refine congrArg₂ (fun u v : EReal => u * v) ?_ ?_
    · refine (V0 m c (((cfg0.win 0).blk t).view.emb (ix2 (z 0) k))).trans (congrArg _ (funext fun a => Fin.ext ?_))
      match a with
      | ⟨0, _⟩ =>
        show win0_0.index t (0 : Fin 2) * 2048 + 1 * (z 0).val = win0_4.index t (0 : Fin 2) * 2048 + 1 * (y 0).val
        rw [e0, z0]
      | ⟨1, _⟩ =>
        show win0_0.index t (1 : Fin 2) * 2048 + 1 * k.val = k.val
        rw [e1]; omega
    · refine (congrArg (V m c main_v3) (funext fun a => Fin.ext ?_)).trans (V2 m c k _)
      match a with
      | ⟨0, _⟩ =>
        show win0_2.index t (0 : Fin 2) * 2048 + 1 * k.val = k.val
        rw [e4]; omega
      | ⟨1, _⟩ =>
        show win0_2.index t (1 : Fin 2) * 512 + 1 * (z 1).val = win0_4.index t (1 : Fin 2) * 512 + 1 * (y 1).val
        rw [e5, z1]
  · refine congrArg₂ (fun u v : EReal => u * v) ?_ ?_
    · refine (V1 m c (((cfg0.win 1).blk t).view.emb (ix2 (z 0) k))).trans (congrArg _ (funext fun a => Fin.ext ?_))
      match a with
      | ⟨0, _⟩ =>
        show win0_1.index t (0 : Fin 2) * 2048 + 1 * (z 0).val = win0_4.index t (0 : Fin 2) * 2048 + 1 * (y 0).val
        rw [e2, z0]
      | ⟨1, _⟩ =>
        show win0_1.index t (1 : Fin 2) * 2048 + 1 * k.val = k.val
        rw [e3]; omega
    · refine (congrArg (V m c main_v5) (funext fun a => Fin.ext ?_)).trans (V3 m c k _)
      match a with
      | ⟨0, _⟩ =>
        show win0_3.index t (0 : Fin 2) * 2048 + 1 * k.val = k.val
        rw [e6]; omega
      | ⟨1, _⟩ =>
        show win0_3.index t (1 : Fin 2) * 512 + 1 * (z 1).val = win0_4.index t (1 : Fin 2) * 512 + 1 * (y 1).val
        rw [e7, z1]

/-- Every pair of a row block and a column block is one point's. -/
theorem onto : ∀ (p : Fin 4) (q : Fin 8), ∃ t : Fin cfg0.N, (cfg0.win 4).flush t = true ∧ win0_4.index t = ![p.val, q.val] :=
  (by decide +kernel : ∀ (p : Fin 4) (q : Fin 8), ∃ t : Fin grid0.N, win0_4.flush t = true ∧ win0_4.index t = ![p.val, q.val])

/-- Every place of the result is in some point's block. -/
theorem covered (i : S8192x4096.Idx) : ∃ t : Fin cfg0.N, (cfg0.win 4).flush t = true ∧ i ∈ ((cfg0.win 4).blk t).view.set := by
  have h0 : (i 0).val < 8192 := (i 0).isLt
  have h1 : (i 1).val < 4096 := (i 1).isLt
  obtain ⟨t, hf, ht⟩ := onto ⟨(i 0).val / 2048, by omega⟩ ⟨(i 1).val / 512, by omega⟩
  have q0 : win0_4.index t (0 : Fin 2) = (i 0).val / 2048 := congrFun ht 0
  have q1 : win0_4.index t (1 : Fin 2) = (i 1).val / 512 := congrFun ht 1
  refine ⟨t, hf, ?_⟩
  show i ∈ ((View.whole main_v6).slice (win0_4.rect t)).set
  rw [View.set_slice_whole, Rect.mem_set_unit]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 512 ≤ (i 1).val ∧ (i 1).val < win0_4.index t (1 : Fin 2) * 512 + 512; omega

/-- After the run the result array is the sum of the two products. -/
theorem final (c : Dev nD) : (dats m 0 c).arrAt 4 cfg0.N = prod (m ((c.tc : Thread nD τ).loc main_arg0)) (m ((c.tc : Thread nD τ).loc main_arg1)) (m ((c.tc : Thread nD τ).loc main_arg2)) :=
  (dats m 0 c).arrAt_eq_of_cover 4 _ (fun t _ => flushed_eq m c t) covered

/-- The reference's product of the joined outputs is the same array: its sum splits in the middle. -/
theorem reference_eq (a b : FVec Ideal S8192x2048 .f32) (w : FVec Ideal S4096x4096 .f32)
    (hc : Shape.Concatenates [Cert.MixReferenceIdeal.S8192x2048, Cert.MixReferenceIdeal.S8192x2048] Cert.MixReferenceIdeal.S8192x4096 1) :
    Host.dotGeneral Cert.MixReferenceIdeal.dot_S8192x4096_S4096x4096_S8192x4096_1_0_0_1_n_n none
      (concatenate Cert.MixReferenceIdeal.S8192x4096 1 [⟨Cert.MixReferenceIdeal.S8192x2048, a⟩, ⟨Cert.MixReferenceIdeal.S8192x2048, b⟩] hc) w = prod a b w := by
  funext j
  unfold prod
  pointwise
  rfl

/-- The kernel and the reference compute the same product. -/
theorem value : Cert.algebraic_MixIdeal_MixReferenceIdeal := by
  intro m g m' g' _ hag
  refine ⟨fun c => prod (m ((c.tc : Thread nD τ).loc main_arg0)) (m ((c.tc : Thread nD τ).loc main_arg1)) (m ((c.tc : Thread nD τ).loc main_arg2)), ?_, ?_⟩
  · exact (θ_run _ _ _).mono (fun r h c => ⟨(h c).1.trans (final m c), (h c).2⟩) (Value.run_blocks m g)
  · refine (θ_run _ _ _).mono (fun r h c => ⟨(h c).1.trans ?_, (h c).2⟩) (Cert.MixReferenceIdeal.Value.run (F := Ideal) m' g')
    rw [(hag c).1, (hag c).2.1, (hag c).2.2]
    exact reference_eq _ _ _ _

/-- The reference runs to its end and leaves its arguments alone; it has no counters. -/
theorem reference_frame : Cert.quiescent_MixReferenceIdeal := fun m ρ _ =>
  (θ_run _ _ _).mono (fun r h => ⟨fun c => (h c).2, sem_eq_zero_of_no_sems (by decide) r.2⟩)
    (Cert.MixReferenceIdeal.Value.run (F := Ideal) m ρ)

end Cert.Proof.Mix

end
-- ==== Proof.Norm.lean ====
/- The norm before the first feed-forward part: what the kernel's row blocks compute, what the whole array holds, and
   that the reference computes the same array. -/
module

public import proofs.«01_k».proof.Defs
public import proofs.«01_k».proof.Proof.Gen.NormIdeal.Value
public import proofs.«01_k».proof.Proof.Gen.NormReferenceIdeal
public import proofs.«01_k».proof.Proof.Gen.NormReferenceIdeal.Run
public import Idealize.ShloMosaic.Lib.Pointwise
public import Idealize.ShloMosaic.Lib.ValueIdx
public import Idealize.ShloMosaic.Lib.Quiescent

@[expose] public section

noncomputable section

namespace Cert.Proof.Norm

open Idealize.ShloMosaic Idealize.ShloMosaic.TcCoe Idealize.SL.Sem
open Cert.NormIdeal Cert.NormIdeal.Gen
open Idealize.ShloMosaic.Pipeline (Dat Cfg Window)

variable (m : (ℓ : Loc nD τ sig) → Buf (Elt Ideal) ℓ) (ρ : Dev nD → PrngReg)

/-- The factor by which a row is scaled: one over the root of its mean square plus the small constant. -/
def scale (x : Fin 4096 → EReal) : EReal :=
  Ideal.rsqrt (Ideal.div (∑ k : Fin 4096, x k * x k) (Scalar.ofBits (F := Ideal) .f32 0x45800000#32) + (Scalar.ofBits (F := Ideal) .f32 0x358637BD#32 : EReal))

/-- The row of the result. -/
def row (x g : Fin 4096 → EReal) (k : Fin 4096) : EReal := x k * scale x * g k

/-- What the body computes of its blocks, at one place. -/
theorem pay_apply (x : Vec Ideal S256x4096 .f32) (v : Vec Ideal S1x4096 .f32) (j : S256x4096.Idx) :
    k0_pay1 x v j = row (fun k => x (ix2 (j 0) k)) (fun k => v (ix2 (0 : Fin 1) k)) (j 1) := by
  unfold k0_pay1 row scale
  pointwise

/-- The body stores what it computes of the blocks it loads. -/
theorem out_eq (x : Vec Ideal S256x4096 .f32) (v : Vec Ideal S1x4096 .f32) : out0_2 x v = k0_pay1 x v := by
  have h0 : (![0, 0] : Fin S256x4096.rank → Nat) = fun _ => 0 := funext fun a => by fin_cases a <;> rfl
  have h1 : (![0, 0] : Fin S1x4096.rank → Nat) = fun _ => 0 := funext fun a => by fin_cases a <;> rfl
  unfold out0_2
  rw [View.canon_unit_zero h0, View.ld_unit_zero h0, View.ld_unit_zero h1]

/-- The whole result. -/
def whole (x : FVec Ideal S8192x4096 .f32) (g : FVec Ideal S4096 .f32) : FVec Ideal S8192x4096 .bf16 :=
  fun i => row (fun k => x (ix2 (i 0) k)) (fun k => g (ix1 k)) (i 1)

/-- The region finds the weight as one row. -/
theorem V0 (c : Dev nD) (k : Fin 4096) :
    (V m c main_v0 (ix2 (0 : Fin 1) k) : EReal) = m ((c.tc : Thread nD τ).loc main_arg1) (ix1 k) := by
  have e : V m c main_v0 = (shapeCast S1x4096 (m ((c.tc : Thread nD τ).loc main_arg1)) shapeCasts_S4096_S1x4096) := by
    show StableHlo.after hostOps0 _ (Proc.devRef .tc main_v0) = _
    after_results
    rfl
  rw [e]
  refine (shapeCast_addUnit_apply ![4096] _ _ _).trans (congrArg _ (funext fun a => ?_))
  fin_cases a
  rfl

/-- The blocks of a grid point: the rows of the operand are the result's, the weight is whole. -/
theorem places : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0 ∧ win0_2.index t (1 : Fin 2) = 0 :=
  (by decide +kernel : ∀ t : Fin grid0.N, _)

/-- Every block of rows is one point's. -/
theorem onto : ∀ p : Fin 32, ∃ t : Fin cfg0.N, (cfg0.win 2).flush t = true ∧ win0_2.index t = ![p.val, 0] :=
  (by decide +kernel : ∀ p : Fin 32, ∃ t : Fin grid0.N, win0_2.flush t = true ∧ win0_2.index t = ![p.val, 0])

set_option maxRecDepth 65536 in
/-- What a grid point writes back is its block of the whole result. -/
theorem flushed_eq (c : Dev nD) (t : Fin cfg0.N) : (dats m 0 c).flushed 2 t
    = ((cfg0.win 2).blk t).view.read (Elt Ideal)
        (whole (m ((c.tc : Thread nD τ).loc main_arg0)) (m ((c.tc : Thread nD τ).loc main_arg1))) := by
  rw [Value.flushed2, out_eq]
  obtain ⟨e0, e1, e2, e3, e4⟩ := places t
  funext y
  show k0_pay1 (iblk m c 0 t) (iblk m c 1 t) ((cfg0.win 2).xinj (grid0.coords t) y) = whole _ _ (((cfg0.win 2).blk t).view.emb y)
  rw [pay_apply]
  unfold whole
  generalize hz : (cfg0.win 2).xinj (grid0.coords t) y = z
  have z0 : (z 0).val = (y 0).val := by rw [← hz]
  have z1 : (z 1).val = (y 1).val := by rw [← hz]
  have hh : (fun k : Fin 4096 => (iblk m c 0 t (ix2 (z 0) k) : EReal))
      = fun k => m ((c.tc : Thread nD τ).loc main_arg0) (ix2 ((((cfg0.win 2).blk t).view.emb y) 0) k) := funext fun k => by
    show V m c main_arg0 (((cfg0.win 0).blk t).view.emb (ix2 (z 0) k)) = _
    rw [V_main_arg0]
    refine congrArg _ (funext fun a => Fin.ext ?_)
    match a with
    | ⟨0, _⟩ =>
      show win0_0.index t (0 : Fin 2) * 256 + 1 * (z 0).val = win0_2.index t (0 : Fin 2) * 256 + 1 * (y 0).val
      rw [e0, z0]
    | ⟨1, _⟩ =>
      show win0_0.index t (1 : Fin 2) * 4096 + 1 * k.val = k.val
      rw [e1]; omega
  have hg : (fun k : Fin 4096 => (iblk m c 1 t (ix2 (0 : Fin 1) k) : EReal))
      = fun k => m ((c.tc : Thread nD τ).loc main_arg1) (ix1 k) := funext fun k => by
    refine (congrArg (V m c main_v0) (funext fun a => Fin.ext ?_)).trans (V0 m c k)
    match a with
    | ⟨0, _⟩ =>
      show win0_1.index t (0 : Fin 2) * 1 + 1 * 0 = 0
      rw [e2]
    | ⟨1, _⟩ =>
      show win0_1.index t (1 : Fin 2) * 4096 + 1 * k.val = k.val
      rw [e3]; omega
  have hk : (z 1 : Fin 4096) = (((cfg0.win 2).blk t).view.emb y) 1 := Fin.ext (by
    show (z 1).val = win0_2.index t (1 : Fin 2) * 4096 + 1 * (y 1).val
    rw [e4, z1]; omega)
  exact (congrArg₂ (fun a b => row a b (z 1)) hh hg).trans (congrArg _ hk)

/-- Every place of the result is in some point's block. -/
theorem covered (i : S8192x4096.Idx) : ∃ t : Fin cfg0.N, (cfg0.win 2).flush t = true ∧ i ∈ ((cfg0.win 2).blk t).view.set := by
  have h0 : (i 0).val < 8192 := (i 0).isLt
  have h1 : (i 1).val < 4096 := (i 1).isLt
  obtain ⟨t, hf, ht⟩ := onto ⟨(i 0).val / 256, by omega⟩
  have q0 : win0_2.index t (0 : Fin 2) = (i 0).val / 256 := congrFun ht 0
  have q1 : win0_2.index t (1 : Fin 2) = 0 := congrFun ht 1
  refine ⟨t, hf, ?_⟩
  show i ∈ ((View.whole main_v1).slice (win0_2.rect t)).set
  rw [View.set_slice_whole, Rect.mem_set_unit]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 4096 ≤ (i 1).val ∧ (i 1).val < win0_2.index t (1 : Fin 2) * 4096 + 4096; omega

/-- After the run the result array is the whole result. -/
theorem final (c : Dev nD) : (dats m 0 c).arrAt 2 cfg0.N
    = whole (m ((c.tc : Thread nD τ).loc main_arg0)) (m ((c.tc : Thread nD τ).loc main_arg1)) :=
  (dats m 0 c).arrAt_eq_of_cover 2 _ (fun t _ => flushed_eq m c t) covered

/-- The kernel and the reference compute the same result. -/
theorem value : Cert.algebraic_NormIdeal_NormReferenceIdeal := by
  intro m g m' g' _ hag
  refine ⟨fun c => whole (m ((c.tc : Thread nD τ).loc main_arg0)) (m ((c.tc : Thread nD τ).loc main_arg1)), ?_, ?_⟩
  · exact (θ_run _ _ _).mono (fun r h c => ⟨(h c).1.trans (final m c), (h c).2⟩) (Value.run_blocks m g)
  · refine (θ_run _ _ _).mono (fun r h c => ⟨(h c).1.trans ?_, (h c).2⟩) (Cert.NormReferenceIdeal.Value.run (F := Ideal) m' g')
    rw [(hag c).1, (hag c).2]
    funext j
    unfold whole row scale
    pointwise

/-- The reference runs to its end and leaves its arguments alone; it has no counters. -/
theorem reference_frame : Cert.quiescent_NormReferenceIdeal := fun m ρ _ =>
  (θ_run _ _ _).mono (fun r h => ⟨fun c => (h c).2, sem_eq_zero_of_no_sems (by decide) r.2⟩)
    (Cert.NormReferenceIdeal.Value.run (F := Ideal) m ρ)

end Cert.Proof.Norm

end
-- ==== Proof.Half.lean ====
/- The step after the first feed-forward part: what the kernel's row blocks compute for its two results, what the whole
   arrays hold, and that the reference computes the same arrays. -/
module

public import proofs.«01_k».proof.Defs
public import proofs.«01_k».proof.Proof.Gen.HalfIdeal.Value
public import proofs.«01_k».proof.Proof.Gen.HalfReferenceIdeal
public import proofs.«01_k».proof.Proof.Gen.HalfReferenceIdeal.Run
public import Idealize.ShloMosaic.Lib.Pointwise
public import Idealize.ShloMosaic.Lib.ValueIdx
public import Idealize.ShloMosaic.Lib.Quiescent

@[expose] public section

noncomputable section

namespace Cert.Proof.Half

open Idealize.ShloMosaic Idealize.ShloMosaic.TcCoe Idealize.SL.Sem
open Cert.HalfIdeal Cert.HalfIdeal.Gen
open Idealize.ShloMosaic.Pipeline (Dat Cfg Window)

variable (m : (ℓ : Loc nD τ sig) → Buf (Elt Ideal) ℓ) (ρ : Dev nD → PrngReg)

/-- The factor by which a row is scaled: one over the root of its mean square plus the small constant. -/
def scale (x : Fin 4096 → EReal) : EReal :=
  Ideal.rsqrt (Ideal.div (∑ k : Fin 4096, x k * x k) (Scalar.ofBits (F := Ideal) .f32 0x45800000#32) + (Scalar.ofBits (F := Ideal) .f32 0x358637BD#32 : EReal))

/-- The row after the residual sum: the stream plus half the scaled and weighted feed-forward output. -/
def mid (h f g : Fin 4096 → EReal) (k : Fin 4096) : EReal :=
  h k + (Scalar.ofBits (F := Ideal) .f32 0x3F000000#32 : EReal) * (f k * scale f * g k)

/-- The row of the result. -/
def row (h f g g' : Fin 4096 → EReal) (k : Fin 4096) : EReal := mid h f g k * scale (mid h f g) * g' k

/-- What the body computes of its blocks for the second result, at one place. -/
theorem pay_apply (x y : Vec Ideal S256x4096 .f32) (v w : Vec Ideal S1x4096 .f32) (j : S256x4096.Idx) :
    k0_pay2 x y v w j = row (fun k => x (ix2 (j 0) k)) (fun k => y (ix2 (j 0) k)) (fun k => v (ix2 (0 : Fin 1) k)) (fun k => w (ix2 (0 : Fin 1) k)) (j 1) := by
  unfold k0_pay2 row mid scale
  try unfold k0_pay1
  pointwise

/-- The same for the first result. -/
theorem pay_mid_apply (x y : Vec Ideal S256x4096 .f32) (v : Vec Ideal S1x4096 .f32) (j : S256x4096.Idx) :
    k0_pay1 x y v j = mid (fun k => x (ix2 (j 0) k)) (fun k => y (ix2 (j 0) k)) (fun k => v (ix2 (0 : Fin 1) k)) (j 1) := by
  unfold k0_pay1 mid scale
  pointwise

/-- The body stores what it computes of the blocks it loads. -/
theorem out_eq (x y : Vec Ideal S256x4096 .f32) (v w : Vec Ideal S1x4096 .f32) : out0_5 x y v w = k0_pay2 x y v w := by
  have h0 : (![0, 0] : Fin S256x4096.rank → Nat) = fun _ => 0 := funext fun a => by fin_cases a <;> rfl
  have h1 : (![0, 0] : Fin S1x4096.rank → Nat) = fun _ => 0 := funext fun a => by fin_cases a <;> rfl
  unfold out0_5
  rw [View.canon_unit_zero h0, View.ld_unit_zero h0, View.ld_unit_zero h0, View.ld_unit_zero h1, View.ld_unit_zero h1]

/-- The same for the first result. -/
theorem out_mid_eq (x y : Vec Ideal S256x4096 .f32) (v w : Vec Ideal S1x4096 .f32) : out0_4 x y v w = k0_pay1 x y v := by
  have h0 : (![0, 0] : Fin S256x4096.rank → Nat) = fun _ => 0 := funext fun a => by fin_cases a <;> rfl
  have h1 : (![0, 0] : Fin S1x4096.rank → Nat) = fun _ => 0 := funext fun a => by fin_cases a <;> rfl
  unfold out0_4
  rw [View.canon_unit_zero h0, View.ld_unit_zero h0, View.ld_unit_zero h0, View.ld_unit_zero h1]

/-- The whole first result. -/
def stream (h f : FVec Ideal S8192x4096 .f32) (g : FVec Ideal S4096 .f32) : FVec Ideal S8192x4096 .f32 :=
  fun i => mid (fun k => h (ix2 (i 0) k)) (fun k => f (ix2 (i 0) k)) (fun k => g (ix1 k)) (i 1)

/-- The whole second result. -/
def whole (h f : FVec Ideal S8192x4096 .f32) (g g' : FVec Ideal S4096 .f32) : FVec Ideal S8192x4096 .bf16 :=
  fun i => row (fun k => h (ix2 (i 0) k)) (fun k => f (ix2 (i 0) k)) (fun k => g (ix1 k)) (fun k => g' (ix1 k)) (i 1)

/-- The region finds the first weight as one row. -/
theorem V0 (c : Dev nD) (k : Fin 4096) :
    (V m c main_v0 (ix2 (0 : Fin 1) k) : EReal) = m ((c.tc : Thread nD τ).loc main_arg2) (ix1 k) := by
  have e : V m c main_v0 = (shapeCast S1x4096 (m ((c.tc : Thread nD τ).loc main_arg2)) shapeCasts_S4096_S1x4096) := by
    show StableHlo.after hostOps0 _ (Proc.devRef .tc main_v0) = _
    after_results
    rfl
  rw [e]
  refine (shapeCast_addUnit_apply ![4096] _ _ _).trans (congrArg _ (funext fun a => ?_))
  fin_cases a
  rfl

/-- The same for the second weight. -/
theorem V1 (c : Dev nD) (k : Fin 4096) :
    (V m c main_v1 (ix2 (0 : Fin 1) k) : EReal) = m ((c.tc : Thread nD τ).loc main_arg3) (ix1 k) := by
  have e : V m c main_v1 = (shapeCast S1x4096 (m ((c.tc : Thread nD τ).loc main_arg3)) shapeCasts_S4096_S1x4096) := by
    show StableHlo.after hostOps0 _ (Proc.devRef .tc main_v1) = _
    after_results
    rfl
  rw [e]
  refine (shapeCast_addUnit_apply ![4096] _ _ _).trans (congrArg _ (funext fun a => ?_))
  fin_cases a
  rfl

/-- The blocks of a grid point: the rows of both operands are the result's, the weights are whole. -/
theorem places : ∀ t : Fin cfg0.N, win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 ∧ win0_5.index t (1 : Fin 2) = 0 :=
  (by decide +kernel : ∀ t : Fin grid0.N, _)

/-- Every block of rows is one point's. -/
theorem onto : ∀ p : Fin 32, ∃ t : Fin cfg0.N, (cfg0.win 5).flush t = true ∧ win0_5.index t = ![p.val, 0] :=
  (by decide +kernel : ∀ p : Fin 32, ∃ t : Fin grid0.N, win0_5.flush t = true ∧ win0_5.index t = ![p.val, 0])

set_option maxRecDepth 65536 in
/-- What a grid point writes back is its block of the whole result. -/
theorem flushed_eq (c : Dev nD) (t : Fin cfg0.N) : (dats m 0 c).flushed 5 t
    = ((cfg0.win 5).blk t).view.read (Elt Ideal)
        (whole (m ((c.tc : Thread nD τ).loc main_arg0)) (m ((c.tc : Thread nD τ).loc main_arg1))
          (m ((c.tc : Thread nD τ).loc main_arg2)) (m ((c.tc : Thread nD τ).loc main_arg3))) := by
  rw [Value.flushed5, out_eq]
  obtain ⟨e0, e1, e2, e3, e4, e5, e6, e7, e8⟩ := places t
  funext y
  show k0_pay2 (iblk m c 0 t) (iblk m c 1 t) (iblk m c 2 t) (iblk m c 3 t) ((cfg0.win 5).xinj (grid0.coords t) y)
    = whole _ _ _ _ (((cfg0.win 5).blk t).view.emb y)
  rw [pay_apply]
  unfold whole
  generalize hz : (cfg0.win 5).xinj (grid0.coords t) y = z
  have z0 : (z 0).val = (y 0).val := by rw [← hz]
  have z1 : (z 1).val = (y 1).val := by rw [← hz]
  have hh : (fun k : Fin 4096 => (iblk m c 0 t (ix2 (z 0) k) : EReal))
      = fun k => m ((c.tc : Thread nD τ).loc main_arg0) (ix2 ((((cfg0.win 5).blk t).view.emb y) 0) k) := funext fun k => by
    show V m c main_arg0 (((cfg0.win 0).blk t).view.emb (ix2 (z 0) k)) = _
    rw [V_main_arg0]
    refine congrArg _ (funext fun a => Fin.ext ?_)
    match a with
    | ⟨0, _⟩ =>
      show win0_0.index t (0 : Fin 2) * 256 + 1 * (z 0).val = win0_5.index t (0 : Fin 2) * 256 + 1 * (y 0).val
      rw [e0, z0]
    | ⟨1, _⟩ =>
      show win0_0.index t (1 : Fin 2) * 4096 + 1 * k.val = k.val
      rw [e1]; omega
  have hf : (fun k : Fin 4096 => (iblk m c 1 t (ix2 (z 0) k) : EReal))
      = fun k => m ((c.tc : Thread nD τ).loc main_arg1) (ix2 ((((cfg0.win 5).blk t).view.emb y) 0) k) := funext fun k => by
    show V m c main_arg1 (((cfg0.win 1).blk t).view.emb (ix2 (z 0) k)) = _
    rw [V_main_arg1]
    refine congrArg _ (funext fun a => Fin.ext ?_)
    match a with
    | ⟨0, _⟩ =>
      show win0_1.index t (0 : Fin 2) * 256 + 1 * (z 0).val = win0_5.index t (0 : Fin 2) * 256 + 1 * (y 0).val
      rw [e2, z0]
    | ⟨1, _⟩ =>
      show win0_1.index t (1 : Fin 2) * 4096 + 1 * k.val = k.val
      rw [e3]; omega
  have hg : (fun k : Fin 4096 => (iblk m c 2 t (ix2 (0 : Fin 1) k) : EReal))
      = fun k => m ((c.tc : Thread nD τ).loc main_arg2) (ix1 k) := funext fun k => by
    refine (congrArg (V m c main_v0) (funext fun a => Fin.ext ?_)).trans (V0 m c k)
    match a with
    | ⟨0, _⟩ =>
      show win0_2.index t (0 : Fin 2) * 1 + 1 * 0 = 0
      rw [e4]
    | ⟨1, _⟩ =>
      show win0_2.index t (1 : Fin 2) * 4096 + 1 * k.val = k.val
      rw [e5]; omega
  have hg' : (fun k : Fin 4096 => (iblk m c 3 t (ix2 (0 : Fin 1) k) : EReal))
      = fun k => m ((c.tc : Thread nD τ).loc main_arg3) (ix1 k) := funext fun k => by
    refine (congrArg (V m c main_v1) (funext fun a => Fin.ext ?_)).trans (V1 m c k)
    match a with
    | ⟨0, _⟩ =>
      show win0_3.index t (0 : Fin 2) * 1 + 1 * 0 = 0
      rw [e6]
    | ⟨1, _⟩ =>
      show win0_3.index t (1 : Fin 2) * 4096 + 1 * k.val = k.val
      rw [e7]; omega
  have hk : (z 1 : Fin 4096) = (((cfg0.win 5).blk t).view.emb y) 1 := Fin.ext (by
    show (z 1).val = win0_5.index t (1 : Fin 2) * 4096 + 1 * (y 1).val
    rw [e8, z1]; omega)
  exact (congrArg₂ (fun a b => row a b _ _ (z 1)) hh hf).trans ((congrArg₂ (fun a b => row _ _ a b (z 1)) hg hg').trans (congrArg _ hk))

/-- Every place of the result is in some point's block. -/
theorem covered (i : S8192x4096.Idx) : ∃ t : Fin cfg0.N, (cfg0.win 5).flush t = true ∧ i ∈ ((cfg0.win 5).blk t).view.set := by
  have h0 : (i 0).val < 8192 := (i 0).isLt
  have h1 : (i 1).val < 4096 := (i 1).isLt
  obtain ⟨t, hf, ht⟩ := onto ⟨(i 0).val / 256, by omega⟩
  have q0 : win0_5.index t (0 : Fin 2) = (i 0).val / 256 := congrFun ht 0
  have q1 : win0_5.index t (1 : Fin 2) = 0 := congrFun ht 1
  refine ⟨t, hf, ?_⟩
  show i ∈ ((View.whole main_v2_1).slice (win0_5.rect t)).set
  rw [View.set_slice_whole, Rect.mem_set_unit]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 4096 ≤ (i 1).val ∧ (i 1).val < win0_5.index t (1 : Fin 2) * 4096 + 4096; omega

/-- The same for the first result: the blocks of a grid point: the rows of both operands are the result's, the weights are whole. -/
theorem places_mid : ∀ t : Fin cfg0.N, win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 ∧ win0_4.index t (1 : Fin 2) = 0 :=
  (by decide +kernel : ∀ t : Fin grid0.N, _)

/-- Every block of rows is one point's. -/
theorem onto_mid : ∀ p : Fin 32, ∃ t : Fin cfg0.N, (cfg0.win 4).flush t = true ∧ win0_4.index t = ![p.val, 0] :=
  (by decide +kernel : ∀ p : Fin 32, ∃ t : Fin grid0.N, win0_4.flush t = true ∧ win0_4.index t = ![p.val, 0])

set_option maxRecDepth 65536 in
/-- What a grid point writes back is its block of the whole result. -/
theorem flushed_mid_eq (c : Dev nD) (t : Fin cfg0.N) : (dats m 0 c).flushed 4 t
    = ((cfg0.win 4).blk t).view.read (Elt Ideal)
        (stream (m ((c.tc : Thread nD τ).loc main_arg0)) (m ((c.tc : Thread nD τ).loc main_arg1))
          (m ((c.tc : Thread nD τ).loc main_arg2))) := by
  rw [Value.flushed4, out_mid_eq]
  obtain ⟨e0, e1, e2, e3, e4, e5, e6, e7, e8⟩ := places_mid t
  funext y
  show k0_pay1 (iblk m c 0 t) (iblk m c 1 t) (iblk m c 2 t) ((cfg0.win 4).xinj (grid0.coords t) y)
    = stream _ _ _ (((cfg0.win 4).blk t).view.emb y)
  rw [pay_mid_apply]
  unfold stream
  generalize hz : (cfg0.win 4).xinj (grid0.coords t) y = z
  have z0 : (z 0).val = (y 0).val := by rw [← hz]
  have z1 : (z 1).val = (y 1).val := by rw [← hz]
  have hh : (fun k : Fin 4096 => (iblk m c 0 t (ix2 (z 0) k) : EReal))
      = fun k => m ((c.tc : Thread nD τ).loc main_arg0) (ix2 ((((cfg0.win 4).blk t).view.emb y) 0) k) := funext fun k => by
    show V m c main_arg0 (((cfg0.win 0).blk t).view.emb (ix2 (z 0) k)) = _
    rw [V_main_arg0]
    refine congrArg _ (funext fun a => Fin.ext ?_)
    match a with
    | ⟨0, _⟩ =>
      show win0_0.index t (0 : Fin 2) * 256 + 1 * (z 0).val = win0_4.index t (0 : Fin 2) * 256 + 1 * (y 0).val
      rw [e0, z0]
    | ⟨1, _⟩ =>
      show win0_0.index t (1 : Fin 2) * 4096 + 1 * k.val = k.val
      rw [e1]; omega
  have hf : (fun k : Fin 4096 => (iblk m c 1 t (ix2 (z 0) k) : EReal))
      = fun k => m ((c.tc : Thread nD τ).loc main_arg1) (ix2 ((((cfg0.win 4).blk t).view.emb y) 0) k) := funext fun k => by
    show V m c main_arg1 (((cfg0.win 1).blk t).view.emb (ix2 (z 0) k)) = _
    rw [V_main_arg1]
    refine congrArg _ (funext fun a => Fin.ext ?_)
    match a with
    | ⟨0, _⟩ =>
      show win0_1.index t (0 : Fin 2) * 256 + 1 * (z 0).val = win0_4.index t (0 : Fin 2) * 256 + 1 * (y 0).val
      rw [e2, z0]
    | ⟨1, _⟩ =>
      show win0_1.index t (1 : Fin 2) * 4096 + 1 * k.val = k.val
      rw [e3]; omega
  have hg : (fun k : Fin 4096 => (iblk m c 2 t (ix2 (0 : Fin 1) k) : EReal))
      = fun k => m ((c.tc : Thread nD τ).loc main_arg2) (ix1 k) := funext fun k => by
    refine (congrArg (V m c main_v0) (funext fun a => Fin.ext ?_)).trans (V0 m c k)
    match a with
    | ⟨0, _⟩ =>
      show win0_2.index t (0 : Fin 2) * 1 + 1 * 0 = 0
      rw [e4]
    | ⟨1, _⟩ =>
      show win0_2.index t (1 : Fin 2) * 4096 + 1 * k.val = k.val
      rw [e5]; omega
  have hk : (z 1 : Fin 4096) = (((cfg0.win 4).blk t).view.emb y) 1 := Fin.ext (by
    show (z 1).val = win0_4.index t (1 : Fin 2) * 4096 + 1 * (y 1).val
    rw [e8, z1]; omega)
  exact (congrArg₂ (fun a b => mid a b _ (z 1)) hh hf).trans ((congrArg (fun a => mid _ _ a (z 1)) hg).trans (congrArg _ hk))

/-- Every place of the result is in some point's block. -/
theorem covered_mid (i : S8192x4096.Idx) : ∃ t : Fin cfg0.N, (cfg0.win 4).flush t = true ∧ i ∈ ((cfg0.win 4).blk t).view.set := by
  have h0 : (i 0).val < 8192 := (i 0).isLt
  have h1 : (i 1).val < 4096 := (i 1).isLt
  obtain ⟨t, hf, ht⟩ := onto_mid ⟨(i 0).val / 256, by omega⟩
  have q0 : win0_4.index t (0 : Fin 2) = (i 0).val / 256 := congrFun ht 0
  have q1 : win0_4.index t (1 : Fin 2) = 0 := congrFun ht 1
  refine ⟨t, hf, ?_⟩
  show i ∈ ((View.whole main_v2_0).slice (win0_4.rect t)).set
  rw [View.set_slice_whole, Rect.mem_set_unit]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 4096 ≤ (i 1).val ∧ (i 1).val < win0_4.index t (1 : Fin 2) * 4096 + 4096; omega

/-- After the run the second result array is the whole second result. -/
theorem final (c : Dev nD) : (dats m 0 c).arrAt 5 cfg0.N = whole (m ((c.tc : Thread nD τ).loc main_arg0)) (m ((c.tc : Thread nD τ).loc main_arg1)) (m ((c.tc : Thread nD τ).loc main_arg2)) (m ((c.tc : Thread nD τ).loc main_arg3)) :=
  (dats m 0 c).arrAt_eq_of_cover 5 _ (fun t _ => flushed_eq m c t) covered

/-- After the run the first result array is the whole first result. -/
theorem final_mid (c : Dev nD) : (dats m 0 c).arrAt 4 cfg0.N = stream (m ((c.tc : Thread nD τ).loc main_arg0)) (m ((c.tc : Thread nD τ).loc main_arg1)) (m ((c.tc : Thread nD τ).loc main_arg2)) :=
  (dats m 0 c).arrAt_eq_of_cover 4 _ (fun t _ => flushed_mid_eq m c t) covered_mid

/-- The kernel and the reference compute the same two results. -/
theorem value : Cert.algebraic_HalfIdeal_HalfReferenceIdeal := by
  intro m g m' g' _ hag
  refine ⟨fun c => stream (m ((c.tc : Thread nD τ).loc main_arg0)) (m ((c.tc : Thread nD τ).loc main_arg1)) (m ((c.tc : Thread nD τ).loc main_arg2)), fun c => whole (m ((c.tc : Thread nD τ).loc main_arg0)) (m ((c.tc : Thread nD τ).loc main_arg1)) (m ((c.tc : Thread nD τ).loc main_arg2)) (m ((c.tc : Thread nD τ).loc main_arg3)), ?_, ?_⟩
  · exact (θ_run _ _ _).mono (fun r h c => ⟨(h c).1.trans (final_mid m c), (h c).2.1.trans (final m c), (h c).2.2⟩) (Value.run_blocks m g)
  · refine (θ_run _ _ _).mono (fun r h c => ⟨(h c).1.trans ?_, (h c).2.1.trans ?_, (h c).2.2⟩) (Cert.HalfReferenceIdeal.Value.run (F := Ideal) m' g')
    · rw [(hag c).1, (hag c).2.1, (hag c).2.2.1]
      funext j
      unfold stream mid scale
      pointwise
    · rw [(hag c).1, (hag c).2.1, (hag c).2.2.1, (hag c).2.2.2]
      funext j
      unfold whole row mid scale
      pointwise

/-- The reference runs to its end and leaves its arguments alone; it has no counters. -/
theorem reference_frame : Cert.quiescent_HalfReferenceIdeal := fun m ρ _ =>
  (θ_run _ _ _).mono (fun r h => ⟨fun c => (h c).2.2, sem_eq_zero_of_no_sems (by decide) r.2⟩)
    (Cert.HalfReferenceIdeal.Value.run (F := Ideal) m ρ)

end Cert.Proof.Half

end
-- ==== Proof.Full.lean ====
/- The step after the mixers: what the kernel's row blocks compute for its two results, what the whole arrays hold, and
   that the reference computes the same arrays. -/
module

public import proofs.«01_k».proof.Defs
public import proofs.«01_k».proof.Proof.Gen.FullIdeal.Value
public import proofs.«01_k».proof.Proof.Gen.FullReferenceIdeal
public import proofs.«01_k».proof.Proof.Gen.FullReferenceIdeal.Run
public import Idealize.ShloMosaic.Lib.Pointwise
public import Idealize.ShloMosaic.Lib.ValueIdx
public import Idealize.ShloMosaic.Lib.Quiescent

@[expose] public section

noncomputable section

namespace Cert.Proof.Full

open Idealize.ShloMosaic Idealize.ShloMosaic.TcCoe Idealize.SL.Sem
open Cert.FullIdeal Cert.FullIdeal.Gen
open Idealize.ShloMosaic.Pipeline (Dat Cfg Window)

variable (m : (ℓ : Loc nD τ sig) → Buf (Elt Ideal) ℓ) (ρ : Dev nD → PrngReg)

/-- The factor by which a row is scaled: one over the root of its mean square plus the small constant. -/
def scale (x : Fin 4096 → EReal) : EReal :=
  Ideal.rsqrt (Ideal.div (∑ k : Fin 4096, x k * x k) (Scalar.ofBits (F := Ideal) .f32 0x45800000#32) + (Scalar.ofBits (F := Ideal) .f32 0x358637BD#32 : EReal))

/-- The row after the residual sum: the stream plus the scaled and weighted output of the mixers. -/
def mid (h f g : Fin 4096 → EReal) (k : Fin 4096) : EReal :=
  h k + f k * scale f * g k

/-- The row of the result. -/
def row (h f g g' : Fin 4096 → EReal) (k : Fin 4096) : EReal := mid h f g k * scale (mid h f g) * g' k

/-- What the body computes of its blocks for the second result, at one place. -/
theorem pay_apply (x y : Vec Ideal S256x4096 .f32) (v w : Vec Ideal S1x4096 .f32) (j : S256x4096.Idx) :
    k0_pay2 x y v w j = row (fun k => x (ix2 (j 0) k)) (fun k => y (ix2 (j 0) k)) (fun k => v (ix2 (0 : Fin 1) k)) (fun k => w (ix2 (0 : Fin 1) k)) (j 1) := by
  unfold k0_pay2 row mid scale
  try unfold k0_pay1
  pointwise

/-- The same for the first result. -/
theorem pay_mid_apply (x y : Vec Ideal S256x4096 .f32) (v : Vec Ideal S1x4096 .f32) (j : S256x4096.Idx) :
    k0_pay1 x y v j = mid (fun k => x (ix2 (j 0) k)) (fun k => y (ix2 (j 0) k)) (fun k => v (ix2 (0 : Fin 1) k)) (j 1) := by
  unfold k0_pay1 mid scale
  pointwise

/-- The body stores what it computes of the blocks it loads. -/
theorem out_eq (x y : Vec Ideal S256x4096 .f32) (v w : Vec Ideal S1x4096 .f32) : out0_5 x y v w = k0_pay2 x y v w := by
  have h0 : (![0, 0] : Fin S256x4096.rank → Nat) = fun _ => 0 := funext fun a => by fin_cases a <;> rfl
  have h1 : (![0, 0] : Fin S1x4096.rank → Nat) = fun _ => 0 := funext fun a => by fin_cases a <;> rfl
  unfold out0_5
  rw [View.canon_unit_zero h0, View.ld_unit_zero h0, View.ld_unit_zero h0, View.ld_unit_zero h1, View.ld_unit_zero h1]

/-- The same for the first result. -/
theorem out_mid_eq (x y : Vec Ideal S256x4096 .f32) (v w : Vec Ideal S1x4096 .f32) : out0_4 x y v w = k0_pay1 x y v := by
  have h0 : (![0, 0] : Fin S256x4096.rank → Nat) = fun _ => 0 := funext fun a => by fin_cases a <;> rfl
  have h1 : (![0, 0] : Fin S1x4096.rank → Nat) = fun _ => 0 := funext fun a => by fin_cases a <;> rfl
  unfold out0_4
  rw [View.canon_unit_zero h0, View.ld_unit_zero h0, View.ld_unit_zero h0, View.ld_unit_zero h1]

/-- The whole first result. -/
def stream (h f : FVec Ideal S8192x4096 .f32) (g : FVec Ideal S4096 .f32) : FVec Ideal S8192x4096 .f32 :=
  fun i => mid (fun k => h (ix2 (i 0) k)) (fun k => f (ix2 (i 0) k)) (fun k => g (ix1 k)) (i 1)

/-- The whole second result. -/
def whole (h f : FVec Ideal S8192x4096 .f32) (g g' : FVec Ideal S4096 .f32) : FVec Ideal S8192x4096 .bf16 :=
  fun i => row (fun k => h (ix2 (i 0) k)) (fun k => f (ix2 (i 0) k)) (fun k => g (ix1 k)) (fun k => g' (ix1 k)) (i 1)

/-- The region finds the first weight as one row. -/
theorem V0 (c : Dev nD) (k : Fin 4096) :
    (V m c main_v0 (ix2 (0 : Fin 1) k) : EReal) = m ((c.tc : Thread nD τ).loc main_arg2) (ix1 k) := by
  have e : V m c main_v0 = (shapeCast S1x4096 (m ((c.tc : Thread nD τ).loc main_arg2)) shapeCasts_S4096_S1x4096) := by
    show StableHlo.after hostOps0 _ (Proc.devRef .tc main_v0) = _
    after_results
    rfl
  rw [e]
  refine (shapeCast_addUnit_apply ![4096] _ _ _).trans (congrArg _ (funext fun a => ?_))
  fin_cases a
  rfl

/-- The same for the second weight. -/
theorem V1 (c : Dev nD) (k : Fin 4096) :
    (V m c main_v1 (ix2 (0 : Fin 1) k) : EReal) = m ((c.tc : Thread nD τ).loc main_arg3) (ix1 k) := by
  have e : V m c main_v1 = (shapeCast S1x4096 (m ((c.tc : Thread nD τ).loc main_arg3)) shapeCasts_S4096_S1x4096) := by
    show StableHlo.after hostOps0 _ (Proc.devRef .tc main_v1) = _
    after_results
    rfl
  rw [e]
  refine (shapeCast_addUnit_apply ![4096] _ _ _).trans (congrArg _ (funext fun a => ?_))
  fin_cases a
  rfl

/-- The blocks of a grid point: the rows of both operands are the result's, the weights are whole. -/
theorem places : ∀ t : Fin cfg0.N, win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 ∧ win0_5.index t (1 : Fin 2) = 0 :=
  (by decide +kernel : ∀ t : Fin grid0.N, _)

/-- Every block of rows is one point's. -/
theorem onto : ∀ p : Fin 32, ∃ t : Fin cfg0.N, (cfg0.win 5).flush t = true ∧ win0_5.index t = ![p.val, 0] :=
  (by decide +kernel : ∀ p : Fin 32, ∃ t : Fin grid0.N, win0_5.flush t = true ∧ win0_5.index t = ![p.val, 0])

set_option maxRecDepth 65536 in
/-- What a grid point writes back is its block of the whole result. -/
theorem flushed_eq (c : Dev nD) (t : Fin cfg0.N) : (dats m 0 c).flushed 5 t
    = ((cfg0.win 5).blk t).view.read (Elt Ideal)
        (whole (m ((c.tc : Thread nD τ).loc main_arg0)) (m ((c.tc : Thread nD τ).loc main_arg1))
          (m ((c.tc : Thread nD τ).loc main_arg2)) (m ((c.tc : Thread nD τ).loc main_arg3))) := by
  rw [Value.flushed5, out_eq]
  obtain ⟨e0, e1, e2, e3, e4, e5, e6, e7, e8⟩ := places t
  funext y
  show k0_pay2 (iblk m c 0 t) (iblk m c 1 t) (iblk m c 2 t) (iblk m c 3 t) ((cfg0.win 5).xinj (grid0.coords t) y)
    = whole _ _ _ _ (((cfg0.win 5).blk t).view.emb y)
  rw [pay_apply]
  unfold whole
  generalize hz : (cfg0.win 5).xinj (grid0.coords t) y = z
  have z0 : (z 0).val = (y 0).val := by rw [← hz]
  have z1 : (z 1).val = (y 1).val := by rw [← hz]
  have hh : (fun k : Fin 4096 => (iblk m c 0 t (ix2 (z 0) k) : EReal))
      = fun k => m ((c.tc : Thread nD τ).loc main_arg0) (ix2 ((((cfg0.win 5).blk t).view.emb y) 0) k) := funext fun k => by
    show V m c main_arg0 (((cfg0.win 0).blk t).view.emb (ix2 (z 0) k)) = _
    rw [V_main_arg0]
    refine congrArg _ (funext fun a => Fin.ext ?_)
    match a with
    | ⟨0, _⟩ =>
      show win0_0.index t (0 : Fin 2) * 256 + 1 * (z 0).val = win0_5.index t (0 : Fin 2) * 256 + 1 * (y 0).val
      rw [e0, z0]
    | ⟨1, _⟩ =>
      show win0_0.index t (1 : Fin 2) * 4096 + 1 * k.val = k.val
      rw [e1]; omega
  have hf : (fun k : Fin 4096 => (iblk m c 1 t (ix2 (z 0) k) : EReal))
      = fun k => m ((c.tc : Thread nD τ).loc main_arg1) (ix2 ((((cfg0.win 5).blk t).view.emb y) 0) k) := funext fun k => by
    show V m c main_arg1 (((cfg0.win 1).blk t).view.emb (ix2 (z 0) k)) = _
    rw [V_main_arg1]
    refine congrArg _ (funext fun a => Fin.ext ?_)
    match a with
    | ⟨0, _⟩ =>
      show win0_1.index t (0 : Fin 2) * 256 + 1 * (z 0).val = win0_5.index t (0 : Fin 2) * 256 + 1 * (y 0).val
      rw [e2, z0]
    | ⟨1, _⟩ =>
      show win0_1.index t (1 : Fin 2) * 4096 + 1 * k.val = k.val
      rw [e3]; omega
  have hg : (fun k : Fin 4096 => (iblk m c 2 t (ix2 (0 : Fin 1) k) : EReal))
      = fun k => m ((c.tc : Thread nD τ).loc main_arg2) (ix1 k) := funext fun k => by
    refine (congrArg (V m c main_v0) (funext fun a => Fin.ext ?_)).trans (V0 m c k)
    match a with
    | ⟨0, _⟩ =>
      show win0_2.index t (0 : Fin 2) * 1 + 1 * 0 = 0
      rw [e4]
    | ⟨1, _⟩ =>
      show win0_2.index t (1 : Fin 2) * 4096 + 1 * k.val = k.val
      rw [e5]; omega
  have hg' : (fun k : Fin 4096 => (iblk m c 3 t (ix2 (0 : Fin 1) k) : EReal))
      = fun k => m ((c.tc : Thread nD τ).loc main_arg3) (ix1 k) := funext fun k => by
    refine (congrArg (V m c main_v1) (funext fun a => Fin.ext ?_)).trans (V1 m c k)
    match a with
    | ⟨0, _⟩ =>
      show win0_3.index t (0 : Fin 2) * 1 + 1 * 0 = 0
      rw [e6]
    | ⟨1, _⟩ =>
      show win0_3.index t (1 : Fin 2) * 4096 + 1 * k.val = k.val
      rw [e7]; omega
  have hk : (z 1 : Fin 4096) = (((cfg0.win 5).blk t).view.emb y) 1 := Fin.ext (by
    show (z 1).val = win0_5.index t (1 : Fin 2) * 4096 + 1 * (y 1).val
    rw [e8, z1]; omega)
  exact (congrArg₂ (fun a b => row a b _ _ (z 1)) hh hf).trans ((congrArg₂ (fun a b => row _ _ a b (z 1)) hg hg').trans (congrArg _ hk))

/-- Every place of the result is in some point's block. -/
theorem covered (i : S8192x4096.Idx) : ∃ t : Fin cfg0.N, (cfg0.win 5).flush t = true ∧ i ∈ ((cfg0.win 5).blk t).view.set := by
  have h0 : (i 0).val < 8192 := (i 0).isLt
  have h1 : (i 1).val < 4096 := (i 1).isLt
  obtain ⟨t, hf, ht⟩ := onto ⟨(i 0).val / 256, by omega⟩
  have q0 : win0_5.index t (0 : Fin 2) = (i 0).val / 256 := congrFun ht 0
  have q1 : win0_5.index t (1 : Fin 2) = 0 := congrFun ht 1
  refine ⟨t, hf, ?_⟩
  show i ∈ ((View.whole main_v2_1).slice (win0_5.rect t)).set
  rw [View.set_slice_whole, Rect.mem_set_unit]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 4096 ≤ (i 1).val ∧ (i 1).val < win0_5.index t (1 : Fin 2) * 4096 + 4096; omega

/-- The same for the first result: the blocks of a grid point: the rows of both operands are the result's, the weights are whole. -/
theorem places_mid : ∀ t : Fin cfg0.N, win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 ∧ win0_4.index t (1 : Fin 2) = 0 :=
  (by decide +kernel : ∀ t : Fin grid0.N, _)

/-- Every block of rows is one point's. -/
theorem onto_mid : ∀ p : Fin 32, ∃ t : Fin cfg0.N, (cfg0.win 4).flush t = true ∧ win0_4.index t = ![p.val, 0] :=
  (by decide +kernel : ∀ p : Fin 32, ∃ t : Fin grid0.N, win0_4.flush t = true ∧ win0_4.index t = ![p.val, 0])

set_option maxRecDepth 65536 in
/-- What a grid point writes back is its block of the whole result. -/
theorem flushed_mid_eq (c : Dev nD) (t : Fin cfg0.N) : (dats m 0 c).flushed 4 t
    = ((cfg0.win 4).blk t).view.read (Elt Ideal)
        (stream (m ((c.tc : Thread nD τ).loc main_arg0)) (m ((c.tc : Thread nD τ).loc main_arg1))
          (m ((c.tc : Thread nD τ).loc main_arg2))) := by
  rw [Value.flushed4, out_mid_eq]
  obtain ⟨e0, e1, e2, e3, e4, e5, e6, e7, e8⟩ := places_mid t
  funext y
  show k0_pay1 (iblk m c 0 t) (iblk m c 1 t) (iblk m c 2 t) ((cfg0.win 4).xinj (grid0.coords t) y)
    = stream _ _ _ (((cfg0.win 4).blk t).view.emb y)
  rw [pay_mid_apply]
  unfold stream
  generalize hz : (cfg0.win 4).xinj (grid0.coords t) y = z
  have z0 : (z 0).val = (y 0).val := by rw [← hz]
  have z1 : (z 1).val = (y 1).val := by rw [← hz]
  have hh : (fun k : Fin 4096 => (iblk m c 0 t (ix2 (z 0) k) : EReal))
      = fun k => m ((c.tc : Thread nD τ).loc main_arg0) (ix2 ((((cfg0.win 4).blk t).view.emb y) 0) k) := funext fun k => by
    show V m c main_arg0 (((cfg0.win 0).blk t).view.emb (ix2 (z 0) k)) = _
    rw [V_main_arg0]
    refine congrArg _ (funext fun a => Fin.ext ?_)
    match a with
    | ⟨0, _⟩ =>
      show win0_0.index t (0 : Fin 2) * 256 + 1 * (z 0).val = win0_4.index t (0 : Fin 2) * 256 + 1 * (y 0).val
      rw [e0, z0]
    | ⟨1, _⟩ =>
      show win0_0.index t (1 : Fin 2) * 4096 + 1 * k.val = k.val
      rw [e1]; omega
  have hf : (fun k : Fin 4096 => (iblk m c 1 t (ix2 (z 0) k) : EReal))
      = fun k => m ((c.tc : Thread nD τ).loc main_arg1) (ix2 ((((cfg0.win 4).blk t).view.emb y) 0) k) := funext fun k => by
    show V m c main_arg1 (((cfg0.win 1).blk t).view.emb (ix2 (z 0) k)) = _
    rw [V_main_arg1]
    refine congrArg _ (funext fun a => Fin.ext ?_)
    match a with
    | ⟨0, _⟩ =>
      show win0_1.index t (0 : Fin 2) * 256 + 1 * (z 0).val = win0_4.index t (0 : Fin 2) * 256 + 1 * (y 0).val
      rw [e2, z0]
    | ⟨1, _⟩ =>
      show win0_1.index t (1 : Fin 2) * 4096 + 1 * k.val = k.val
      rw [e3]; omega
  have hg : (fun k : Fin 4096 => (iblk m c 2 t (ix2 (0 : Fin 1) k) : EReal))
      = fun k => m ((c.tc : Thread nD τ).loc main_arg2) (ix1 k) := funext fun k => by
    refine (congrArg (V m c main_v0) (funext fun a => Fin.ext ?_)).trans (V0 m c k)
    match a with
    | ⟨0, _⟩ =>
      show win0_2.index t (0 : Fin 2) * 1 + 1 * 0 = 0
      rw [e4]
    | ⟨1, _⟩ =>
      show win0_2.index t (1 : Fin 2) * 4096 + 1 * k.val = k.val
      rw [e5]; omega
  have hk : (z 1 : Fin 4096) = (((cfg0.win 4).blk t).view.emb y) 1 := Fin.ext (by
    show (z 1).val = win0_4.index t (1 : Fin 2) * 4096 + 1 * (y 1).val
    rw [e8, z1]; omega)
  exact (congrArg₂ (fun a b => mid a b _ (z 1)) hh hf).trans ((congrArg (fun a => mid _ _ a (z 1)) hg).trans (congrArg _ hk))

/-- Every place of the result is in some point's block. -/
theorem covered_mid (i : S8192x4096.Idx) : ∃ t : Fin cfg0.N, (cfg0.win 4).flush t = true ∧ i ∈ ((cfg0.win 4).blk t).view.set := by
  have h0 : (i 0).val < 8192 := (i 0).isLt
  have h1 : (i 1).val < 4096 := (i 1).isLt
  obtain ⟨t, hf, ht⟩ := onto_mid ⟨(i 0).val / 256, by omega⟩
  have q0 : win0_4.index t (0 : Fin 2) = (i 0).val / 256 := congrFun ht 0
  have q1 : win0_4.index t (1 : Fin 2) = 0 := congrFun ht 1
  refine ⟨t, hf, ?_⟩
  show i ∈ ((View.whole main_v2_0).slice (win0_4.rect t)).set
  rw [View.set_slice_whole, Rect.mem_set_unit]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 4096 ≤ (i 1).val ∧ (i 1).val < win0_4.index t (1 : Fin 2) * 4096 + 4096; omega

/-- After the run the second result array is the whole second result. -/
theorem final (c : Dev nD) : (dats m 0 c).arrAt 5 cfg0.N = whole (m ((c.tc : Thread nD τ).loc main_arg0)) (m ((c.tc : Thread nD τ).loc main_arg1)) (m ((c.tc : Thread nD τ).loc main_arg2)) (m ((c.tc : Thread nD τ).loc main_arg3)) :=
  (dats m 0 c).arrAt_eq_of_cover 5 _ (fun t _ => flushed_eq m c t) covered

/-- After the run the first result array is the whole first result. -/
theorem final_mid (c : Dev nD) : (dats m 0 c).arrAt 4 cfg0.N = stream (m ((c.tc : Thread nD τ).loc main_arg0)) (m ((c.tc : Thread nD τ).loc main_arg1)) (m ((c.tc : Thread nD τ).loc main_arg2)) :=
  (dats m 0 c).arrAt_eq_of_cover 4 _ (fun t _ => flushed_mid_eq m c t) covered_mid

/-- The kernel and the reference compute the same two results. -/
theorem value : Cert.algebraic_FullIdeal_FullReferenceIdeal := by
  intro m g m' g' _ hag
  refine ⟨fun c => stream (m ((c.tc : Thread nD τ).loc main_arg0)) (m ((c.tc : Thread nD τ).loc main_arg1)) (m ((c.tc : Thread nD τ).loc main_arg2)), fun c => whole (m ((c.tc : Thread nD τ).loc main_arg0)) (m ((c.tc : Thread nD τ).loc main_arg1)) (m ((c.tc : Thread nD τ).loc main_arg2)) (m ((c.tc : Thread nD τ).loc main_arg3)), ?_, ?_⟩
  · exact (θ_run _ _ _).mono (fun r h c => ⟨(h c).1.trans (final_mid m c), (h c).2.1.trans (final m c), (h c).2.2⟩) (Value.run_blocks m g)
  · refine (θ_run _ _ _).mono (fun r h c => ⟨(h c).1.trans ?_, (h c).2.1.trans ?_, (h c).2.2⟩) (Cert.FullReferenceIdeal.Value.run (F := Ideal) m' g')
    · rw [(hag c).1, (hag c).2.1, (hag c).2.2.1]
      funext j
      unfold stream mid scale
      pointwise
    · rw [(hag c).1, (hag c).2.1, (hag c).2.2.1, (hag c).2.2.2]
      funext j
      unfold whole row mid scale
      pointwise

/-- The reference runs to its end and leaves its arguments alone; it has no counters. -/
theorem reference_frame : Cert.quiescent_FullReferenceIdeal := fun m ρ _ =>
  (θ_run _ _ _).mono (fun r h => ⟨fun c => (h c).2.2, sem_eq_zero_of_no_sems (by decide) r.2⟩)
    (Cert.FullReferenceIdeal.Value.run (F := Ideal) m ρ)

end Cert.Proof.Full

end
-- ==== Proof.Post.lean ====
/- The finish of the RWKV mixer: every head of 64 columns of the sum of the two directions is centred and scaled to unit
   variance, weighted and shifted, then the bonus is added and the gate applied. The kernel takes the heads' sums as
   products with a weight that is one over 64 within a head and zero elsewhere, each product taken twice: over the rounded
   values and over what the rounding leaves. Over the reals rounding leaves nothing, so the second product is zero where
   the values are finite, and the first is the head's mean. -/
module

public import proofs.«01_k».proof.Defs
public import proofs.«01_k».proof.Proof.Gen.PostIdeal.Value
public import proofs.«01_k».proof.Proof.Gen.PostReferenceIdeal
public import proofs.«01_k».proof.Proof.Gen.PostReferenceIdeal.Run
public import Idealize.ShloMosaic.Lib.MatmulPlain
public import Idealize.ShloMosaic.Lib.Pointwise
public import Idealize.ShloMosaic.Lib.ValueIdx
public import Idealize.ShloMosaic.Lib.Quiescent

@[expose] public section

noncomputable section

namespace Cert.Proof.Post

open Idealize.ShloMosaic Idealize.ShloMosaic.TcCoe Idealize.SL.Sem
open Cert.PostIdeal Cert.PostIdeal.Gen

/-- The sums of a block of 128 columns against a weight, taken over the block and over what its rounding leaves. -/
def part (W : FVec Ideal S128x128 .bf16) (o : Fin 2 → ℕ) (h : S256x2048.Slices o S256x128) (X : FVec Ideal S256x2048 .f32) :
    FVec Ideal S256x128 .f32 :=
  addf (addf (broadcast S256x128 (Scalar.ofBits .f32 0x00000000#32))
      (matmul dot_S256x128_S128x128_S256x128_1_0_0_1_n_n none (truncf .bf16 (extractStridedSlice S256x128 o X h) bitsLt_bf16_f32) W
        (constant S256x128 .f32 0x00000000#32)))
    (matmul dot_S256x128_S128x128_S256x128_1_0_0_1_n_n none (truncf .bf16 (subf (extractStridedSlice S256x128 o X h)
      (extf .f32 (truncf .bf16 (extractStridedSlice S256x128 o X h) bitsLt_bf16_f32) bitsLt_bf16_f32)) bitsLt_bf16_f32) W
      (constant S256x128 .f32 0x00000000#32))

/-- One such sum at a place. -/
def lane (W : FVec Ideal S128x128 .bf16) (X : FVec Ideal S256x2048 .f32) (p : Fin 256) (o : ℕ) (ho : o + 128 ≤ 2048) (j : Fin 128) : EReal :=
  ∑ k : Fin 128, X (ix2 p (⟨o + k.val, by omega⟩ : Fin 2048)) * W (ix2 k j)
    + ∑ k : Fin 128, (X (ix2 p (⟨o + k.val, by omega⟩ : Fin 2048)) - X (ix2 p (⟨o + k.val, by omega⟩ : Fin 2048))) * W (ix2 k j)

theorem part_apply (W : FVec Ideal S128x128 .bf16) (o : ℕ) (h : S256x2048.Slices ![0, o] S256x128) (X : FVec Ideal S256x2048 .f32)
    (ho : o + 128 ≤ 2048) (p : Fin 256) (j : Fin 128) :
    part W ![0, o] h X (ix2 p j) = lane W X p o ho j := by
  unfold part lane
  pointwise

/-- The sums of all heads, as one array. -/
def heads (W : FVec Ideal S128x128 .bf16) (X : FVec Ideal S256x2048 .f32) : FVec Ideal S256x2048 .f32 :=
  concatenate S256x2048 1 [⟨S256x128, part W ![0, 0] slices_S256x2048_o0_0_S256x128 X⟩,
    ⟨S256x128, part W ![0, 128] slices_S256x2048_o0_128_S256x128 X⟩,
    ⟨S256x128, part W ![0, 256] slices_S256x2048_o0_256_S256x128 X⟩,
    ⟨S256x128, part W ![0, 384] slices_S256x2048_o0_384_S256x128 X⟩,
    ⟨S256x128, part W ![0, 512] slices_S256x2048_o0_512_S256x128 X⟩,
    ⟨S256x128, part W ![0, 640] slices_S256x2048_o0_640_S256x128 X⟩,
    ⟨S256x128, part W ![0, 768] slices_S256x2048_o0_768_S256x128 X⟩,
    ⟨S256x128, part W ![0, 896] slices_S256x2048_o0_896_S256x128 X⟩,
    ⟨S256x128, part W ![0, 1024] slices_S256x2048_o0_1024_S256x128 X⟩,
    ⟨S256x128, part W ![0, 1152] slices_S256x2048_o0_1152_S256x128 X⟩,
    ⟨S256x128, part W ![0, 1280] slices_S256x2048_o0_1280_S256x128 X⟩,
    ⟨S256x128, part W ![0, 1408] slices_S256x2048_o0_1408_S256x128 X⟩,
    ⟨S256x128, part W ![0, 1536] slices_S256x2048_o0_1536_S256x128 X⟩,
    ⟨S256x128, part W ![0, 1664] slices_S256x2048_o0_1664_S256x128 X⟩,
    ⟨S256x128, part W ![0, 1792] slices_S256x2048_o0_1792_S256x128 X⟩,
    ⟨S256x128, part W ![0, 1920] slices_S256x2048_o0_1920_S256x128 X⟩]
    concatenates_S256x128_S256x128_S256x128_S256x128_S256x128_S256x128_S256x128_S256x128_S256x128_S256x128_S256x128_S256x128_S256x128_S256x128_S256x128_S256x128_S256x2048_d1

/-- The weight: one over 64 where row and column belong to one head. -/
abbrev weight : FVec Ideal S128x128 .bf16 := k0_pay6 (F := Ideal) k0_pay2 k0_pay3 k0_pay4 k0_pay5

/-- The head of a column, as the body finds it: the quotient by 64, less one where signs differ and something remains. -/
theorem head_eq : ∀ k : Fin 128, Scalar.select
          (IntOp.andi
            (IntOp.cmpi CmpIPredicate.ne
              (IntOp.subi (BitVec.setWidth 32 (IntOp.cmpi CmpIPredicate.sgt (BitVec.ofNat 32 k.val) 0#32))
                (BitVec.setWidth 32 (IntOp.cmpi CmpIPredicate.slt (BitVec.ofNat 32 k.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 k.val) 64#32) 0#32))
          (IntOp.subi (IntOp.divsi ArithUnit.vector (BitVec.ofNat 32 k.val) 64#32) 1#32)
          (IntOp.divsi ArithUnit.vector (BitVec.ofNat 32 k.val) 64#32) = BitVec.ofNat 32 (k.val / 64) := by
  decide +kernel

theorem weight_apply (k j : Fin 128) :
    weight (ix2 k j) = if k.val / 64 = j.val / 64 then Scalar.ofBits (F := Ideal) .f32 0x3C800000#32 else 0 := by
  unfold weight k0_pay6 k0_pay2 k0_pay3 k0_pay4 k0_pay5
  pointwise
  rw [show _ = _ from head_eq k, show _ = _ from head_eq j]
  have hk : k.val / 64 = 0 ∨ k.val / 64 = 1 := by omega
  have hj : j.val / 64 = 0 ∨ j.val / 64 = 1 := by omega
  rcases hk with hk | hk <;> rcases hj with hj | hj <;> rw [hk, hj] <;> rfl

/-- The weight's number is one over 64. -/
theorem bits_inv : (Scalar.ofBits (F := Ideal) .f32 0x3C800000#32 : EReal) = ((1 / 64 : ℝ) : EReal) := by
  show Ideal.ofBits .f32 0x3C800000#32 = _
  simp [Ideal.ofBits, Ideal.ieee, -EReal.coe_mul]; norm_num

/-- A sum of reals is a real. -/
theorem coe_sum {n : ℕ} (f : Fin n → ℝ) : ∑ k, (f k : EReal) = ((∑ k, f k : ℝ) : EReal) :=
  (map_sum (⟨⟨Real.toEReal, EReal.coe_zero⟩, EReal.coe_add⟩ : ℝ →+ EReal) f _).symm

/-- The mean of a row over the head of a column. -/
def mean (r : Fin 2048 → ℝ) (i : Fin 2048) : ℝ := (∑ l : Fin 64, r ⟨64 * (i.val / 64) + l.val, by omega⟩) * (1 / 64)

/-- A block's sums on a row of reals are the means over the heads. -/
theorem lane_real (X : FVec Ideal S256x2048 .f32) (p : Fin 256) (r : Fin 2048 → ℝ) (hr : ∀ k, X (ix2 p k) = (r k : EReal))
    (o : ℕ) (ho : o + 128 ≤ 2048) (hm : o % 128 = 0) (j : Fin 128) (i : Fin 2048) (hi : i.val = o + j.val) :
    lane weight X p o ho j = (mean r i : EReal) := by
  have h1 : ∀ k : Fin 128, X (ix2 p (⟨o + k.val, by omega⟩ : Fin 2048)) * weight (ix2 k j)
      = ((r ⟨o + k.val, by omega⟩ * (if k.val / 64 = j.val / 64 then 1 / 64 else 0) : ℝ) : EReal) := fun k => by
    rw [hr, weight_apply, bits_inv]
    split
    · exact (EReal.coe_mul _ _).symm
    · rw [mul_zero, mul_zero]; rfl
  have h2 : ∀ k : Fin 128, (X (ix2 p (⟨o + k.val, by omega⟩ : Fin 2048)) - X (ix2 p (⟨o + k.val, by omega⟩ : Fin 2048))) * weight (ix2 k j)
      = 0 := fun k => by
    rw [hr, ← EReal.coe_sub, sub_self, EReal.coe_zero, zero_mul]
  unfold lane
  rw [Finset.sum_congr rfl fun k _ => h1 k, Finset.sum_congr rfl fun k _ => h2 k, Finset.sum_const_zero, add_zero, coe_sum]
  refine congrArg _ ?_
  have h3 := Fin.sum_univ_add (a := 64) (b := 64) (fun k : Fin (64 + 64) => (r ⟨o + k.val, by omega⟩ * (if k.val / 64 = j.val / 64 then 1 / 64 else 0) : ℝ))
  refine Eq.trans h3 ?_
  unfold mean
  rw [Finset.sum_mul]
  have hj : j.val / 64 = 0 ∨ j.val / 64 = 1 := by omega
  rcases hj with hj | hj
  · have z : ∀ l : Fin 64, (r ⟨o + (Fin.natAdd 64 l).val, by have := (Fin.natAdd 64 l).isLt; omega⟩ * (if (Fin.natAdd 64 l).val / 64 = j.val / 64 then 1 / 64 else 0) : ℝ) = 0 := fun l => by
      rw [if_neg (by rw [hj, Fin.val_natAdd]; omega), mul_zero]
    rw [Finset.sum_congr rfl fun l _ => z l, Finset.sum_const_zero, add_zero]
    refine Finset.sum_congr rfl fun l _ => ?_
    rw [if_pos (by rw [hj, Fin.val_castAdd]; omega)]
    refine congrArg (fun q => r q * _) (Fin.ext ?_)
    show o + l.val = 64 * (i.val / 64) + l.val
    omega
  · have z : ∀ l : Fin 64, (r ⟨o + (Fin.castAdd 64 l).val, by have := (Fin.castAdd 64 l).isLt; omega⟩ * (if (Fin.castAdd 64 l).val / 64 = j.val / 64 then 1 / 64 else 0) : ℝ) = 0 := fun l => by
      rw [if_neg (by rw [hj, Fin.val_castAdd]; omega), mul_zero]
    rw [Finset.sum_congr rfl fun l _ => z l, Finset.sum_const_zero, zero_add]
    refine Finset.sum_congr rfl fun l _ => ?_
    rw [if_pos (by rw [hj, Fin.val_natAdd]; omega)]
    refine congrArg (fun q => r q * _) (Fin.ext ?_)
    show o + (64 + l.val) = 64 * (i.val / 64) + l.val
    omega

/-- The same of the block's array. -/
theorem part_real (o : ℕ) (h : S256x2048.Slices ![0, o] S256x128) (X : FVec Ideal S256x2048 .f32) (p : Fin 256) (r : Fin 2048 → ℝ)
    (hr : ∀ k, X (ix2 p k) = (r k : EReal)) (ho : o + 128 ≤ 2048) (hm : o % 128 = 0) (j : Fin 128) (i : Fin 2048)
    (hi : i.val = o + j.val) : part weight ![0, o] h X (ix2 p j) = (mean r i : EReal) :=
  (part_apply weight o h X ho p j).trans (lane_real X p r hr o ho hm j i hi)

/-- The blocks lie in the row. -/
theorem slices_at : ∀ n : Fin 16, S256x2048.Slices ![0, 128 * n.val] S256x128 := fun n => by
  match n with
  | ⟨0, _⟩ => exact slices_S256x2048_o0_0_S256x128
  | ⟨1, _⟩ => exact slices_S256x2048_o0_128_S256x128
  | ⟨2, _⟩ => exact slices_S256x2048_o0_256_S256x128
  | ⟨3, _⟩ => exact slices_S256x2048_o0_384_S256x128
  | ⟨4, _⟩ => exact slices_S256x2048_o0_512_S256x128
  | ⟨5, _⟩ => exact slices_S256x2048_o0_640_S256x128
  | ⟨6, _⟩ => exact slices_S256x2048_o0_768_S256x128
  | ⟨7, _⟩ => exact slices_S256x2048_o0_896_S256x128
  | ⟨8, _⟩ => exact slices_S256x2048_o0_1024_S256x128
  | ⟨9, _⟩ => exact slices_S256x2048_o0_1152_S256x128
  | ⟨10, _⟩ => exact slices_S256x2048_o0_1280_S256x128
  | ⟨11, _⟩ => exact slices_S256x2048_o0_1408_S256x128
  | ⟨12, _⟩ => exact slices_S256x2048_o0_1536_S256x128
  | ⟨13, _⟩ => exact slices_S256x2048_o0_1664_S256x128
  | ⟨14, _⟩ => exact slices_S256x2048_o0_1792_S256x128
  | ⟨15, _⟩ => exact slices_S256x2048_o0_1920_S256x128
  | ⟨n + 16, h⟩ => exact absurd h (by omega)

/-- On a row of reals the sums of all heads are the means over the heads. -/
theorem heads_real (X : FVec Ideal S256x2048 .f32) (p : Fin 256) (r : Fin 2048 → ℝ) (hr : ∀ k, X (ix2 p k) = (r k : EReal))
    (i : Fin 2048) : heads weight X (ix2 p i) = (mean r i : EReal) := by
  refine Eq.trans ?_ (part_real (128 * (i.val / 128)) (slices_at ⟨i.val / 128, by omega⟩) X p r hr (by omega) (by omega)
    (⟨i.val % 128, by omega⟩ : Fin 128) i (by show i.val = 128 * (i.val / 128) + i.val % 128; omega))
  exact concatenate_ofFn_apply (t := S256x2048) 1 (fun n : Fin 16 => part weight ![0, 128 * n.val] (slices_at n) X)
    concatenates_S256x128_S256x128_S256x128_S256x128_S256x128_S256x128_S256x128_S256x128_S256x128_S256x128_S256x128_S256x128_S256x128_S256x128_S256x128_S256x128_S256x2048_d1 rfl 128 rfl (ix2 p i) (⟨i.val / 128, by omega⟩ : Fin 16) rfl (ix2 p (⟨i.val % 128, by omega⟩ : Fin 128)) rfl
    fun b hb => by
      match b with
      | ⟨0, _⟩ => rfl
      | ⟨1, _⟩ => exact absurd rfl hb

/-- What the body computes of its blocks. -/
def body (x y z w : Vec Ideal S256x2048 .bf16) (u v : Vec Ideal S1x2048 .f32) : FVec Ideal S256x2048 .bf16 :=
  k0_pay1 (k0_pay58 (subf (k0_pay7 x y) (heads weight (k0_pay7 x y)))
    (heads weight (mulf (subf (k0_pay7 x y) (heads weight (k0_pay7 x y))) (subf (k0_pay7 x y) (heads weight (k0_pay7 x y))))) u v z w)

theorem out_eq (x y z w : Vec Ideal S256x2048 .bf16) (u v : Vec Ideal S1x2048 .f32) : out0_6 x y z w u v = body x y z w u v := by
  have h0 : (![0, 0] : Fin S256x2048.rank → Nat) = fun _ => 0 := funext fun a => by fin_cases a <;> rfl
  have h1 : (![0, 0] : Fin S1x2048.rank → Nat) = fun _ => 0 := funext fun a => by fin_cases a <;> rfl
  have l0 : ∀ q : Vec Ideal S256x2048 .bf16, View.ld q r0_0 = q := fun q => View.ld_unit_zero h0 _ _
  have l1 : ∀ q : Vec Ideal S1x2048 .f32, View.ld q r0_1 = q := fun q => View.ld_unit_zero h1 _ _
  unfold out0_6
  rw [View.canon_unit_zero h0]
  rw [l0, l0, l1, l1]
  simp only [k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
  rw [l0, l0]
  rfl

/-- A result of a row: the distance from its head's mean over the root of the head's variance plus the small constant,
    weighted and shifted, with the bonus added and the gate applied. -/
def row (r : Fin 2048 → ℝ) (g b s t : EReal) (i : Fin 2048) : EReal :=
  (((r i - mean r i : ℝ) : EReal) * Ideal.rsqrt (((mean (fun k => (r k - mean r k) * (r k - mean r k)) i : ℝ) : EReal)
    + (Scalar.ofBits (F := Ideal) .f32 0x3A27C5AC#32 : EReal)) * g + b + s) * t

/-- Equal parts give equal results of a row. -/
theorem row_congr (r : Fin 2048 → ℝ) {g g' b b' s s' t t' : EReal} {i i' : Fin 2048} (hg : g = g') (hb : b = b') (hs : s = s')
    (ht : t = t') (hi : i = i') : row r g b s t i = row r g' b' s' t' i' := by
  rw [hg, hb, hs, ht, hi]

/-- The last operations of the body at a place. -/
theorem last_apply (D W : FVec Ideal S256x2048 .f32) (z w : Vec Ideal S256x2048 .bf16) (u v : Vec Ideal S1x2048 .f32) (p : Fin 256) (i : Fin 2048) :
    (k0_pay1 (k0_pay58 D W u v z w) (ix2 p i) : EReal) = (D (ix2 p i) * Ideal.rsqrt (W (ix2 p i) + (Scalar.ofBits (F := Ideal) .f32 0x3A27C5AC#32 : EReal))
      * u (ix2 (0 : Fin 1) i) + v (ix2 (0 : Fin 1) i) + z (ix2 p i)) * w (ix2 p i) := by
  unfold k0_pay1 k0_pay58
  pointwise

/-- The sum of the two directions at a place. -/
theorem sum_apply (x y : Vec Ideal S256x2048 .bf16) (p : Fin 256) (i : Fin 2048) :
    (k0_pay7 x y (ix2 p i) : EReal) = x (ix2 p i) + y (ix2 p i) := by
  unfold k0_pay7
  pointwise

/-- What the body computes at a place, where the sum of the directions is real. -/
theorem body_apply (x y z w : Vec Ideal S256x2048 .bf16) (u v : Vec Ideal S1x2048 .f32) (p : Fin 256) (r : Fin 2048 → ℝ)
    (hr : ∀ k, (x (ix2 p k) + y (ix2 p k) : EReal) = (r k : EReal)) (i : Fin 2048) :
    (body x y z w u v (ix2 p i) : EReal) = row r (u (ix2 (0 : Fin 1) i)) (v (ix2 (0 : Fin 1) i)) (z (ix2 p i)) (w (ix2 p i)) i := by
  have h0 : ∀ k, k0_pay7 x y (ix2 p k) = (r k : EReal) := fun k => (sum_apply x y p k).trans (hr k)
  have h1 : ∀ k, subf (k0_pay7 x y) (heads weight (k0_pay7 x y)) (ix2 p k) = ((r k - mean r k : ℝ) : EReal) := fun k => by
    show (k0_pay7 x y (ix2 p k) : EReal) - heads weight (k0_pay7 x y) (ix2 p k) = _
    rw [heads_real _ p r h0, h0]
    exact (EReal.coe_sub _ _).symm
  have h2 : ∀ k, mulf (subf (k0_pay7 x y) (heads weight (k0_pay7 x y))) (subf (k0_pay7 x y) (heads weight (k0_pay7 x y))) (ix2 p k)
      = (((r k - mean r k) * (r k - mean r k) : ℝ) : EReal) := fun k => by
    show (subf (k0_pay7 x y) (heads weight (k0_pay7 x y)) (ix2 p k) : EReal) * subf (k0_pay7 x y) (heads weight (k0_pay7 x y)) (ix2 p k) = _
    rw [h1]
    exact (EReal.coe_mul _ _).symm
  unfold body row
  rw [last_apply, heads_real _ p _ h2, h1]

variable (m : (ℓ : Loc nD τ sig) → Buf (Elt Ideal) ℓ) (ρ : Dev nD → PrngReg)

/-- The sums of two arrays are real everywhere. -/
def RealSum (a b : FVec Ideal S8192x2048 .f32) : Prop := ∀ i, (a i + b i : EReal) = ((a i + b i : EReal).toReal : EReal)

/-- The sum of a row of two arrays. -/
def rowSum (a b : FVec Ideal S8192x2048 .f32) (p : Fin 8192) (k : Fin 2048) : ℝ := (a (ix2 p k) + b (ix2 p k) : EReal).toReal

/-- The whole result. -/
def whole (a b s t : FVec Ideal S8192x2048 .f32) (g g' : FVec Ideal S2048 .f32) : FVec Ideal S8192x2048 .bf16 :=
  fun i => row (rowSum a b (i 0)) (g (ix1 (i 1))) (g' (ix1 (i 1))) (s (ix2 (i 0) (i 1))) (t (ix2 (i 0) (i 1))) (i 1)

/-- The region finds the rounded argument; over the reals rounding does nothing. -/
theorem V0 (c : Dev nD) (i : S8192x2048.Idx) :
    (V m c main_v0 i : EReal) = m ((c.tc : Thread nD τ).loc main_arg0) i := by
  have e : V m c main_v0 = (truncf (F := Ideal) (s := S8192x2048) (φ := .f32) .bf16 (m ((c.tc : Thread nD τ).loc main_arg0)) bitsLt_bf16_f32 : FVec Ideal S8192x2048 .bf16) := by
    show StableHlo.after hostOps0 _ (Proc.devRef .tc main_v0) = _
    after_results
  rw [e]; rfl

/-- The region finds the rounded argument; over the reals rounding does nothing. -/
theorem V1 (c : Dev nD) (i : S8192x2048.Idx) :
    (V m c main_v1 i : EReal) = m ((c.tc : Thread nD τ).loc main_arg1) i := by
  have e : V m c main_v1 = (truncf (F := Ideal) (s := S8192x2048) (φ := .f32) .bf16 (m ((c.tc : Thread nD τ).loc main_arg1)) bitsLt_bf16_f32 : FVec Ideal S8192x2048 .bf16) := by
    show StableHlo.after hostOps0 _ (Proc.devRef .tc main_v1) = _
    after_results
  rw [e]; rfl

/-- The region finds the rounded argument; over the reals rounding does nothing. -/
theorem V2 (c : Dev nD) (i : S8192x2048.Idx) :
    (V m c main_v2 i : EReal) = m ((c.tc : Thread nD τ).loc main_arg2) i := by
  have e : V m c main_v2 = (truncf (F := Ideal) (s := S8192x2048) (φ := .f32) .bf16 (m ((c.tc : Thread nD τ).loc main_arg2)) bitsLt_bf16_f32 : FVec Ideal S8192x2048 .bf16) := by
    show StableHlo.after hostOps0 _ (Proc.devRef .tc main_v2) = _
    after_results
  rw [e]; rfl

/-- The region finds the rounded argument; over the reals rounding does nothing. -/
theorem V3 (c : Dev nD) (i : S8192x2048.Idx) :
    (V m c main_v3 i : EReal) = m ((c.tc : Thread nD τ).loc main_arg3) i := by
  have e : V m c main_v3 = (truncf (F := Ideal) (s := S8192x2048) (φ := .f32) .bf16 (m ((c.tc : Thread nD τ).loc main_arg3)) bitsLt_bf16_f32 : FVec Ideal S8192x2048 .bf16) := by
    show StableHlo.after hostOps0 _ (Proc.devRef .tc main_v3) = _
    after_results
  rw [e]; rfl

/-- The region finds the vector as one row. -/
theorem V4 (c : Dev nD) (k : Fin 2048) :
    (V m c main_v4 (ix2 (0 : Fin 1) k) : EReal) = m ((c.tc : Thread nD τ).loc main_arg4) (ix1 k) := by
  have e : V m c main_v4 = (shapeCast S1x2048 (m ((c.tc : Thread nD τ).loc main_arg4)) shapeCasts_S2048_S1x2048) := by
    show StableHlo.after hostOps0 _ (Proc.devRef .tc main_v4) = _
    after_results
    rfl
  rw [e]
  refine (shapeCast_addUnit_apply ![2048] _ _ _).trans (congrArg _ (funext fun a => ?_))
  fin_cases a
  rfl

/-- The region finds the vector as one row. -/
theorem V5 (c : Dev nD) (k : Fin 2048) :
    (V m c main_v5 (ix2 (0 : Fin 1) k) : EReal) = m ((c.tc : Thread nD τ).loc main_arg5) (ix1 k) := by
  have e : V m c main_v5 = (shapeCast S1x2048 (m ((c.tc : Thread nD τ).loc main_arg5)) shapeCasts_S2048_S1x2048) := by
    show StableHlo.after hostOps0 _ (Proc.devRef .tc main_v5) = _
    after_results
    rfl
  rw [e]
  refine (shapeCast_addUnit_apply ![2048] _ _ _).trans (congrArg _ (funext fun a => ?_))
  fin_cases a
  rfl

/-- The blocks of a grid point: the rows are the result's, the vectors are whole. -/
theorem places : ∀ t : Fin cfg0.N, (win0_0.index t (0 : Fin 2) = win0_6.index t (0 : Fin 2) ∧ win0_0.index t (1 : Fin 2) = 0)
    ∧ (win0_1.index t (0 : Fin 2) = win0_6.index t (0 : Fin 2) ∧ win0_1.index t (1 : Fin 2) = 0)
    ∧ (win0_2.index t (0 : Fin 2) = win0_6.index t (0 : Fin 2) ∧ win0_2.index t (1 : Fin 2) = 0)
    ∧ (win0_3.index t (0 : Fin 2) = win0_6.index t (0 : Fin 2) ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ win0_6.index t (1 : Fin 2) = 0 :=
  (by decide +kernel : ∀ t : Fin grid0.N, _)

/-- Every block of rows is one point's. -/
theorem onto : ∀ p : Fin 32, ∃ t : Fin cfg0.N, (cfg0.win 6).flush t = true ∧ win0_6.index t = ![p.val, 0] :=
  (by decide +kernel : ∀ p : Fin 32, ∃ t : Fin grid0.N, win0_6.flush t = true ∧ win0_6.index t = ![p.val, 0])

set_option maxRecDepth 65536 in
/-- What a grid point writes back is its block of the whole result, where the sums of the directions are real. -/
theorem flushed_eq (c : Dev nD) (hfin : RealSum (m ((c.tc : Thread nD τ).loc main_arg0)) (m ((c.tc : Thread nD τ).loc main_arg1))) (t : Fin cfg0.N) :
    (dats m 0 c).flushed 6 t = ((cfg0.win 6).blk t).view.read (Elt Ideal)
        (whole (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))) := by
  rw [Value.flushed6, out_eq]
  obtain ⟨e0, e1, e2, e3, e4, e5, e6⟩ := places t
  funext y
  show body (iblk m c 0 t) (iblk m c 1 t) (iblk m c 2 t) (iblk m c 3 t) (iblk m c 4 t) (iblk m c 5 t) ((cfg0.win 6).xinj (grid0.coords t) y)
    = whole _ _ _ _ _ _ (((cfg0.win 6).blk t).view.emb y)
  generalize hz : (cfg0.win 6).xinj (grid0.coords t) y = z
  have z0 : (z 0).val = (y 0).val := by rw [← hz]
  have z1 : (z 1).val = (y 1).val := by rw [← hz]
  have hk : (z 1 : Fin 2048) = (((cfg0.win 6).blk t).view.emb y) 1 := Fin.ext (by
    show (z 1).val = win0_6.index t (1 : Fin 2) * 2048 + 1 * (y 1).val
    rw [e6, z1]; omega)
  have h0 : ∀ k : Fin 2048, (iblk m c 0 t (ix2 (z 0) k) : EReal) = m ((c.tc : Thread nD τ).loc main_arg0) (ix2 ((((cfg0.win 6).blk t).view.emb y) 0) k) := fun k => by
    refine (V0 m c (((cfg0.win 0).blk t).view.emb (ix2 (z 0) k))).trans (congrArg _ (funext fun a => Fin.ext ?_))
    match a with
    | ⟨0, _⟩ =>
      show win0_0.index t (0 : Fin 2) * 256 + 1 * (z 0).val = win0_6.index t (0 : Fin 2) * 256 + 1 * (y 0).val
      rw [e0.1, z0]
    | ⟨1, _⟩ =>
      show win0_0.index t (1 : Fin 2) * 2048 + 1 * (k : Fin 2048).val = (k : Fin 2048).val
      rw [e0.2]; omega
  have h1 : ∀ k : Fin 2048, (iblk m c 1 t (ix2 (z 0) k) : EReal) = m ((c.tc : Thread nD τ).loc main_arg1) (ix2 ((((cfg0.win 6).blk t).view.emb y) 0) k) := fun k => by
    refine (V1 m c (((cfg0.win 1).blk t).view.emb (ix2 (z 0) k))).trans (congrArg _ (funext fun a => Fin.ext ?_))
    match a with
    | ⟨0, _⟩ =>
      show win0_1.index t (0 : Fin 2) * 256 + 1 * (z 0).val = win0_6.index t (0 : Fin 2) * 256 + 1 * (y 0).val
      rw [e1.1, z0]
    | ⟨1, _⟩ =>
      show win0_1.index t (1 : Fin 2) * 2048 + 1 * (k : Fin 2048).val = (k : Fin 2048).val
      rw [e1.2]; omega
  have h2 : ∀ k : Fin 2048, (iblk m c 2 t (ix2 (z 0) k) : EReal) = m ((c.tc : Thread nD τ).loc main_arg2) (ix2 ((((cfg0.win 6).blk t).view.emb y) 0) k) := fun k => by
    refine (V2 m c (((cfg0.win 2).blk t).view.emb (ix2 (z 0) k))).trans (congrArg _ (funext fun a => Fin.ext ?_))
    match a with
    | ⟨0, _⟩ =>
      show win0_2.index t (0 : Fin 2) * 256 + 1 * (z 0).val = win0_6.index t (0 : Fin 2) * 256 + 1 * (y 0).val
      rw [e2.1, z0]
    | ⟨1, _⟩ =>
      show win0_2.index t (1 : Fin 2) * 2048 + 1 * (k : Fin 2048).val = (k : Fin 2048).val
      rw [e2.2]; omega
  have h3 : ∀ k : Fin 2048, (iblk m c 3 t (ix2 (z 0) k) : EReal) = m ((c.tc : Thread nD τ).loc main_arg3) (ix2 ((((cfg0.win 6).blk t).view.emb y) 0) k) := fun k => by
    refine (V3 m c (((cfg0.win 3).blk t).view.emb (ix2 (z 0) k))).trans (congrArg _ (funext fun a => Fin.ext ?_))
    match a with
    | ⟨0, _⟩ =>
      show win0_3.index t (0 : Fin 2) * 256 + 1 * (z 0).val = win0_6.index t (0 : Fin 2) * 256 + 1 * (y 0).val
      rw [e3.1, z0]
    | ⟨1, _⟩ =>
      show win0_3.index t (1 : Fin 2) * 2048 + 1 * (k : Fin 2048).val = (k : Fin 2048).val
      rw [e3.2]; omega
  have h4 : (iblk m c 4 t (ix2 (0 : Fin 1) (z 1)) : EReal) = m ((c.tc : Thread nD τ).loc main_arg4) (ix1 (z 1)) := by
    refine (congrArg (V m c main_v4) (funext fun a => Fin.ext ?_)).trans (V4 m c (z 1))
    match a with
    | ⟨0, _⟩ =>
      show win0_4.index t (0 : Fin 2) * 1 + 1 * 0 = 0
      rw [e4.1]
    | ⟨1, _⟩ =>
      show win0_4.index t (1 : Fin 2) * 2048 + 1 * (z 1).val = (z 1).val
      rw [e4.2]; omega
  have h5 : (iblk m c 5 t (ix2 (0 : Fin 1) (z 1)) : EReal) = m ((c.tc : Thread nD τ).loc main_arg5) (ix1 (z 1)) := by
    refine (congrArg (V m c main_v5) (funext fun a => Fin.ext ?_)).trans (V5 m c (z 1))
    match a with
    | ⟨0, _⟩ =>
      show win0_5.index t (0 : Fin 2) * 1 + 1 * 0 = 0
      rw [e5.1]
    | ⟨1, _⟩ =>
      show win0_5.index t (1 : Fin 2) * 2048 + 1 * (z 1).val = (z 1).val
      rw [e5.2]; omega
  have hz2 : z = ix2 (z 0) (z 1) := funext fun a => by
    match a with
    | ⟨0, _⟩ => rfl
    | ⟨1, _⟩ => rfl
  have hb := body_apply (iblk m c 0 t) (iblk m c 1 t) (iblk m c 2 t) (iblk m c 3 t) (iblk m c 4 t) (iblk m c 5 t) (z 0)
    (rowSum (m ((c.tc : Thread nD τ).loc main_arg0)) (m ((c.tc : Thread nD τ).loc main_arg1)) ((((cfg0.win 6).blk t).view.emb y) 0))
    (fun k => (congrArg₂ (fun a b : EReal => a + b) (h0 k) (h1 k)).trans (hfin _)) (z 1)
  refine ((congrArg _ hz2).trans hb).trans ?_
  exact row_congr _ (h4.trans (congrArg (fun k : Fin 2048 => (m ((c.tc : Thread nD τ).loc main_arg4) (ix1 k) : EReal)) hk))
    (h5.trans (congrArg (fun k : Fin 2048 => (m ((c.tc : Thread nD τ).loc main_arg5) (ix1 k) : EReal)) hk))
    ((h2 (z 1)).trans (congrArg (fun k : Fin 2048 => (m ((c.tc : Thread nD τ).loc main_arg2) (ix2 ((((cfg0.win 6).blk t).view.emb y) 0) k) : EReal)) hk))
    ((h3 (z 1)).trans (congrArg (fun k : Fin 2048 => (m ((c.tc : Thread nD τ).loc main_arg3) (ix2 ((((cfg0.win 6).blk t).view.emb y) 0) k) : EReal)) hk)) hk

/-- Every place of the result is in some point's block. -/
theorem covered (i : S8192x2048.Idx) : ∃ t : Fin cfg0.N, (cfg0.win 6).flush t = true ∧ i ∈ ((cfg0.win 6).blk t).view.set := by
  have h0 : (i 0).val < 8192 := (i 0).isLt
  have h1 : (i 1).val < 2048 := (i 1).isLt
  obtain ⟨t, hf, ht⟩ := onto ⟨(i 0).val / 256, by omega⟩
  have q0 : win0_6.index t (0 : Fin 2) = (i 0).val / 256 := congrFun ht 0
  have q1 : win0_6.index t (1 : Fin 2) = 0 := congrFun ht 1
  refine ⟨t, hf, ?_⟩
  show i ∈ ((View.whole main_v6).slice (win0_6.rect t)).set
  rw [View.set_slice_whole, Rect.mem_set_unit]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 2048 ≤ (i 1).val ∧ (i 1).val < win0_6.index t (1 : Fin 2) * 2048 + 2048; omega

/-- After the run the result array is the whole result. -/
theorem final (c : Dev nD) (hfin : RealSum (m ((c.tc : Thread nD τ).loc main_arg0)) (m ((c.tc : Thread nD τ).loc main_arg1))) : (dats m 0 c).arrAt 6 cfg0.N
    = (whole (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))) :=
  (dats m 0 c).arrAt_eq_of_cover 6 _ (fun t _ => flushed_eq m c hfin t) covered

/-- The side condition of the precondition's one operation with a shape. -/
instance pre_facts : Cert.Pre_finite.Facts where
  bcast_S_S8192x2048 := by decide

/-- A number whose distance from zero is below infinity is real. -/
theorem real_of_abs {x : EReal} (h : (FloatOps.absf (F := Ideal) (φ := .f32) x : EReal) < Ideal.ofBits .f32 0x7F800000#32) : ∃ r : ℝ, x = (r : EReal) := by
  have ht : (Ideal.ofBits .f32 0x7F800000#32 : EReal) = ⊤ := by simp [Ideal.ofBits, Ideal.ieee]
  rw [ht] at h
  change max x (-x) < ⊤ at h
  induction x with
  | bot => simp at h
  | top => simp at h
  | coe r => exact ⟨r, rfl⟩

/-- Where the precondition holds the sums of the directions are real. -/
theorem real_of_pre (a b s t : FVec Ideal S8192x2048 .f32) (g g' : FVec Ideal S2048 .f32)
    (h : Cert.Pre_finite.fn (F := Ideal) a b s t g g' = fun _ => 1#1) :
    RealSum a b := by
  intro i
  have hi := congrFun h i
  unfold Cert.Pre_finite.fn at hi
  pointwise at hi
  have hab : ∀ p q : Bool, IntOp.andi (BitVec.ofBool p) (BitVec.ofBool q) = 1#1 → p = true ∧ q = true := by decide
  obtain ⟨ha, hb⟩ := hab _ _ hi
  obtain ⟨x, hx⟩ := real_of_abs (of_decide_eq_true ha)
  obtain ⟨y, hy⟩ := real_of_abs (of_decide_eq_true hb)
  rw [hx, hy, ← EReal.coe_add, EReal.toReal_coe]

/-- The divisor is 64. -/
theorem bits_num : (Ideal.ofBits .f32 0x42800000#32 : EReal) = ((64 : ℝ) : EReal) := by
  simp [Ideal.ofBits, Ideal.ieee, -EReal.coe_mul]; norm_num

/-- The quotient of a sum of reals by 64. -/
theorem quot (f : Fin 64 → EReal) (r : Fin 64 → ℝ) (h : ∀ l, f l = (r l : EReal)) :
    Ideal.div (∑ l, f l) (Ideal.ofBits .f32 0x42800000#32) = (((∑ l, r l) * (1 / 64) : ℝ) : EReal) := by
  rw [Finset.sum_congr rfl fun l _ => h l, coe_sum, bits_num, Ideal.div_coe (by norm_num), ← EReal.coe_mul]

/-- Columns of one head have one mean. -/
theorem mean_head (r : Fin 2048 → ℝ) (i j : Fin 2048) (h : i.val / 64 = j.val / 64) : mean r i = mean r j := by
  unfold mean
  refine congrArg (· * (1 / 64 : ℝ)) (Finset.sum_congr rfl fun l _ => congrArg r (Fin.ext ?_))
  show 64 * (i.val / 64) + l.val = 64 * (j.val / 64) + l.val
  rw [h]

/-- The reference's mean at a place. -/
theorem mean_eq (a b : FVec Ideal S8192x2048 .f32) (h : RealSum a b) (p : Fin 8192) (i : Fin 2048) :
    Ideal.div (∑ x : Fin 64, (a (ix2 p (⟨i.val / 64 * 64 + x.val, by omega⟩ : Fin 2048)) + b (ix2 p (⟨i.val / 64 * 64 + x.val, by omega⟩ : Fin 2048)) : EReal))
      (Ideal.ofBits .f32 0x42800000#32) = (mean (rowSum a b p) i : EReal) := by
  refine (quot _ (fun x => rowSum a b p ⟨i.val / 64 * 64 + x.val, by omega⟩) fun x => h _).trans (congrArg _ ?_)
  unfold mean
  refine congrArg (· * (1 / 64 : ℝ)) (Finset.sum_congr rfl fun l _ => congrArg _ (Fin.ext ?_))
  show i.val / 64 * 64 + l.val = 64 * (i.val / 64) + l.val
  omega

/-- The reference's variance at a place. -/
theorem var_eq (a b : FVec Ideal S8192x2048 .f32) (h : RealSum a b) (p : Fin 8192) (i : Fin 2048) :
    Ideal.div (∑ x : Fin 64, ((a (ix2 p (⟨i.val / 64 * 64 + x.val, by omega⟩ : Fin 2048)) + b (ix2 p (⟨i.val / 64 * 64 + x.val, by omega⟩ : Fin 2048)) : EReal)
        - (mean (rowSum a b p) i : EReal))
      * ((a (ix2 p (⟨i.val / 64 * 64 + x.val, by omega⟩ : Fin 2048)) + b (ix2 p (⟨i.val / 64 * 64 + x.val, by omega⟩ : Fin 2048)) : EReal)
        - (mean (rowSum a b p) i : EReal)))
      (Ideal.ofBits .f32 0x42800000#32)
      = (mean (fun k => (rowSum a b p k - mean (rowSum a b p) k) * (rowSum a b p k - mean (rowSum a b p) k)) i : EReal) := by
  refine (quot _ (fun x => (rowSum a b p ⟨i.val / 64 * 64 + x.val, by omega⟩ - mean (rowSum a b p) i)
    * (rowSum a b p ⟨i.val / 64 * 64 + x.val, by omega⟩ - mean (rowSum a b p) i)) fun x => ?_).trans (congrArg _ ?_)
  · rw [h, ← EReal.coe_sub, ← EReal.coe_mul]
    rfl
  · conv_rhs => unfold mean
    refine congrArg (· * (1 / 64 : ℝ)) (Finset.sum_congr rfl fun l _ => ?_)
    have e : (⟨i.val / 64 * 64 + l.val, by omega⟩ : Fin 2048) = ⟨64 * (i.val / 64) + l.val, by omega⟩ := Fin.ext (by
      show i.val / 64 * 64 + l.val = 64 * (i.val / 64) + l.val
      omega)
    rw [e]
    have e2 := mean_head (rowSum a b p) ⟨64 * (i.val / 64) + l.val, by omega⟩ i (by
      show (64 * (i.val / 64) + l.val) / 64 = i.val / 64
      omega)
    rw [← e2]
    rfl

/-- The sum at a place is the row's. -/
theorem sum_eq (a b : FVec Ideal S8192x2048 .f32) (h : RealSum a b) (j : S8192x2048.Idx) :
    (a j + b j : EReal) = (rowSum a b (j 0) (j 1) : EReal) := by
  have hj : j = ix2 (j 0) (j 1) := funext fun a => by
    match a with
    | ⟨0, _⟩ => rfl
    | ⟨1, _⟩ => rfl
  exact (congrArg (fun i => (a i + b i : EReal)) hj).trans (h _)

/-- The kernel and the reference compute the same result where the directions are finite. -/
theorem value : Cert.algebraic_PostIdeal_PostReferenceIdeal_pre_finite := by
  intro m g m' g' hp hag
  have hfin : ∀ c : Dev nD, RealSum (m ((c.tc : Thread nD τ).loc main_arg0)) (m ((c.tc : Thread nD τ).loc main_arg1)) :=
    fun c => real_of_pre _ _ _ _ _ _ (hp c)
  refine ⟨fun c => (whole (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))), ?_, ?_⟩
  · exact (θ_run _ _ _).mono (fun r h c => ⟨(h c).1.trans (final m c (hfin c)), (h c).2⟩) (Value.run_blocks m g)
  · refine (θ_run _ _ _).mono (fun r h c => ⟨(h c).1.trans ?_, (h c).2⟩) (Cert.PostReferenceIdeal.Value.run (F := Ideal) m' g')
    rw [(hag c).1, (hag c).2.1, (hag c).2.2.1, (hag c).2.2.2.1, (hag c).2.2.2.2.1, (hag c).2.2.2.2.2]
    funext j
    have hs := sum_eq _ _ (hfin c) j
    have hm := mean_eq _ _ (hfin c) (j 0) (j 1)
    have hv := var_eq _ _ (hfin c) (j 0) (j 1)
    unfold whole row
    pointwise
    rw [hm, hv, hs, EReal.coe_sub]

/-- The reference runs to its end and leaves its arguments alone; it has no counters. -/
theorem reference_frame : Cert.quiescent_PostReferenceIdeal := fun m ρ _ =>
  (θ_run _ _ _).mono (fun r h => ⟨fun c => (h c).2, sem_eq_zero_of_no_sems (by decide) r.2⟩)
    (Cert.PostReferenceIdeal.Value.run (F := Ideal) m ρ)

/-- The same where the precondition holds. -/
theorem reference_frame_finite : Cert.quiescent_PostReferenceIdeal_pre_finite := fun m ρ _ => reference_frame m ρ trivial

end Cert.Proof.Post

end
-- ==== Proof.lean ====
/- The proof of the claims. The differential attention call: every program runs to its end with its arguments as they
   were and all counters at zero, and naming the cut-off constant is the only difference between the kernel and its
   idealization. The products of the feed-forward parts, the projections into and out of the mixers, the norms, the
   last step of the layer and the finish of the second mixer: the same, and over the reals each kernel's results are
   its reference's (for the finish: where its first two arguments are finite). -/
module

public import proofs.«01_k».proof.Defs
public import proofs.«01_k».proof.Proof.Frame
public import proofs.«01_k».proof.Proof.Bits.Frame
public import proofs.«01_k».proof.Proof.Gen.ReferenceIdeal
public import proofs.«01_k».proof.Proof.Gen.ReferenceIdeal.Run
public import proofs.«01_k».proof.Proof.Gen.Up.Frame
public import proofs.«01_k».proof.Proof.Gen.Down.Frame
public import proofs.«01_k».proof.Proof.Gen.Last.Frame
public import proofs.«01_k».proof.Proof.Gen.Proj.Frame
public import proofs.«01_k».proof.Proof.Gen.Qkv.Frame
public import proofs.«01_k».proof.Proof.Gen.Mix.Frame
public import proofs.«01_k».proof.Proof.Gen.Norm.Frame
public import proofs.«01_k».proof.Proof.Gen.Half.Frame
public import proofs.«01_k».proof.Proof.Gen.Full.Frame
public import proofs.«01_k».proof.Proof.Up
public import proofs.«01_k».proof.Proof.Down
public import proofs.«01_k».proof.Proof.Last
public import proofs.«01_k».proof.Proof.Proj
public import proofs.«01_k».proof.Proof.Qkv
public import proofs.«01_k».proof.Proof.Mix
public import proofs.«01_k».proof.Proof.Norm
public import proofs.«01_k».proof.Proof.Half
public import proofs.«01_k».proof.Proof.Full
public import proofs.«01_k».proof.Proof.Post
public import proofs.«01_k».proof.Proof.Gen.UpIdeal.Value
public import proofs.«01_k».proof.Proof.Gen.UpReferenceIdeal.Run
public import proofs.«01_k».proof.Proof.Gen.DownIdeal.Value
public import proofs.«01_k».proof.Proof.Gen.DownReferenceIdeal.Run
public import proofs.«01_k».proof.Proof.Gen.LastIdeal.Value
public import proofs.«01_k».proof.Proof.Gen.LastReferenceIdeal.Run
public import proofs.«01_k».proof.Proof.Gen.ProjIdeal.Value
public import proofs.«01_k».proof.Proof.Gen.ProjReferenceIdeal.Run
public import proofs.«01_k».proof.Proof.Gen.QkvIdeal.Value
public import proofs.«01_k».proof.Proof.Gen.QkvReferenceIdeal.Run
public import proofs.«01_k».proof.Proof.Gen.MixIdeal.Value
public import proofs.«01_k».proof.Proof.Gen.MixReferenceIdeal.Run
public import proofs.«01_k».proof.Proof.Gen.NormIdeal.Value
public import proofs.«01_k».proof.Proof.Gen.NormReferenceIdeal.Run
public import proofs.«01_k».proof.Proof.Gen.HalfIdeal.Value
public import proofs.«01_k».proof.Proof.Gen.HalfReferenceIdeal.Run
public import proofs.«01_k».proof.Proof.Gen.FullIdeal.Value
public import proofs.«01_k».proof.Proof.Gen.FullReferenceIdeal.Run
public import proofs.«01_k».proof.Proof.Gen.Post.Frame
public import proofs.«01_k».proof.Proof.Gen.PostIdeal.Value
public import proofs.«01_k».proof.Proof.Gen.PostReferenceIdeal.Run
public import Idealize.ShloMosaic.Lib.Quiescent
public import Idealize.ShloMosaic.Adequacy
public import Idealize.ShloMosaic.Init

@[expose] public section

noncomputable section

namespace Cert.Proof

open Idealize.ShloMosaic Idealize.SL.Sem

/-- The reference runs to its end and leaves its arguments alone; it has no counters. -/
theorem reference_frame : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)

/-- The one constant named in the idealized kernel has the value stated for its name. -/
theorem names : Cert.preserves_Kernel_KernelIdeal :=
  IdealRules.named_const.statement Cert.KernelIdeal.κ "underflow" .f32 0x43200000#32 ⊤ rfl

/-- All claims together. -/
theorem claim : Cert.Claim := ⟨Cert.Kernel.Gen.facts, Cert.KernelIdeal.Gen.facts, Cert.ReferenceIdeal.Gen.facts,
  Cert.Up.Gen.facts, Cert.UpIdeal.Gen.facts, Cert.UpReferenceIdeal.Gen.facts,
  Cert.Down.Gen.facts, Cert.DownIdeal.Gen.facts, Cert.DownReferenceIdeal.Gen.facts,
  Cert.Last.Gen.facts, Cert.LastIdeal.Gen.facts, Cert.LastReferenceIdeal.Gen.facts,
  Cert.Proj.Gen.facts, Cert.ProjIdeal.Gen.facts, Cert.ProjReferenceIdeal.Gen.facts,
  Cert.Qkv.Gen.facts, Cert.QkvIdeal.Gen.facts, Cert.QkvReferenceIdeal.Gen.facts,
  Cert.Mix.Gen.facts, Cert.MixIdeal.Gen.facts, Cert.MixReferenceIdeal.Gen.facts,
  Cert.Norm.Gen.facts, Cert.NormIdeal.Gen.facts, Cert.NormReferenceIdeal.Gen.facts,
  Cert.Half.Gen.facts, Cert.HalfIdeal.Gen.facts, Cert.HalfReferenceIdeal.Gen.facts,
  Cert.Full.Gen.facts, Cert.FullIdeal.Gen.facts, Cert.FullReferenceIdeal.Gen.facts,
  Cert.Post.Gen.facts, Cert.PostIdeal.Gen.facts, Cert.PostReferenceIdeal.Gen.facts, Post.pre_facts,
  fun m ρ _ => Cert.Kernel.Gen.frame m ρ, fun m ρ _ => Cert.KernelIdeal.Gen.frame m ρ, reference_frame,
  fun m ρ _ => Cert.Up.Gen.frame m ρ, fun m ρ _ => Cert.UpIdeal.Gen.frame m ρ, Up.reference_frame,
  fun m ρ _ => Cert.Down.Gen.frame m ρ, fun m ρ _ => Cert.DownIdeal.Gen.frame m ρ, Down.reference_frame,
  fun m ρ _ => Cert.Last.Gen.frame m ρ, fun m ρ _ => Cert.LastIdeal.Gen.frame m ρ, Last.reference_frame,
  fun m ρ _ => Cert.Proj.Gen.frame m ρ, fun m ρ _ => Cert.ProjIdeal.Gen.frame m ρ, Proj.reference_frame,
  fun m ρ _ => Cert.Qkv.Gen.frame m ρ, fun m ρ _ => Cert.QkvIdeal.Gen.frame m ρ, Qkv.reference_frame,
  fun m ρ _ => Cert.Mix.Gen.frame m ρ, fun m ρ _ => Cert.MixIdeal.Gen.frame m ρ, Mix.reference_frame,
  fun m ρ _ => Cert.Norm.Gen.frame m ρ, fun m ρ _ => Cert.NormIdeal.Gen.frame m ρ, Norm.reference_frame,
  fun m ρ _ => Cert.Half.Gen.frame m ρ, fun m ρ _ => Cert.HalfIdeal.Gen.frame m ρ, Half.reference_frame,
  fun m ρ _ => Cert.Full.Gen.frame m ρ, fun m ρ _ => Cert.FullIdeal.Gen.frame m ρ, Full.reference_frame,
  fun m ρ _ => Cert.Post.Gen.frame m ρ, fun m ρ _ => Cert.PostIdeal.Gen.frame m ρ, fun m ρ _ => Cert.PostIdeal.Gen.frame m ρ,
  Post.reference_frame, Post.reference_frame_finite,
  names, trivial, Up.value, trivial, Down.value, trivial, Last.value,
  trivial, Proj.value, trivial, Qkv.value, trivial, Mix.value, trivial, Norm.value, trivial, Half.value, trivial, Full.value,
  trivial, Post.value⟩

end Cert.Proof

end
